-- ==== Defs.lean ====
def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatIdeal_latent_finite [hPre_latent_finite : Cert.Pre_latent_finite.Facts] (m : (ℓ : Loc Cert.LatIdeal.nD Cert.LatIdeal.τ Cert.LatIdeal.sig) → Buf (Elt Ideal) ℓ) : Prop :=
  ∀ c : Dev Cert.LatIdeal.nD,
    (Cert.Pre_latent_finite.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4))).1 = (fun _ => 1#1)
    ∧ (Cert.Pre_latent_finite.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4))).2.1 = (fun _ => 1#1)
    ∧ (Cert.Pre_latent_finite.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4))).2.2 = (fun _ => 1#1)

def Pre_LatRefIdeal (m : (ℓ : Loc Cert.LatRefIdeal.nD Cert.LatRefIdeal.τ Cert.LatRefIdeal.sig) → Buf (Elt Ideal) ℓ) : Prop :=
  True

def Pre_LatRefIdeal_latent_finite [hPre_latent_finite : Cert.Pre_latent_finite.Facts] (m : (ℓ : Loc Cert.LatRefIdeal.nD Cert.LatRefIdeal.τ Cert.LatRefIdeal.sig) → Buf (Elt Ideal) ℓ) : Prop :=
  ∀ c : Dev Cert.LatRefIdeal.nD,
    (Cert.Pre_latent_finite.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4))).1 = (fun _ => 1#1)
    ∧ (Cert.Pre_latent_finite.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4))).2.1 = (fun _ => 1#1)
    ∧ (Cert.Pre_latent_finite.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4))).2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_DnIn (m : (ℓ : Loc Cert.DnIn.nD Cert.DnIn.τ Cert.DnIn.sig) → Buf (Elt Bits) ℓ) : Prop :=
  True

def Pre_DnInIdeal (m : (ℓ : Loc Cert.DnInIdeal.nD Cert.DnInIdeal.τ Cert.DnInIdeal.sig) → Buf (Elt Ideal) ℓ) : Prop :=
  True

def Pre_DnInRefIdeal (m : (ℓ : Loc Cert.DnInRefIdeal.nD Cert.DnInRefIdeal.τ Cert.DnInRefIdeal.sig) → Buf (Elt Ideal) ℓ) : Prop :=
  True

def Pre_DnAb (m : (ℓ : Loc Cert.DnAb.nD Cert.DnAb.τ Cert.DnAb.sig) → Buf (Elt Bits) ℓ) : Prop :=
  True

def Pre_DnAbIdeal (m : (ℓ : Loc Cert.DnAbIdeal.nD Cert.DnAbIdeal.τ Cert.DnAbIdeal.sig) → Buf (Elt Ideal) ℓ) : Prop :=
  True

def Pre_DnAbRefIdeal (m : (ℓ : Loc Cert.DnAbRefIdeal.nD Cert.DnAbRefIdeal.τ Cert.DnAbRefIdeal.sig) → Buf (Elt Ideal) ℓ) : Prop :=
  True

def Pre_Pw1 (m : (ℓ : Loc Cert.Pw1.nD Cert.Pw1.τ Cert.Pw1.sig) → Buf (Elt Bits) ℓ) : Prop :=
  True

def Pre_Pw1Ideal (m : (ℓ : Loc Cert.Pw1Ideal.nD Cert.Pw1Ideal.τ Cert.Pw1Ideal.sig) → Buf (Elt Ideal) ℓ) : Prop :=
  True

def Pre_Pw1RefIdeal (m : (ℓ : Loc Cert.Pw1RefIdeal.nD Cert.Pw1RefIdeal.τ Cert.Pw1RefIdeal.sig) → Buf (Elt Ideal) ℓ) : Prop :=
  True

def Pre_Pw2 (m : (ℓ : Loc Cert.Pw2.nD Cert.Pw2.τ Cert.Pw2.sig) → Buf (Elt Bits) ℓ) : Prop :=
  True

def Pre_Pw2Ideal (m : (ℓ : Loc Cert.Pw2Ideal.nD Cert.Pw2Ideal.τ Cert.Pw2Ideal.sig) → Buf (Elt Ideal) ℓ) : Prop :=
  True

def Pre_Pw2RefIdeal (m : (ℓ : Loc Cert.Pw2RefIdeal.nD Cert.Pw2RefIdeal.τ Cert.Pw2RefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_DnOut (m : (ℓ : Loc Cert.DnOut.nD Cert.DnOut.τ Cert.DnOut.sig) → Buf (Elt Bits) ℓ) : Prop :=
  True

def Pre_DnOutIdeal (m : (ℓ : Loc Cert.DnOutIdeal.nD Cert.DnOutIdeal.τ Cert.DnOutIdeal.sig) → Buf (Elt Ideal) ℓ) : Prop :=
  True

def Pre_DnOutRefIdeal (m : (ℓ : Loc Cert.DnOutRefIdeal.nD Cert.DnOutRefIdeal.τ Cert.DnOutRefIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinRefIdeal (m : (ℓ : Loc Cert.FinRefIdeal.nD Cert.FinRefIdeal.τ Cert.FinRefIdeal.sig) → Buf (Elt Ideal) ℓ) : Prop :=
  True

def Pre_FinS (m : (ℓ : Loc Cert.FinS.nD Cert.FinS.τ Cert.FinS.sig) → Buf (Elt Bits) ℓ) : Prop :=
  True

def Pre_FinSIdeal (m : (ℓ : Loc Cert.FinSIdeal.nD Cert.FinSIdeal.τ Cert.FinSIdeal.sig) → Buf (Elt Ideal) ℓ) : Prop :=
  True

def Pre_FinSRefIdeal (m : (ℓ : Loc Cert.FinSRefIdeal.nD Cert.FinSRefIdeal.τ Cert.FinSRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterRefIdeal (m : (ℓ : Loc Cert.RouterRefIdeal.nD Cert.RouterRefIdeal.τ Cert.RouterRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_DnNorm (m : (ℓ : Loc Cert.DnNorm.nD Cert.DnNorm.τ Cert.DnNorm.sig) → Buf (Elt Bits) ℓ) : Prop :=
  True

def Pre_DnNormIdeal (m : (ℓ : Loc Cert.DnNormIdeal.nD Cert.DnNormIdeal.τ Cert.DnNormIdeal.sig) → Buf (Elt Ideal) ℓ) : Prop :=
  True

def Pre_DnNormRefIdeal (m : (ℓ : Loc Cert.DnNormRefIdeal.nD Cert.DnNormRefIdeal.τ Cert.DnNormRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def Pre_DnConv (m : (ℓ : Loc Cert.DnConv.nD Cert.DnConv.τ Cert.DnConv.sig) → Buf (Elt Bits) ℓ) : Prop :=
  True

def Pre_DnConvIdeal (m : (ℓ : Loc Cert.DnConvIdeal.nD Cert.DnConvIdeal.τ Cert.DnConvIdeal.sig) → Buf (Elt Ideal) ℓ) : Prop :=
  True

def Pre_DnConvRefIdeal (m : (ℓ : Loc Cert.DnConvRefIdeal.nD Cert.DnConvRefIdeal.τ Cert.DnConvRefIdeal.sig) → Buf (Elt Ideal) ℓ) : Prop :=
  True

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1)
      ∧ r.2.mem ((c.tc : Thread Cert.Lat.nD Cert.Lat.τ).loc Cert.Lat.main_arg2) = m ((c.tc : Thread Cert.Lat.nD Cert.Lat.τ).loc Cert.Lat.main_arg2)
      ∧ r.2.mem ((c.tc : Thread Cert.Lat.nD Cert.Lat.τ).loc Cert.Lat.main_arg3) = m ((c.tc : Thread Cert.Lat.nD Cert.Lat.τ).loc Cert.Lat.main_arg3)
      ∧ r.2.mem ((c.tc : Thread Cert.Lat.nD Cert.Lat.τ).loc Cert.Lat.main_arg4) = m ((c.tc : Thread Cert.Lat.nD Cert.Lat.τ).loc Cert.Lat.main_arg4))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ r.2.sem = fun _ => 0)

def quiescent_LatIdeal_pre_latent_finite [hLatIdeal : Cert.LatIdeal.Facts] [hPre_latent_finite : Cert.Pre_latent_finite.Facts] : Prop :=
  ∀ (m : (ℓ : Loc Cert.LatIdeal.nD Cert.LatIdeal.τ Cert.LatIdeal.sig) → Buf (Elt Ideal) ℓ) (g : Dev Cert.LatIdeal.nD → PrngReg), Pre_LatIdeal_latent_finite m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4))
      ∧ r.2.sem = fun _ => 0)

def quiescent_LatRefIdeal_pre_latent_finite [hLatRefIdeal : Cert.LatRefIdeal.Facts] [hPre_latent_finite : Cert.Pre_latent_finite.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal_latent_finite m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_DnIn [hDnIn : Cert.DnIn.Facts] : Prop :=
  ∀ (m : (ℓ : Loc Cert.DnIn.nD Cert.DnIn.τ Cert.DnIn.sig) → Buf (Elt Bits) ℓ) (g : Dev Cert.DnIn.nD → PrngReg), Pre_DnIn m →
    θ_run (Cert.DnIn.defs (F := Bits)) (onTc (τ := Cert.DnIn.τ) (Cert.DnIn.main (F := Bits))) ⟨m, fun _ => 0, g⟩ (fun r => (∀ c : Dev Cert.DnIn.nD,
      r.2.mem ((c.tc : Thread Cert.DnIn.nD Cert.DnIn.τ).loc Cert.DnIn.main_arg0) = m ((c.tc : Thread Cert.DnIn.nD Cert.DnIn.τ).loc Cert.DnIn.main_arg0)
      ∧ r.2.mem ((c.tc : Thread Cert.DnIn.nD Cert.DnIn.τ).loc Cert.DnIn.main_arg1) = m ((c.tc : Thread Cert.DnIn.nD Cert.DnIn.τ).loc Cert.DnIn.main_arg1))
      ∧ r.2.sem = fun _ => 0)

def quiescent_DnInIdeal [hDnInIdeal : Cert.DnInIdeal.Facts] : Prop :=
  ∀ (m : (ℓ : Loc Cert.DnInIdeal.nD Cert.DnInIdeal.τ Cert.DnInIdeal.sig) → Buf (Elt Ideal) ℓ) (g : Dev Cert.DnInIdeal.nD → PrngReg), Pre_DnInIdeal m →
    θ_run (Cert.DnInIdeal.defs (F := Ideal)) (onTc (τ := Cert.DnInIdeal.τ) (Cert.DnInIdeal.main (F := Ideal))) ⟨m, fun _ => 0, g⟩ (fun r => (∀ c : Dev Cert.DnInIdeal.nD,
      r.2.mem ((c.tc : Thread Cert.DnInIdeal.nD Cert.DnInIdeal.τ).loc Cert.DnInIdeal.main_arg0) = m ((c.tc : Thread Cert.DnInIdeal.nD Cert.DnInIdeal.τ).loc Cert.DnInIdeal.main_arg0)
      ∧ r.2.mem ((c.tc : Thread Cert.DnInIdeal.nD Cert.DnInIdeal.τ).loc Cert.DnInIdeal.main_arg1) = m ((c.tc : Thread Cert.DnInIdeal.nD Cert.DnInIdeal.τ).loc Cert.DnInIdeal.main_arg1))
      ∧ r.2.sem = fun _ => 0)

def quiescent_DnInRefIdeal [hDnInRefIdeal : Cert.DnInRefIdeal.Facts] : Prop :=
  ∀ (m : (ℓ : Loc Cert.DnInRefIdeal.nD Cert.DnInRefIdeal.τ Cert.DnInRefIdeal.sig) → Buf (Elt Ideal) ℓ) (g : Dev Cert.DnInRefIdeal.nD → PrngReg), Pre_DnInRefIdeal m →
    θ_run (Cert.DnInRefIdeal.defs (F := Ideal)) (onTc (τ := Cert.DnInRefIdeal.τ) (Cert.DnInRefIdeal.main (F := Ideal))) ⟨m, fun _ => 0, g⟩ (fun r => (∀ c : Dev Cert.DnInRefIdeal.nD,
      r.2.mem ((c.tc : Thread Cert.DnInRefIdeal.nD Cert.DnInRefIdeal.τ).loc Cert.DnInRefIdeal.main_arg0) = m ((c.tc : Thread Cert.DnInRefIdeal.nD Cert.DnInRefIdeal.τ).loc Cert.DnInRefIdeal.main_arg0)
      ∧ r.2.mem ((c.tc : Thread Cert.DnInRefIdeal.nD Cert.DnInRefIdeal.τ).loc Cert.DnInRefIdeal.main_arg1) = m ((c.tc : Thread Cert.DnInRefIdeal.nD Cert.DnInRefIdeal.τ).loc Cert.DnInRefIdeal.main_arg1))
      ∧ r.2.sem = fun _ => 0)

def quiescent_DnAb [hDnAb : Cert.DnAb.Facts] : Prop :=
  ∀ (m : (ℓ : Loc Cert.DnAb.nD Cert.DnAb.τ Cert.DnAb.sig) → Buf (Elt Bits) ℓ) (g : Dev Cert.DnAb.nD → PrngReg), Pre_DnAb m →
    θ_run (Cert.DnAb.defs (F := Bits)) (onTc (τ := Cert.DnAb.τ) (Cert.DnAb.main (F := Bits))) ⟨m, fun _ => 0, g⟩ (fun r => (∀ c : Dev Cert.DnAb.nD,
      r.2.mem ((c.tc : Thread Cert.DnAb.nD Cert.DnAb.τ).loc Cert.DnAb.main_arg0) = m ((c.tc : Thread Cert.DnAb.nD Cert.DnAb.τ).loc Cert.DnAb.main_arg0)
      ∧ r.2.mem ((c.tc : Thread Cert.DnAb.nD Cert.DnAb.τ).loc Cert.DnAb.main_arg1) = m ((c.tc : Thread Cert.DnAb.nD Cert.DnAb.τ).loc Cert.DnAb.main_arg1))
      ∧ r.2.sem = fun _ => 0)

def quiescent_DnAbIdeal [hDnAbIdeal : Cert.DnAbIdeal.Facts] : Prop :=
  ∀ (m : (ℓ : Loc Cert.DnAbIdeal.nD Cert.DnAbIdeal.τ Cert.DnAbIdeal.sig) → Buf (Elt Ideal) ℓ) (g : Dev Cert.DnAbIdeal.nD → PrngReg), Pre_DnAbIdeal m →
    θ_run (Cert.DnAbIdeal.defs (F := Ideal)) (onTc (τ := Cert.DnAbIdeal.τ) (Cert.DnAbIdeal.main (F := Ideal))) ⟨m, fun _ => 0, g⟩ (fun r => (∀ c : Dev Cert.DnAbIdeal.nD,
      r.2.mem ((c.tc : Thread Cert.DnAbIdeal.nD Cert.DnAbIdeal.τ).loc Cert.DnAbIdeal.main_arg0) = m ((c.tc : Thread Cert.DnAbIdeal.nD Cert.DnAbIdeal.τ).loc Cert.DnAbIdeal.main_arg0)
      ∧ r.2.mem ((c.tc : Thread Cert.DnAbIdeal.nD Cert.DnAbIdeal.τ).loc Cert.DnAbIdeal.main_arg1) = m ((c.tc : Thread Cert.DnAbIdeal.nD Cert.DnAbIdeal.τ).loc Cert.DnAbIdeal.main_arg1))
      ∧ r.2.sem = fun _ => 0)

def quiescent_DnAbRefIdeal [hDnAbRefIdeal : Cert.DnAbRefIdeal.Facts] : Prop :=
  ∀ (m : (ℓ : Loc Cert.DnAbRefIdeal.nD Cert.DnAbRefIdeal.τ Cert.DnAbRefIdeal.sig) → Buf (Elt Ideal) ℓ) (g : Dev Cert.DnAbRefIdeal.nD → PrngReg), Pre_DnAbRefIdeal m →
    θ_run (Cert.DnAbRefIdeal.defs (F := Ideal)) (onTc (τ := Cert.DnAbRefIdeal.τ) (Cert.DnAbRefIdeal.main (F := Ideal))) ⟨m, fun _ => 0, g⟩ (fun r => (∀ c : Dev Cert.DnAbRefIdeal.nD,
      r.2.mem ((c.tc : Thread Cert.DnAbRefIdeal.nD Cert.DnAbRefIdeal.τ).loc Cert.DnAbRefIdeal.main_arg0) = m ((c.tc : Thread Cert.DnAbRefIdeal.nD Cert.DnAbRefIdeal.τ).loc Cert.DnAbRefIdeal.main_arg0)
      ∧ r.2.mem ((c.tc : Thread Cert.DnAbRefIdeal.nD Cert.DnAbRefIdeal.τ).loc Cert.DnAbRefIdeal.main_arg1) = m ((c.tc : Thread Cert.DnAbRefIdeal.nD Cert.DnAbRefIdeal.τ).loc Cert.DnAbRefIdeal.main_arg1))
      ∧ r.2.sem = fun _ => 0)

def quiescent_Pw1 [hPw1 : Cert.Pw1.Facts] : Prop :=
  ∀ (m : (ℓ : Loc Cert.Pw1.nD Cert.Pw1.τ Cert.Pw1.sig) → Buf (Elt Bits) ℓ) (g : Dev Cert.Pw1.nD → PrngReg), Pre_Pw1 m →
    θ_run (Cert.Pw1.defs (F := Bits)) (onTc (τ := Cert.Pw1.τ) (Cert.Pw1.main (F := Bits))) ⟨m, fun _ => 0, g⟩ (fun r => (∀ c : Dev Cert.Pw1.nD,
      r.2.mem ((c.tc : Thread Cert.Pw1.nD Cert.Pw1.τ).loc Cert.Pw1.main_arg0) = m ((c.tc : Thread Cert.Pw1.nD Cert.Pw1.τ).loc Cert.Pw1.main_arg0)
      ∧ r.2.mem ((c.tc : Thread Cert.Pw1.nD Cert.Pw1.τ).loc Cert.Pw1.main_arg1) = m ((c.tc : Thread Cert.Pw1.nD Cert.Pw1.τ).loc Cert.Pw1.main_arg1)
      ∧ r.2.mem ((c.tc : Thread Cert.Pw1.nD Cert.Pw1.τ).loc Cert.Pw1.main_arg2) = m ((c.tc : Thread Cert.Pw1.nD Cert.Pw1.τ).loc Cert.Pw1.main_arg2))
      ∧ r.2.sem = fun _ => 0)

def quiescent_Pw1Ideal [hPw1Ideal : Cert.Pw1Ideal.Facts] : Prop :=
  ∀ (m : (ℓ : Loc Cert.Pw1Ideal.nD Cert.Pw1Ideal.τ Cert.Pw1Ideal.sig) → Buf (Elt Ideal) ℓ) (g : Dev Cert.Pw1Ideal.nD → PrngReg), Pre_Pw1Ideal m →
    θ_run (Cert.Pw1Ideal.defs (F := Ideal)) (onTc (τ := Cert.Pw1Ideal.τ) (Cert.Pw1Ideal.main (F := Ideal))) ⟨m, fun _ => 0, g⟩ (fun r => (∀ c : Dev Cert.Pw1Ideal.nD,
      r.2.mem ((c.tc : Thread Cert.Pw1Ideal.nD Cert.Pw1Ideal.τ).loc Cert.Pw1Ideal.main_arg0) = m ((c.tc : Thread Cert.Pw1Ideal.nD Cert.Pw1Ideal.τ).loc Cert.Pw1Ideal.main_arg0)
      ∧ r.2.mem ((c.tc : Thread Cert.Pw1Ideal.nD Cert.Pw1Ideal.τ).loc Cert.Pw1Ideal.main_arg1) = m ((c.tc : Thread Cert.Pw1Ideal.nD Cert.Pw1Ideal.τ).loc Cert.Pw1Ideal.main_arg1)
      ∧ r.2.mem ((c.tc : Thread Cert.Pw1Ideal.nD Cert.Pw1Ideal.τ).loc Cert.Pw1Ideal.main_arg2) = m ((c.tc : Thread Cert.Pw1Ideal.nD Cert.Pw1Ideal.τ).loc Cert.Pw1Ideal.main_arg2))
      ∧ r.2.sem = fun _ => 0)

def quiescent_Pw1RefIdeal [hPw1RefIdeal : Cert.Pw1RefIdeal.Facts] : Prop :=
  ∀ (m : (ℓ : Loc Cert.Pw1RefIdeal.nD Cert.Pw1RefIdeal.τ Cert.Pw1RefIdeal.sig) → Buf (Elt Ideal) ℓ) (g : Dev Cert.Pw1RefIdeal.nD → PrngReg), Pre_Pw1RefIdeal m →
    θ_run (Cert.Pw1RefIdeal.defs (F := Ideal)) (onTc (τ := Cert.Pw1RefIdeal.τ) (Cert.Pw1RefIdeal.main (F := Ideal))) ⟨m, fun _ => 0, g⟩ (fun r => (∀ c : Dev Cert.Pw1RefIdeal.nD,
      r.2.mem ((c.tc : Thread Cert.Pw1RefIdeal.nD Cert.Pw1RefIdeal.τ).loc Cert.Pw1RefIdeal.main_arg0) = m ((c.tc : Thread Cert.Pw1RefIdeal.nD Cert.Pw1RefIdeal.τ).loc Cert.Pw1RefIdeal.main_arg0)
      ∧ r.2.mem ((c.tc : Thread Cert.Pw1RefIdeal.nD Cert.Pw1RefIdeal.τ).loc Cert.Pw1RefIdeal.main_arg1) = m ((c.tc : Thread Cert.Pw1RefIdeal.nD Cert.Pw1RefIdeal.τ).loc Cert.Pw1RefIdeal.main_arg1)
      ∧ r.2.mem ((c.tc : Thread Cert.Pw1RefIdeal.nD Cert.Pw1RefIdeal.τ).loc Cert.Pw1RefIdeal.main_arg2) = m ((c.tc : Thread Cert.Pw1RefIdeal.nD Cert.Pw1RefIdeal.τ).loc Cert.Pw1RefIdeal.main_arg2))
      ∧ r.2.sem = fun _ => 0)

def quiescent_Pw2 [hPw2 : Cert.Pw2.Facts] : Prop :=
  ∀ (m : (ℓ : Loc Cert.Pw2.nD Cert.Pw2.τ Cert.Pw2.sig) → Buf (Elt Bits) ℓ) (g : Dev Cert.Pw2.nD → PrngReg), Pre_Pw2 m →
    θ_run (Cert.Pw2.defs (F := Bits)) (onTc (τ := Cert.Pw2.τ) (Cert.Pw2.main (F := Bits))) ⟨m, fun _ => 0, g⟩ (fun r => (∀ c : Dev Cert.Pw2.nD,
      r.2.mem ((c.tc : Thread Cert.Pw2.nD Cert.Pw2.τ).loc Cert.Pw2.main_arg0) = m ((c.tc : Thread Cert.Pw2.nD Cert.Pw2.τ).loc Cert.Pw2.main_arg0)
      ∧ r.2.mem ((c.tc : Thread Cert.Pw2.nD Cert.Pw2.τ).loc Cert.Pw2.main_arg1) = m ((c.tc : Thread Cert.Pw2.nD Cert.Pw2.τ).loc Cert.Pw2.main_arg1)
      ∧ r.2.mem ((c.tc : Thread Cert.Pw2.nD Cert.Pw2.τ).loc Cert.Pw2.main_arg2) = m ((c.tc : Thread Cert.Pw2.nD Cert.Pw2.τ).loc Cert.Pw2.main_arg2)
      ∧ r.2.mem ((c.tc : Thread Cert.Pw2.nD Cert.Pw2.τ).loc Cert.Pw2.main_arg3) = m ((c.tc : Thread Cert.Pw2.nD Cert.Pw2.τ).loc Cert.Pw2.main_arg3)
      ∧ r.2.mem ((c.tc : Thread Cert.Pw2.nD Cert.Pw2.τ).loc Cert.Pw2.main_arg4) = m ((c.tc : Thread Cert.Pw2.nD Cert.Pw2.τ).loc Cert.Pw2.main_arg4))
      ∧ r.2.sem = fun _ => 0)

def quiescent_Pw2Ideal [hPw2Ideal : Cert.Pw2Ideal.Facts] : Prop :=
  ∀ (m : (ℓ : Loc Cert.Pw2Ideal.nD Cert.Pw2Ideal.τ Cert.Pw2Ideal.sig) → Buf (Elt Ideal) ℓ) (g : Dev Cert.Pw2Ideal.nD → PrngReg), Pre_Pw2Ideal m →
    θ_run (Cert.Pw2Ideal.defs (F := Ideal)) (onTc (τ := Cert.Pw2Ideal.τ) (Cert.Pw2Ideal.main (F := Ideal))) ⟨m, fun _ => 0, g⟩ (fun r => (∀ c : Dev Cert.Pw2Ideal.nD,
      r.2.mem ((c.tc : Thread Cert.Pw2Ideal.nD Cert.Pw2Ideal.τ).loc Cert.Pw2Ideal.main_arg0) = m ((c.tc : Thread Cert.Pw2Ideal.nD Cert.Pw2Ideal.τ).loc Cert.Pw2Ideal.main_arg0)
      ∧ r.2.mem ((c.tc : Thread Cert.Pw2Ideal.nD Cert.Pw2Ideal.τ).loc Cert.Pw2Ideal.main_arg1) = m ((c.tc : Thread Cert.Pw2Ideal.nD Cert.Pw2Ideal.τ).loc Cert.Pw2Ideal.main_arg1)
      ∧ r.2.mem ((c.tc : Thread Cert.Pw2Ideal.nD Cert.Pw2Ideal.τ).loc Cert.Pw2Ideal.main_arg2) = m ((c.tc : Thread Cert.Pw2Ideal.nD Cert.Pw2Ideal.τ).loc Cert.Pw2Ideal.main_arg2)
      ∧ r.2.mem ((c.tc : Thread Cert.Pw2Ideal.nD Cert.Pw2Ideal.τ).loc Cert.Pw2Ideal.main_arg3) = m ((c.tc : Thread Cert.Pw2Ideal.nD Cert.Pw2Ideal.τ).loc Cert.Pw2Ideal.main_arg3)
      ∧ r.2.mem ((c.tc : Thread Cert.Pw2Ideal.nD Cert.Pw2Ideal.τ).loc Cert.Pw2Ideal.main_arg4) = m ((c.tc : Thread Cert.Pw2Ideal.nD Cert.Pw2Ideal.τ).loc Cert.Pw2Ideal.main_arg4))
      ∧ r.2.sem = fun _ => 0)

def quiescent_Pw2RefIdeal [hPw2RefIdeal : Cert.Pw2RefIdeal.Facts] : Prop :=
  ∀ (m : (ℓ : Loc Cert.Pw2RefIdeal.nD Cert.Pw2RefIdeal.τ Cert.Pw2RefIdeal.sig) → Buf (Elt Ideal) ℓ) (g : Dev Cert.Pw2RefIdeal.nD → PrngReg), Pre_Pw2RefIdeal m →
    θ_run (Cert.Pw2RefIdeal.defs (F := Ideal)) (onTc (τ := Cert.Pw2RefIdeal.τ) (Cert.Pw2RefIdeal.main (F := Ideal))) ⟨m, fun _ => 0, g⟩ (fun r => (∀ c : Dev Cert.Pw2RefIdeal.nD,
      r.2.mem ((c.tc : Thread Cert.Pw2RefIdeal.nD Cert.Pw2RefIdeal.τ).loc Cert.Pw2RefIdeal.main_arg0) = m ((c.tc : Thread Cert.Pw2RefIdeal.nD Cert.Pw2RefIdeal.τ).loc Cert.Pw2RefIdeal.main_arg0)
      ∧ r.2.mem ((c.tc : Thread Cert.Pw2RefIdeal.nD Cert.Pw2RefIdeal.τ).loc Cert.Pw2RefIdeal.main_arg1) = m ((c.tc : Thread Cert.Pw2RefIdeal.nD Cert.Pw2RefIdeal.τ).loc Cert.Pw2RefIdeal.main_arg1)
      ∧ r.2.mem ((c.tc : Thread Cert.Pw2RefIdeal.nD Cert.Pw2RefIdeal.τ).loc Cert.Pw2RefIdeal.main_arg2) = m ((c.tc : Thread Cert.Pw2RefIdeal.nD Cert.Pw2RefIdeal.τ).loc Cert.Pw2RefIdeal.main_arg2)
      ∧ r.2.mem ((c.tc : Thread Cert.Pw2RefIdeal.nD Cert.Pw2RefIdeal.τ).loc Cert.Pw2RefIdeal.main_arg3) = m ((c.tc : Thread Cert.Pw2RefIdeal.nD Cert.Pw2RefIdeal.τ).loc Cert.Pw2RefIdeal.main_arg3)
      ∧ r.2.mem ((c.tc : Thread Cert.Pw2RefIdeal.nD Cert.Pw2RefIdeal.τ).loc Cert.Pw2RefIdeal.main_arg4) = m ((c.tc : Thread Cert.Pw2RefIdeal.nD Cert.Pw2RefIdeal.τ).loc Cert.Pw2RefIdeal.main_arg4))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3))
      ∧ r.2.sem = fun _ => 0)

def quiescent_DnOut [hDnOut : Cert.DnOut.Facts] : Prop :=
  ∀ (m : (ℓ : Loc Cert.DnOut.nD Cert.DnOut.τ Cert.DnOut.sig) → Buf (Elt Bits) ℓ) (g : Dev Cert.DnOut.nD → PrngReg), Pre_DnOut m →
    θ_run (Cert.DnOut.defs (F := Bits)) (onTc (τ := Cert.DnOut.τ) (Cert.DnOut.main (F := Bits))) ⟨m, fun _ => 0, g⟩ (fun r => (∀ c : Dev Cert.DnOut.nD,
      r.2.mem ((c.tc : Thread Cert.DnOut.nD Cert.DnOut.τ).loc Cert.DnOut.main_arg0) = m ((c.tc : Thread Cert.DnOut.nD Cert.DnOut.τ).loc Cert.DnOut.main_arg0)
      ∧ r.2.mem ((c.tc : Thread Cert.DnOut.nD Cert.DnOut.τ).loc Cert.DnOut.main_arg1) = m ((c.tc : Thread Cert.DnOut.nD Cert.DnOut.τ).loc Cert.DnOut.main_arg1)
      ∧ r.2.mem ((c.tc : Thread Cert.DnOut.nD Cert.DnOut.τ).loc Cert.DnOut.main_arg2) = m ((c.tc : Thread Cert.DnOut.nD Cert.DnOut.τ).loc Cert.DnOut.main_arg2)
      ∧ r.2.mem ((c.tc : Thread Cert.DnOut.nD Cert.DnOut.τ).loc Cert.DnOut.main_arg3) = m ((c.tc : Thread Cert.DnOut.nD Cert.DnOut.τ).loc Cert.DnOut.main_arg3))
      ∧ r.2.sem = fun _ => 0)

def quiescent_DnOutIdeal [hDnOutIdeal : Cert.DnOutIdeal.Facts] : Prop :=
  ∀ (m : (ℓ : Loc Cert.DnOutIdeal.nD Cert.DnOutIdeal.τ Cert.DnOutIdeal.sig) → Buf (Elt Ideal) ℓ) (g : Dev Cert.DnOutIdeal.nD → PrngReg), Pre_DnOutIdeal m →
    θ_run (Cert.DnOutIdeal.defs (F := Ideal)) (onTc (τ := Cert.DnOutIdeal.τ) (Cert.DnOutIdeal.main (F := Ideal))) ⟨m, fun _ => 0, g⟩ (fun r => (∀ c : Dev Cert.DnOutIdeal.nD,
      r.2.mem ((c.tc : Thread Cert.DnOutIdeal.nD Cert.DnOutIdeal.τ).loc Cert.DnOutIdeal.main_arg0) = m ((c.tc : Thread Cert.DnOutIdeal.nD Cert.DnOutIdeal.τ).loc Cert.DnOutIdeal.main_arg0)
      ∧ r.2.mem ((c.tc : Thread Cert.DnOutIdeal.nD Cert.DnOutIdeal.τ).loc Cert.DnOutIdeal.main_arg1) = m ((c.tc : Thread Cert.DnOutIdeal.nD Cert.DnOutIdeal.τ).loc Cert.DnOutIdeal.main_arg1)
      ∧ r.2.mem ((c.tc : Thread Cert.DnOutIdeal.nD Cert.DnOutIdeal.τ).loc Cert.DnOutIdeal.main_arg2) = m ((c.tc : Thread Cert.DnOutIdeal.nD Cert.DnOutIdeal.τ).loc Cert.DnOutIdeal.main_arg2)
      ∧ r.2.mem ((c.tc : Thread Cert.DnOutIdeal.nD Cert.DnOutIdeal.τ).loc Cert.DnOutIdeal.main_arg3) = m ((c.tc : Thread Cert.DnOutIdeal.nD Cert.DnOutIdeal.τ).loc Cert.DnOutIdeal.main_arg3))
      ∧ r.2.sem = fun _ => 0)

def quiescent_DnOutRefIdeal [hDnOutRefIdeal : Cert.DnOutRefIdeal.Facts] : Prop :=
  ∀ (m : (ℓ : Loc Cert.DnOutRefIdeal.nD Cert.DnOutRefIdeal.τ Cert.DnOutRefIdeal.sig) → Buf (Elt Ideal) ℓ) (g : Dev Cert.DnOutRefIdeal.nD → PrngReg), Pre_DnOutRefIdeal m →
    θ_run (Cert.DnOutRefIdeal.defs (F := Ideal)) (onTc (τ := Cert.DnOutRefIdeal.τ) (Cert.DnOutRefIdeal.main (F := Ideal))) ⟨m, fun _ => 0, g⟩ (fun r => (∀ c : Dev Cert.DnOutRefIdeal.nD,
      r.2.mem ((c.tc : Thread Cert.DnOutRefIdeal.nD Cert.DnOutRefIdeal.τ).loc Cert.DnOutRefIdeal.main_arg0) = m ((c.tc : Thread Cert.DnOutRefIdeal.nD Cert.DnOutRefIdeal.τ).loc Cert.DnOutRefIdeal.main_arg0)
      ∧ r.2.mem ((c.tc : Thread Cert.DnOutRefIdeal.nD Cert.DnOutRefIdeal.τ).loc Cert.DnOutRefIdeal.main_arg1) = m ((c.tc : Thread Cert.DnOutRefIdeal.nD Cert.DnOutRefIdeal.τ).loc Cert.DnOutRefIdeal.main_arg1)
      ∧ r.2.mem ((c.tc : Thread Cert.DnOutRefIdeal.nD Cert.DnOutRefIdeal.τ).loc Cert.DnOutRefIdeal.main_arg2) = m ((c.tc : Thread Cert.DnOutRefIdeal.nD Cert.DnOutRefIdeal.τ).loc Cert.DnOutRefIdeal.main_arg2)
      ∧ r.2.mem ((c.tc : Thread Cert.DnOutRefIdeal.nD Cert.DnOutRefIdeal.τ).loc Cert.DnOutRefIdeal.main_arg3) = m ((c.tc : Thread Cert.DnOutRefIdeal.nD Cert.DnOutRefIdeal.τ).loc Cert.DnOutRefIdeal.main_arg3))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1))
      ∧ r.2.sem = fun _ => 0)

def quiescent_FinS [hFinS : Cert.FinS.Facts] : Prop :=
  ∀ (m : (ℓ : Loc Cert.FinS.nD Cert.FinS.τ Cert.FinS.sig) → Buf (Elt Bits) ℓ) (g : Dev Cert.FinS.nD → PrngReg), Pre_FinS m →
    θ_run (Cert.FinS.defs (F := Bits)) (onTc (τ := Cert.FinS.τ) (Cert.FinS.main (F := Bits))) ⟨m, fun _ => 0, g⟩ (fun r => (∀ c : Dev Cert.FinS.nD,
      r.2.mem ((c.tc : Thread Cert.FinS.nD Cert.FinS.τ).loc Cert.FinS.main_arg0) = m ((c.tc : Thread Cert.FinS.nD Cert.FinS.τ).loc Cert.FinS.main_arg0)
      ∧ r.2.mem ((c.tc : Thread Cert.FinS.nD Cert.FinS.τ).loc Cert.FinS.main_arg1) = m ((c.tc : Thread Cert.FinS.nD Cert.FinS.τ).loc Cert.FinS.main_arg1))
      ∧ r.2.sem = fun _ => 0)

def quiescent_FinSIdeal [hFinSIdeal : Cert.FinSIdeal.Facts] : Prop :=
  ∀ (m : (ℓ : Loc Cert.FinSIdeal.nD Cert.FinSIdeal.τ Cert.FinSIdeal.sig) → Buf (Elt Ideal) ℓ) (g : Dev Cert.FinSIdeal.nD → PrngReg), Pre_FinSIdeal m →
    θ_run (Cert.FinSIdeal.defs (F := Ideal)) (onTc (τ := Cert.FinSIdeal.τ) (Cert.FinSIdeal.main (F := Ideal))) ⟨m, fun _ => 0, g⟩ (fun r => (∀ c : Dev Cert.FinSIdeal.nD,
      r.2.mem ((c.tc : Thread Cert.FinSIdeal.nD Cert.FinSIdeal.τ).loc Cert.FinSIdeal.main_arg0) = m ((c.tc : Thread Cert.FinSIdeal.nD Cert.FinSIdeal.τ).loc Cert.FinSIdeal.main_arg0)
      ∧ r.2.mem ((c.tc : Thread Cert.FinSIdeal.nD Cert.FinSIdeal.τ).loc Cert.FinSIdeal.main_arg1) = m ((c.tc : Thread Cert.FinSIdeal.nD Cert.FinSIdeal.τ).loc Cert.FinSIdeal.main_arg1))
      ∧ r.2.sem = fun _ => 0)

def quiescent_FinSRefIdeal [hFinSRefIdeal : Cert.FinSRefIdeal.Facts] : Prop :=
  ∀ (m : (ℓ : Loc Cert.FinSRefIdeal.nD Cert.FinSRefIdeal.τ Cert.FinSRefIdeal.sig) → Buf (Elt Ideal) ℓ) (g : Dev Cert.FinSRefIdeal.nD → PrngReg), Pre_FinSRefIdeal m →
    θ_run (Cert.FinSRefIdeal.defs (F := Ideal)) (onTc (τ := Cert.FinSRefIdeal.τ) (Cert.FinSRefIdeal.main (F := Ideal))) ⟨m, fun _ => 0, g⟩ (fun r => (∀ c : Dev Cert.FinSRefIdeal.nD,
      r.2.mem ((c.tc : Thread Cert.FinSRefIdeal.nD Cert.FinSRefIdeal.τ).loc Cert.FinSRefIdeal.main_arg0) = m ((c.tc : Thread Cert.FinSRefIdeal.nD Cert.FinSRefIdeal.τ).loc Cert.FinSRefIdeal.main_arg0)
      ∧ r.2.mem ((c.tc : Thread Cert.FinSRefIdeal.nD Cert.FinSRefIdeal.τ).loc Cert.FinSRefIdeal.main_arg1) = m ((c.tc : Thread Cert.FinSRefIdeal.nD Cert.FinSRefIdeal.τ).loc Cert.FinSRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_DnNorm [hDnNorm : Cert.DnNorm.Facts] : Prop :=
  ∀ (m : (ℓ : Loc Cert.DnNorm.nD Cert.DnNorm.τ Cert.DnNorm.sig) → Buf (Elt Bits) ℓ) (g : Dev Cert.DnNorm.nD → PrngReg), Pre_DnNorm m →
    θ_run (Cert.DnNorm.defs (F := Bits)) (onTc (τ := Cert.DnNorm.τ) (Cert.DnNorm.main (F := Bits))) ⟨m, fun _ => 0, g⟩ (fun r => (∀ c : Dev Cert.DnNorm.nD,
      r.2.mem ((c.tc : Thread Cert.DnNorm.nD Cert.DnNorm.τ).loc Cert.DnNorm.main_arg0) = m ((c.tc : Thread Cert.DnNorm.nD Cert.DnNorm.τ).loc Cert.DnNorm.main_arg0)
      ∧ r.2.mem ((c.tc : Thread Cert.DnNorm.nD Cert.DnNorm.τ).loc Cert.DnNorm.main_arg1) = m ((c.tc : Thread Cert.DnNorm.nD Cert.DnNorm.τ).loc Cert.DnNorm.main_arg1)
      ∧ r.2.mem ((c.tc : Thread Cert.DnNorm.nD Cert.DnNorm.τ).loc Cert.DnNorm.main_arg2) = m ((c.tc : Thread Cert.DnNorm.nD Cert.DnNorm.τ).loc Cert.DnNorm.main_arg2)
      ∧ r.2.mem ((c.tc : Thread Cert.DnNorm.nD Cert.DnNorm.τ).loc Cert.DnNorm.main_arg3) = m ((c.tc : Thread Cert.DnNorm.nD Cert.DnNorm.τ).loc Cert.DnNorm.main_arg3))
      ∧ r.2.sem = fun _ => 0)

def quiescent_DnNormIdeal [hDnNormIdeal : Cert.DnNormIdeal.Facts] : Prop :=
  ∀ (m : (ℓ : Loc Cert.DnNormIdeal.nD Cert.DnNormIdeal.τ Cert.DnNormIdeal.sig) → Buf (Elt Ideal) ℓ) (g : Dev Cert.DnNormIdeal.nD → PrngReg), Pre_DnNormIdeal m →
    θ_run (Cert.DnNormIdeal.defs (F := Ideal)) (onTc (τ := Cert.DnNormIdeal.τ) (Cert.DnNormIdeal.main (F := Ideal))) ⟨m, fun _ => 0, g⟩ (fun r => (∀ c : Dev Cert.DnNormIdeal.nD,
      r.2.mem ((c.tc : Thread Cert.DnNormIdeal.nD Cert.DnNormIdeal.τ).loc Cert.DnNormIdeal.main_arg0) = m ((c.tc : Thread Cert.DnNormIdeal.nD Cert.DnNormIdeal.τ).loc Cert.DnNormIdeal.main_arg0)
      ∧ r.2.mem ((c.tc : Thread Cert.DnNormIdeal.nD Cert.DnNormIdeal.τ).loc Cert.DnNormIdeal.main_arg1) = m ((c.tc : Thread Cert.DnNormIdeal.nD Cert.DnNormIdeal.τ).loc Cert.DnNormIdeal.main_arg1)
      ∧ r.2.mem ((c.tc : Thread Cert.DnNormIdeal.nD Cert.DnNormIdeal.τ).loc Cert.DnNormIdeal.main_arg2) = m ((c.tc : Thread Cert.DnNormIdeal.nD Cert.DnNormIdeal.τ).loc Cert.DnNormIdeal.main_arg2)
      ∧ r.2.mem ((c.tc : Thread Cert.DnNormIdeal.nD Cert.DnNormIdeal.τ).loc Cert.DnNormIdeal.main_arg3) = m ((c.tc : Thread Cert.DnNormIdeal.nD Cert.DnNormIdeal.τ).loc Cert.DnNormIdeal.main_arg3))
      ∧ r.2.sem = fun _ => 0)

def quiescent_DnNormRefIdeal [hDnNormRefIdeal : Cert.DnNormRefIdeal.Facts] : Prop :=
  ∀ (m : (ℓ : Loc Cert.DnNormRefIdeal.nD Cert.DnNormRefIdeal.τ Cert.DnNormRefIdeal.sig) → Buf (Elt Ideal) ℓ) (g : Dev Cert.DnNormRefIdeal.nD → PrngReg), Pre_DnNormRefIdeal m →
    θ_run (Cert.DnNormRefIdeal.defs (F := Ideal)) (onTc (τ := Cert.DnNormRefIdeal.τ) (Cert.DnNormRefIdeal.main (F := Ideal))) ⟨m, fun _ => 0, g⟩ (fun r => (∀ c : Dev Cert.DnNormRefIdeal.nD,
      r.2.mem ((c.tc : Thread Cert.DnNormRefIdeal.nD Cert.DnNormRefIdeal.τ).loc Cert.DnNormRefIdeal.main_arg0) = m ((c.tc : Thread Cert.DnNormRefIdeal.nD Cert.DnNormRefIdeal.τ).loc Cert.DnNormRefIdeal.main_arg0)
      ∧ r.2.mem ((c.tc : Thread Cert.DnNormRefIdeal.nD Cert.DnNormRefIdeal.τ).loc Cert.DnNormRefIdeal.main_arg1) = m ((c.tc : Thread Cert.DnNormRefIdeal.nD Cert.DnNormRefIdeal.τ).loc Cert.DnNormRefIdeal.main_arg1)
      ∧ r.2.mem ((c.tc : Thread Cert.DnNormRefIdeal.nD Cert.DnNormRefIdeal.τ).loc Cert.DnNormRefIdeal.main_arg2) = m ((c.tc : Thread Cert.DnNormRefIdeal.nD Cert.DnNormRefIdeal.τ).loc Cert.DnNormRefIdeal.main_arg2)
      ∧ r.2.mem ((c.tc : Thread Cert.DnNormRefIdeal.nD Cert.DnNormRefIdeal.τ).loc Cert.DnNormRefIdeal.main_arg3) = m ((c.tc : Thread Cert.DnNormRefIdeal.nD Cert.DnNormRefIdeal.τ).loc Cert.DnNormRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1))
      ∧ r.2.sem = fun _ => 0)

def quiescent_DnConv [hDnConv : Cert.DnConv.Facts] : Prop :=
  ∀ (m : (ℓ : Loc Cert.DnConv.nD Cert.DnConv.τ Cert.DnConv.sig) → Buf (Elt Bits) ℓ) (g : Dev Cert.DnConv.nD → PrngReg), Pre_DnConv m →
    θ_run (Cert.DnConv.defs (F := Bits)) (onTc (τ := Cert.DnConv.τ) (Cert.DnConv.main (F := Bits))) ⟨m, fun _ => 0, g⟩ (fun r => (∀ c : Dev Cert.DnConv.nD,
      r.2.mem ((c.tc : Thread Cert.DnConv.nD Cert.DnConv.τ).loc Cert.DnConv.main_arg0) = m ((c.tc : Thread Cert.DnConv.nD Cert.DnConv.τ).loc Cert.DnConv.main_arg0)
      ∧ r.2.mem ((c.tc : Thread Cert.DnConv.nD Cert.DnConv.τ).loc Cert.DnConv.main_arg1) = m ((c.tc : Thread Cert.DnConv.nD Cert.DnConv.τ).loc Cert.DnConv.main_arg1))
      ∧ r.2.sem = fun _ => 0)

def quiescent_DnConvIdeal [hDnConvIdeal : Cert.DnConvIdeal.Facts] : Prop :=
  ∀ (m : (ℓ : Loc Cert.DnConvIdeal.nD Cert.DnConvIdeal.τ Cert.DnConvIdeal.sig) → Buf (Elt Ideal) ℓ) (g : Dev Cert.DnConvIdeal.nD → PrngReg), Pre_DnConvIdeal m →
    θ_run (Cert.DnConvIdeal.defs (F := Ideal)) (onTc (τ := Cert.DnConvIdeal.τ) (Cert.DnConvIdeal.main (F := Ideal))) ⟨m, fun _ => 0, g⟩ (fun r => (∀ c : Dev Cert.DnConvIdeal.nD,
      r.2.mem ((c.tc : Thread Cert.DnConvIdeal.nD Cert.DnConvIdeal.τ).loc Cert.DnConvIdeal.main_arg0) = m ((c.tc : Thread Cert.DnConvIdeal.nD Cert.DnConvIdeal.τ).loc Cert.DnConvIdeal.main_arg0)
      ∧ r.2.mem ((c.tc : Thread Cert.DnConvIdeal.nD Cert.DnConvIdeal.τ).loc Cert.DnConvIdeal.main_arg1) = m ((c.tc : Thread Cert.DnConvIdeal.nD Cert.DnConvIdeal.τ).loc Cert.DnConvIdeal.main_arg1))
      ∧ r.2.sem = fun _ => 0)

def quiescent_DnConvRefIdeal [hDnConvRefIdeal : Cert.DnConvRefIdeal.Facts] : Prop :=
  ∀ (m : (ℓ : Loc Cert.DnConvRefIdeal.nD Cert.DnConvRefIdeal.τ Cert.DnConvRefIdeal.sig) → Buf (Elt Ideal) ℓ) (g : Dev Cert.DnConvRefIdeal.nD → PrngReg), Pre_DnConvRefIdeal m →
    θ_run (Cert.DnConvRefIdeal.defs (F := Ideal)) (onTc (τ := Cert.DnConvRefIdeal.τ) (Cert.DnConvRefIdeal.main (F := Ideal))) ⟨m, fun _ => 0, g⟩ (fun r => (∀ c : Dev Cert.DnConvRefIdeal.nD,
      r.2.mem ((c.tc : Thread Cert.DnConvRefIdeal.nD Cert.DnConvRefIdeal.τ).loc Cert.DnConvRefIdeal.main_arg0) = m ((c.tc : Thread Cert.DnConvRefIdeal.nD Cert.DnConvRefIdeal.τ).loc Cert.DnConvRefIdeal.main_arg0)
      ∧ r.2.mem ((c.tc : Thread Cert.DnConvRefIdeal.nD Cert.DnConvRefIdeal.τ).loc Cert.DnConvRefIdeal.main_arg1) = m ((c.tc : Thread Cert.DnConvRefIdeal.nD Cert.DnConvRefIdeal.τ).loc Cert.DnConvRefIdeal.main_arg1))
      ∧ r.2.sem = fun _ => 0)

def preserves_Lat_LatIdeal : Prop :=
  IdealRules.named_const.Statement Cert.LatIdeal.κ "mask" .f32 0xF149F2CA#32 ⊥

def algebraic_LatIdeal_LatRefIdeal_pre_latent_finite [hLatIdeal : Cert.LatIdeal.Facts] [hLatRefIdeal : Cert.LatRefIdeal.Facts] [hPre_latent_finite : Cert.Pre_latent_finite.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal_latent_finite m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)
      ∧ m' ((c.tc : Thread Cert.LatRefIdeal.nD Cert.LatRefIdeal.τ).loc Cert.LatRefIdeal.main_arg2) = m ((c.tc : Thread Cert.LatIdeal.nD Cert.LatIdeal.τ).loc Cert.LatIdeal.main_arg2)
      ∧ m' ((c.tc : Thread Cert.LatRefIdeal.nD Cert.LatRefIdeal.τ).loc Cert.LatRefIdeal.main_arg3) = m ((c.tc : Thread Cert.LatIdeal.nD Cert.LatIdeal.τ).loc Cert.LatIdeal.main_arg3)
      ∧ m' ((c.tc : Thread Cert.LatRefIdeal.nD Cert.LatRefIdeal.τ).loc Cert.LatRefIdeal.main_arg4) = m ((c.tc : Thread Cert.LatIdeal.nD Cert.LatIdeal.τ).loc Cert.LatIdeal.main_arg4)) →
    ∃ (v0 : (c : Dev Cert.LatIdeal.nD) → Buf (Elt Ideal) ((c.tc : Thread Cert.LatIdeal.nD Cert.LatIdeal.τ).loc Cert.LatIdeal.main_v4)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v4) = v0 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
          ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
          ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
          ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v52) = v0 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
          ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2)
          ∧ r.2.mem ((c.tc : Thread Cert.LatRefIdeal.nD Cert.LatRefIdeal.τ).loc Cert.LatRefIdeal.main_arg3) = m' ((c.tc : Thread Cert.LatRefIdeal.nD Cert.LatRefIdeal.τ).loc Cert.LatRefIdeal.main_arg3)
          ∧ r.2.mem ((c.tc : Thread Cert.LatRefIdeal.nD Cert.LatRefIdeal.τ).loc Cert.LatRefIdeal.main_arg4) = m' ((c.tc : Thread Cert.LatRefIdeal.nD Cert.LatRefIdeal.τ).loc Cert.LatRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v9) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v2) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_DnIn_DnInIdeal : Prop :=
  True

def algebraic_DnInIdeal_DnInRefIdeal [hDnInIdeal : Cert.DnInIdeal.Facts] [hDnInRefIdeal : Cert.DnInRefIdeal.Facts] : Prop :=
  ∀ (m : (ℓ : Loc Cert.DnInIdeal.nD Cert.DnInIdeal.τ Cert.DnInIdeal.sig) → Buf (Elt Ideal) ℓ) (g : Dev Cert.DnInIdeal.nD → PrngReg)
    (m' : (ℓ : Loc Cert.DnInRefIdeal.nD Cert.DnInRefIdeal.τ Cert.DnInRefIdeal.sig) → Buf (Elt Ideal) ℓ) (g' : Dev Cert.DnInRefIdeal.nD → PrngReg), Pre_DnInIdeal m →
    (∀ c : Dev Cert.DnInIdeal.nD,
      m' ((c.tc : Thread Cert.DnInRefIdeal.nD Cert.DnInRefIdeal.τ).loc Cert.DnInRefIdeal.main_arg0) = m ((c.tc : Thread Cert.DnInIdeal.nD Cert.DnInIdeal.τ).loc Cert.DnInIdeal.main_arg0)
      ∧ m' ((c.tc : Thread Cert.DnInRefIdeal.nD Cert.DnInRefIdeal.τ).loc Cert.DnInRefIdeal.main_arg1) = m ((c.tc : Thread Cert.DnInIdeal.nD Cert.DnInIdeal.τ).loc Cert.DnInIdeal.main_arg1)) →
    ∃ (v0 : (c : Dev Cert.DnInIdeal.nD) → Buf (Elt Ideal) ((c.tc : Thread Cert.DnInIdeal.nD Cert.DnInIdeal.τ).loc Cert.DnInIdeal.main_v0)),
      θ_run (Cert.DnInIdeal.defs (F := Ideal)) (onTc (τ := Cert.DnInIdeal.τ) (Cert.DnInIdeal.main (F := Ideal))) ⟨m, fun _ => 0, g⟩ (fun r => ∀ c : Dev Cert.DnInIdeal.nD,
          r.2.mem ((c.tc : Thread Cert.DnInIdeal.nD Cert.DnInIdeal.τ).loc Cert.DnInIdeal.main_v0) = v0 c
          ∧ r.2.mem ((c.tc : Thread Cert.DnInIdeal.nD Cert.DnInIdeal.τ).loc Cert.DnInIdeal.main_arg0) = m ((c.tc : Thread Cert.DnInIdeal.nD Cert.DnInIdeal.τ).loc Cert.DnInIdeal.main_arg0)
          ∧ r.2.mem ((c.tc : Thread Cert.DnInIdeal.nD Cert.DnInIdeal.τ).loc Cert.DnInIdeal.main_arg1) = m ((c.tc : Thread Cert.DnInIdeal.nD Cert.DnInIdeal.τ).loc Cert.DnInIdeal.main_arg1))
      ∧ θ_run (Cert.DnInRefIdeal.defs (F := Ideal)) (onTc (τ := Cert.DnInRefIdeal.τ) (Cert.DnInRefIdeal.main (F := Ideal))) ⟨m', fun _ => 0, g'⟩ (fun r => ∀ c : Dev Cert.DnInRefIdeal.nD,
          r.2.mem ((c.tc : Thread Cert.DnInRefIdeal.nD Cert.DnInRefIdeal.τ).loc Cert.DnInRefIdeal.main_v3) = v0 c
          ∧ r.2.mem ((c.tc : Thread Cert.DnInRefIdeal.nD Cert.DnInRefIdeal.τ).loc Cert.DnInRefIdeal.main_arg0) = m' ((c.tc : Thread Cert.DnInRefIdeal.nD Cert.DnInRefIdeal.τ).loc Cert.DnInRefIdeal.main_arg0)
          ∧ r.2.mem ((c.tc : Thread Cert.DnInRefIdeal.nD Cert.DnInRefIdeal.τ).loc Cert.DnInRefIdeal.main_arg1) = m' ((c.tc : Thread Cert.DnInRefIdeal.nD Cert.DnInRefIdeal.τ).loc Cert.DnInRefIdeal.main_arg1))

def preserves_DnAb_DnAbIdeal : Prop :=
  True

def algebraic_DnAbIdeal_DnAbRefIdeal [hDnAbIdeal : Cert.DnAbIdeal.Facts] [hDnAbRefIdeal : Cert.DnAbRefIdeal.Facts] : Prop :=
  ∀ (m : (ℓ : Loc Cert.DnAbIdeal.nD Cert.DnAbIdeal.τ Cert.DnAbIdeal.sig) → Buf (Elt Ideal) ℓ) (g : Dev Cert.DnAbIdeal.nD → PrngReg)
    (m' : (ℓ : Loc Cert.DnAbRefIdeal.nD Cert.DnAbRefIdeal.τ Cert.DnAbRefIdeal.sig) → Buf (Elt Ideal) ℓ) (g' : Dev Cert.DnAbRefIdeal.nD → PrngReg), Pre_DnAbIdeal m →
    (∀ c : Dev Cert.DnAbIdeal.nD,
      m' ((c.tc : Thread Cert.DnAbRefIdeal.nD Cert.DnAbRefIdeal.τ).loc Cert.DnAbRefIdeal.main_arg0) = m ((c.tc : Thread Cert.DnAbIdeal.nD Cert.DnAbIdeal.τ).loc Cert.DnAbIdeal.main_arg0)
      ∧ m' ((c.tc : Thread Cert.DnAbRefIdeal.nD Cert.DnAbRefIdeal.τ).loc Cert.DnAbRefIdeal.main_arg1) = m ((c.tc : Thread Cert.DnAbIdeal.nD Cert.DnAbIdeal.τ).loc Cert.DnAbIdeal.main_arg1)) →
    ∃ (v0 : (c : Dev Cert.DnAbIdeal.nD) → Buf (Elt Ideal) ((c.tc : Thread Cert.DnAbIdeal.nD Cert.DnAbIdeal.τ).loc Cert.DnAbIdeal.main_v0)),
      θ_run (Cert.DnAbIdeal.defs (F := Ideal)) (onTc (τ := Cert.DnAbIdeal.τ) (Cert.DnAbIdeal.main (F := Ideal))) ⟨m, fun _ => 0, g⟩ (fun r => ∀ c : Dev Cert.DnAbIdeal.nD,
          r.2.mem ((c.tc : Thread Cert.DnAbIdeal.nD Cert.DnAbIdeal.τ).loc Cert.DnAbIdeal.main_v0) = v0 c
          ∧ r.2.mem ((c.tc : Thread Cert.DnAbIdeal.nD Cert.DnAbIdeal.τ).loc Cert.DnAbIdeal.main_arg0) = m ((c.tc : Thread Cert.DnAbIdeal.nD Cert.DnAbIdeal.τ).loc Cert.DnAbIdeal.main_arg0)
          ∧ r.2.mem ((c.tc : Thread Cert.DnAbIdeal.nD Cert.DnAbIdeal.τ).loc Cert.DnAbIdeal.main_arg1) = m ((c.tc : Thread Cert.DnAbIdeal.nD Cert.DnAbIdeal.τ).loc Cert.DnAbIdeal.main_arg1))
      ∧ θ_run (Cert.DnAbRefIdeal.defs (F := Ideal)) (onTc (τ := Cert.DnAbRefIdeal.τ) (Cert.DnAbRefIdeal.main (F := Ideal))) ⟨m', fun _ => 0, g'⟩ (fun r => ∀ c : Dev Cert.DnAbRefIdeal.nD,
          r.2.mem ((c.tc : Thread Cert.DnAbRefIdeal.nD Cert.DnAbRefIdeal.τ).loc Cert.DnAbRefIdeal.main_v3) = v0 c
          ∧ r.2.mem ((c.tc : Thread Cert.DnAbRefIdeal.nD Cert.DnAbRefIdeal.τ).loc Cert.DnAbRefIdeal.main_arg0) = m' ((c.tc : Thread Cert.DnAbRefIdeal.nD Cert.DnAbRefIdeal.τ).loc Cert.DnAbRefIdeal.main_arg0)
          ∧ r.2.mem ((c.tc : Thread Cert.DnAbRefIdeal.nD Cert.DnAbRefIdeal.τ).loc Cert.DnAbRefIdeal.main_arg1) = m' ((c.tc : Thread Cert.DnAbRefIdeal.nD Cert.DnAbRefIdeal.τ).loc Cert.DnAbRefIdeal.main_arg1))

def preserves_Pw1_Pw1Ideal : Prop :=
  True

def algebraic_Pw1Ideal_Pw1RefIdeal [hPw1Ideal : Cert.Pw1Ideal.Facts] [hPw1RefIdeal : Cert.Pw1RefIdeal.Facts] : Prop :=
  ∀ (m : (ℓ : Loc Cert.Pw1Ideal.nD Cert.Pw1Ideal.τ Cert.Pw1Ideal.sig) → Buf (Elt Ideal) ℓ) (g : Dev Cert.Pw1Ideal.nD → PrngReg)
    (m' : (ℓ : Loc Cert.Pw1RefIdeal.nD Cert.Pw1RefIdeal.τ Cert.Pw1RefIdeal.sig) → Buf (Elt Ideal) ℓ) (g' : Dev Cert.Pw1RefIdeal.nD → PrngReg), Pre_Pw1Ideal m →
    (∀ c : Dev Cert.Pw1Ideal.nD,
      m' ((c.tc : Thread Cert.Pw1RefIdeal.nD Cert.Pw1RefIdeal.τ).loc Cert.Pw1RefIdeal.main_arg0) = m ((c.tc : Thread Cert.Pw1Ideal.nD Cert.Pw1Ideal.τ).loc Cert.Pw1Ideal.main_arg0)
      ∧ m' ((c.tc : Thread Cert.Pw1RefIdeal.nD Cert.Pw1RefIdeal.τ).loc Cert.Pw1RefIdeal.main_arg1) = m ((c.tc : Thread Cert.Pw1Ideal.nD Cert.Pw1Ideal.τ).loc Cert.Pw1Ideal.main_arg1)
      ∧ m' ((c.tc : Thread Cert.Pw1RefIdeal.nD Cert.Pw1RefIdeal.τ).loc Cert.Pw1RefIdeal.main_arg2) = m ((c.tc : Thread Cert.Pw1Ideal.nD Cert.Pw1Ideal.τ).loc Cert.Pw1Ideal.main_arg2)) →
    ∃ (v0 : (c : Dev Cert.Pw1Ideal.nD) → Buf (Elt Ideal) ((c.tc : Thread Cert.Pw1Ideal.nD Cert.Pw1Ideal.τ).loc Cert.Pw1Ideal.main_v1)),
      θ_run (Cert.Pw1Ideal.defs (F := Ideal)) (onTc (τ := Cert.Pw1Ideal.τ) (Cert.Pw1Ideal.main (F := Ideal))) ⟨m, fun _ => 0, g⟩ (fun r => ∀ c : Dev Cert.Pw1Ideal.nD,
          r.2.mem ((c.tc : Thread Cert.Pw1Ideal.nD Cert.Pw1Ideal.τ).loc Cert.Pw1Ideal.main_v1) = v0 c
          ∧ r.2.mem ((c.tc : Thread Cert.Pw1Ideal.nD Cert.Pw1Ideal.τ).loc Cert.Pw1Ideal.main_arg0) = m ((c.tc : Thread Cert.Pw1Ideal.nD Cert.Pw1Ideal.τ).loc Cert.Pw1Ideal.main_arg0)
          ∧ r.2.mem ((c.tc : Thread Cert.Pw1Ideal.nD Cert.Pw1Ideal.τ).loc Cert.Pw1Ideal.main_arg1) = m ((c.tc : Thread Cert.Pw1Ideal.nD Cert.Pw1Ideal.τ).loc Cert.Pw1Ideal.main_arg1)
          ∧ r.2.mem ((c.tc : Thread Cert.Pw1Ideal.nD Cert.Pw1Ideal.τ).loc Cert.Pw1Ideal.main_arg2) = m ((c.tc : Thread Cert.Pw1Ideal.nD Cert.Pw1Ideal.τ).loc Cert.Pw1Ideal.main_arg2))
      ∧ θ_run (Cert.Pw1RefIdeal.defs (F := Ideal)) (onTc (τ := Cert.Pw1RefIdeal.τ) (Cert.Pw1RefIdeal.main (F := Ideal))) ⟨m', fun _ => 0, g'⟩ (fun r => ∀ c : Dev Cert.Pw1RefIdeal.nD,
          r.2.mem ((c.tc : Thread Cert.Pw1RefIdeal.nD Cert.Pw1RefIdeal.τ).loc Cert.Pw1RefIdeal.main_v15) = v0 c
          ∧ r.2.mem ((c.tc : Thread Cert.Pw1RefIdeal.nD Cert.Pw1RefIdeal.τ).loc Cert.Pw1RefIdeal.main_arg0) = m' ((c.tc : Thread Cert.Pw1RefIdeal.nD Cert.Pw1RefIdeal.τ).loc Cert.Pw1RefIdeal.main_arg0)
          ∧ r.2.mem ((c.tc : Thread Cert.Pw1RefIdeal.nD Cert.Pw1RefIdeal.τ).loc Cert.Pw1RefIdeal.main_arg1) = m' ((c.tc : Thread Cert.Pw1RefIdeal.nD Cert.Pw1RefIdeal.τ).loc Cert.Pw1RefIdeal.main_arg1)
          ∧ r.2.mem ((c.tc : Thread Cert.Pw1RefIdeal.nD Cert.Pw1RefIdeal.τ).loc Cert.Pw1RefIdeal.main_arg2) = m' ((c.tc : Thread Cert.Pw1RefIdeal.nD Cert.Pw1RefIdeal.τ).loc Cert.Pw1RefIdeal.main_arg2))

def preserves_Pw2_Pw2Ideal : Prop :=
  True

def algebraic_Pw2Ideal_Pw2RefIdeal [hPw2Ideal : Cert.Pw2Ideal.Facts] [hPw2RefIdeal : Cert.Pw2RefIdeal.Facts] : Prop :=
  ∀ (m : (ℓ : Loc Cert.Pw2Ideal.nD Cert.Pw2Ideal.τ Cert.Pw2Ideal.sig) → Buf (Elt Ideal) ℓ) (g : Dev Cert.Pw2Ideal.nD → PrngReg)
    (m' : (ℓ : Loc Cert.Pw2RefIdeal.nD Cert.Pw2RefIdeal.τ Cert.Pw2RefIdeal.sig) → Buf (Elt Ideal) ℓ) (g' : Dev Cert.Pw2RefIdeal.nD → PrngReg), Pre_Pw2Ideal m →
    (∀ c : Dev Cert.Pw2Ideal.nD,
      m' ((c.tc : Thread Cert.Pw2RefIdeal.nD Cert.Pw2RefIdeal.τ).loc Cert.Pw2RefIdeal.main_arg0) = m ((c.tc : Thread Cert.Pw2Ideal.nD Cert.Pw2Ideal.τ).loc Cert.Pw2Ideal.main_arg0)
      ∧ m' ((c.tc : Thread Cert.Pw2RefIdeal.nD Cert.Pw2RefIdeal.τ).loc Cert.Pw2RefIdeal.main_arg1) = m ((c.tc : Thread Cert.Pw2Ideal.nD Cert.Pw2Ideal.τ).loc Cert.Pw2Ideal.main_arg1)
      ∧ m' ((c.tc : Thread Cert.Pw2RefIdeal.nD Cert.Pw2RefIdeal.τ).loc Cert.Pw2RefIdeal.main_arg2) = m ((c.tc : Thread Cert.Pw2Ideal.nD Cert.Pw2Ideal.τ).loc Cert.Pw2Ideal.main_arg2)
      ∧ m' ((c.tc : Thread Cert.Pw2RefIdeal.nD Cert.Pw2RefIdeal.τ).loc Cert.Pw2RefIdeal.main_arg3) = m ((c.tc : Thread Cert.Pw2Ideal.nD Cert.Pw2Ideal.τ).loc Cert.Pw2Ideal.main_arg3)
      ∧ m' ((c.tc : Thread Cert.Pw2RefIdeal.nD Cert.Pw2RefIdeal.τ).loc Cert.Pw2RefIdeal.main_arg4) = m ((c.tc : Thread Cert.Pw2Ideal.nD Cert.Pw2Ideal.τ).loc Cert.Pw2Ideal.main_arg4)) →
    ∃ (v0 : (c : Dev Cert.Pw2Ideal.nD) → Buf (Elt Ideal) ((c.tc : Thread Cert.Pw2Ideal.nD Cert.Pw2Ideal.τ).loc Cert.Pw2Ideal.main_v1)),
      θ_run (Cert.Pw2Ideal.defs (F := Ideal)) (onTc (τ := Cert.Pw2Ideal.τ) (Cert.Pw2Ideal.main (F := Ideal))) ⟨m, fun _ => 0, g⟩ (fun r => ∀ c : Dev Cert.Pw2Ideal.nD,
          r.2.mem ((c.tc : Thread Cert.Pw2Ideal.nD Cert.Pw2Ideal.τ).loc Cert.Pw2Ideal.main_v1) = v0 c
          ∧ r.2.mem ((c.tc : Thread Cert.Pw2Ideal.nD Cert.Pw2Ideal.τ).loc Cert.Pw2Ideal.main_arg0) = m ((c.tc : Thread Cert.Pw2Ideal.nD Cert.Pw2Ideal.τ).loc Cert.Pw2Ideal.main_arg0)
          ∧ r.2.mem ((c.tc : Thread Cert.Pw2Ideal.nD Cert.Pw2Ideal.τ).loc Cert.Pw2Ideal.main_arg1) = m ((c.tc : Thread Cert.Pw2Ideal.nD Cert.Pw2Ideal.τ).loc Cert.Pw2Ideal.main_arg1)
          ∧ r.2.mem ((c.tc : Thread Cert.Pw2Ideal.nD Cert.Pw2Ideal.τ).loc Cert.Pw2Ideal.main_arg2) = m ((c.tc : Thread Cert.Pw2Ideal.nD Cert.Pw2Ideal.τ).loc Cert.Pw2Ideal.main_arg2)
          ∧ r.2.mem ((c.tc : Thread Cert.Pw2Ideal.nD Cert.Pw2Ideal.τ).loc Cert.Pw2Ideal.main_arg3) = m ((c.tc : Thread Cert.Pw2Ideal.nD Cert.Pw2Ideal.τ).loc Cert.Pw2Ideal.main_arg3)
          ∧ r.2.mem ((c.tc : Thread Cert.Pw2Ideal.nD Cert.Pw2Ideal.τ).loc Cert.Pw2Ideal.main_arg4) = m ((c.tc : Thread Cert.Pw2Ideal.nD Cert.Pw2Ideal.τ).loc Cert.Pw2Ideal.main_arg4))
      ∧ θ_run (Cert.Pw2RefIdeal.defs (F := Ideal)) (onTc (τ := Cert.Pw2RefIdeal.τ) (Cert.Pw2RefIdeal.main (F := Ideal))) ⟨m', fun _ => 0, g'⟩ (fun r => ∀ c : Dev Cert.Pw2RefIdeal.nD,
          r.2.mem ((c.tc : Thread Cert.Pw2RefIdeal.nD Cert.Pw2RefIdeal.τ).loc Cert.Pw2RefIdeal.main_v17) = v0 c
          ∧ r.2.mem ((c.tc : Thread Cert.Pw2RefIdeal.nD Cert.Pw2RefIdeal.τ).loc Cert.Pw2RefIdeal.main_arg0) = m' ((c.tc : Thread Cert.Pw2RefIdeal.nD Cert.Pw2RefIdeal.τ).loc Cert.Pw2RefIdeal.main_arg0)
          ∧ r.2.mem ((c.tc : Thread Cert.Pw2RefIdeal.nD Cert.Pw2RefIdeal.τ).loc Cert.Pw2RefIdeal.main_arg1) = m' ((c.tc : Thread Cert.Pw2RefIdeal.nD Cert.Pw2RefIdeal.τ).loc Cert.Pw2RefIdeal.main_arg1)
          ∧ r.2.mem ((c.tc : Thread Cert.Pw2RefIdeal.nD Cert.Pw2RefIdeal.τ).loc Cert.Pw2RefIdeal.main_arg2) = m' ((c.tc : Thread Cert.Pw2RefIdeal.nD Cert.Pw2RefIdeal.τ).loc Cert.Pw2RefIdeal.main_arg2)
          ∧ r.2.mem ((c.tc : Thread Cert.Pw2RefIdeal.nD Cert.Pw2RefIdeal.τ).loc Cert.Pw2RefIdeal.main_arg3) = m' ((c.tc : Thread Cert.Pw2RefIdeal.nD Cert.Pw2RefIdeal.τ).loc Cert.Pw2RefIdeal.main_arg3)
          ∧ r.2.mem ((c.tc : Thread Cert.Pw2RefIdeal.nD Cert.Pw2RefIdeal.τ).loc Cert.Pw2RefIdeal.main_arg4) = m' ((c.tc : Thread Cert.Pw2RefIdeal.nD Cert.Pw2RefIdeal.τ).loc Cert.Pw2RefIdeal.main_arg4))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v13) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3))

def preserves_DnOut_DnOutIdeal : Prop :=
  True

def algebraic_DnOutIdeal_DnOutRefIdeal [hDnOutIdeal : Cert.DnOutIdeal.Facts] [hDnOutRefIdeal : Cert.DnOutRefIdeal.Facts] : Prop :=
  ∀ (m : (ℓ : Loc Cert.DnOutIdeal.nD Cert.DnOutIdeal.τ Cert.DnOutIdeal.sig) → Buf (Elt Ideal) ℓ) (g : Dev Cert.DnOutIdeal.nD → PrngReg)
    (m' : (ℓ : Loc Cert.DnOutRefIdeal.nD Cert.DnOutRefIdeal.τ Cert.DnOutRefIdeal.sig) → Buf (Elt Ideal) ℓ) (g' : Dev Cert.DnOutRefIdeal.nD → PrngReg), Pre_DnOutIdeal m →
    (∀ c : Dev Cert.DnOutIdeal.nD,
      m' ((c.tc : Thread Cert.DnOutRefIdeal.nD Cert.DnOutRefIdeal.τ).loc Cert.DnOutRefIdeal.main_arg0) = m ((c.tc : Thread Cert.DnOutIdeal.nD Cert.DnOutIdeal.τ).loc Cert.DnOutIdeal.main_arg0)
      ∧ m' ((c.tc : Thread Cert.DnOutRefIdeal.nD Cert.DnOutRefIdeal.τ).loc Cert.DnOutRefIdeal.main_arg1) = m ((c.tc : Thread Cert.DnOutIdeal.nD Cert.DnOutIdeal.τ).loc Cert.DnOutIdeal.main_arg1)
      ∧ m' ((c.tc : Thread Cert.DnOutRefIdeal.nD Cert.DnOutRefIdeal.τ).loc Cert.DnOutRefIdeal.main_arg2) = m ((c.tc : Thread Cert.DnOutIdeal.nD Cert.DnOutIdeal.τ).loc Cert.DnOutIdeal.main_arg2)
      ∧ m' ((c.tc : Thread Cert.DnOutRefIdeal.nD Cert.DnOutRefIdeal.τ).loc Cert.DnOutRefIdeal.main_arg3) = m ((c.tc : Thread Cert.DnOutIdeal.nD Cert.DnOutIdeal.τ).loc Cert.DnOutIdeal.main_arg3)) →
    ∃ (v0 : (c : Dev Cert.DnOutIdeal.nD) → Buf (Elt Ideal) ((c.tc : Thread Cert.DnOutIdeal.nD Cert.DnOutIdeal.τ).loc Cert.DnOutIdeal.main_v0)),
      θ_run (Cert.DnOutIdeal.defs (F := Ideal)) (onTc (τ := Cert.DnOutIdeal.τ) (Cert.DnOutIdeal.main (F := Ideal))) ⟨m, fun _ => 0, g⟩ (fun r => ∀ c : Dev Cert.DnOutIdeal.nD,
          r.2.mem ((c.tc : Thread Cert.DnOutIdeal.nD Cert.DnOutIdeal.τ).loc Cert.DnOutIdeal.main_v0) = v0 c
          ∧ r.2.mem ((c.tc : Thread Cert.DnOutIdeal.nD Cert.DnOutIdeal.τ).loc Cert.DnOutIdeal.main_arg0) = m ((c.tc : Thread Cert.DnOutIdeal.nD Cert.DnOutIdeal.τ).loc Cert.DnOutIdeal.main_arg0)
          ∧ r.2.mem ((c.tc : Thread Cert.DnOutIdeal.nD Cert.DnOutIdeal.τ).loc Cert.DnOutIdeal.main_arg1) = m ((c.tc : Thread Cert.DnOutIdeal.nD Cert.DnOutIdeal.τ).loc Cert.DnOutIdeal.main_arg1)
          ∧ r.2.mem ((c.tc : Thread Cert.DnOutIdeal.nD Cert.DnOutIdeal.τ).loc Cert.DnOutIdeal.main_arg2) = m ((c.tc : Thread Cert.DnOutIdeal.nD Cert.DnOutIdeal.τ).loc Cert.DnOutIdeal.main_arg2)
          ∧ r.2.mem ((c.tc : Thread Cert.DnOutIdeal.nD Cert.DnOutIdeal.τ).loc Cert.DnOutIdeal.main_arg3) = m ((c.tc : Thread Cert.DnOutIdeal.nD Cert.DnOutIdeal.τ).loc Cert.DnOutIdeal.main_arg3))
      ∧ θ_run (Cert.DnOutRefIdeal.defs (F := Ideal)) (onTc (τ := Cert.DnOutRefIdeal.τ) (Cert.DnOutRefIdeal.main (F := Ideal))) ⟨m', fun _ => 0, g'⟩ (fun r => ∀ c : Dev Cert.DnOutRefIdeal.nD,
          r.2.mem ((c.tc : Thread Cert.DnOutRefIdeal.nD Cert.DnOutRefIdeal.τ).loc Cert.DnOutRefIdeal.main_v13) = v0 c
          ∧ r.2.mem ((c.tc : Thread Cert.DnOutRefIdeal.nD Cert.DnOutRefIdeal.τ).loc Cert.DnOutRefIdeal.main_arg0) = m' ((c.tc : Thread Cert.DnOutRefIdeal.nD Cert.DnOutRefIdeal.τ).loc Cert.DnOutRefIdeal.main_arg0)
          ∧ r.2.mem ((c.tc : Thread Cert.DnOutRefIdeal.nD Cert.DnOutRefIdeal.τ).loc Cert.DnOutRefIdeal.main_arg1) = m' ((c.tc : Thread Cert.DnOutRefIdeal.nD Cert.DnOutRefIdeal.τ).loc Cert.DnOutRefIdeal.main_arg1)
          ∧ r.2.mem ((c.tc : Thread Cert.DnOutRefIdeal.nD Cert.DnOutRefIdeal.τ).loc Cert.DnOutRefIdeal.main_arg2) = m' ((c.tc : Thread Cert.DnOutRefIdeal.nD Cert.DnOutRefIdeal.τ).loc Cert.DnOutRefIdeal.main_arg2)
          ∧ r.2.mem ((c.tc : Thread Cert.DnOutRefIdeal.nD Cert.DnOutRefIdeal.τ).loc Cert.DnOutRefIdeal.main_arg3) = m' ((c.tc : Thread Cert.DnOutRefIdeal.nD Cert.DnOutRefIdeal.τ).loc Cert.DnOutRefIdeal.main_arg3))

def preserves_Fin_FinIdeal : Prop :=
  True

def algebraic_FinIdeal_FinRefIdeal [hFinIdeal : Cert.FinIdeal.Facts] [hFinRefIdeal : Cert.FinRefIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)) →
    ∃ (v0 : (c : Dev Cert.FinIdeal.nD) → Buf (Elt Ideal) ((c.tc : Thread Cert.FinIdeal.nD Cert.FinIdeal.τ).loc Cert.FinIdeal.main_v1)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v1) = v0 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v13) = v0 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1))

def preserves_FinS_FinSIdeal : Prop :=
  True

def algebraic_FinSIdeal_FinSRefIdeal [hFinSIdeal : Cert.FinSIdeal.Facts] [hFinSRefIdeal : Cert.FinSRefIdeal.Facts] : Prop :=
  ∀ (m : (ℓ : Loc Cert.FinSIdeal.nD Cert.FinSIdeal.τ Cert.FinSIdeal.sig) → Buf (Elt Ideal) ℓ) (g : Dev Cert.FinSIdeal.nD → PrngReg)
    (m' : (ℓ : Loc Cert.FinSRefIdeal.nD Cert.FinSRefIdeal.τ Cert.FinSRefIdeal.sig) → Buf (Elt Ideal) ℓ) (g' : Dev Cert.FinSRefIdeal.nD → PrngReg), Pre_FinSIdeal m →
    (∀ c : Dev Cert.FinSIdeal.nD,
      m' ((c.tc : Thread Cert.FinSRefIdeal.nD Cert.FinSRefIdeal.τ).loc Cert.FinSRefIdeal.main_arg0) = m ((c.tc : Thread Cert.FinSIdeal.nD Cert.FinSIdeal.τ).loc Cert.FinSIdeal.main_arg0)
      ∧ m' ((c.tc : Thread Cert.FinSRefIdeal.nD Cert.FinSRefIdeal.τ).loc Cert.FinSRefIdeal.main_arg1) = m ((c.tc : Thread Cert.FinSIdeal.nD Cert.FinSIdeal.τ).loc Cert.FinSIdeal.main_arg1)) →
    ∃ (v0 : (c : Dev Cert.FinSIdeal.nD) → Buf (Elt Ideal) ((c.tc : Thread Cert.FinSIdeal.nD Cert.FinSIdeal.τ).loc Cert.FinSIdeal.main_v1)),
      θ_run (Cert.FinSIdeal.defs (F := Ideal)) (onTc (τ := Cert.FinSIdeal.τ) (Cert.FinSIdeal.main (F := Ideal))) ⟨m, fun _ => 0, g⟩ (fun r => ∀ c : Dev Cert.FinSIdeal.nD,
          r.2.mem ((c.tc : Thread Cert.FinSIdeal.nD Cert.FinSIdeal.τ).loc Cert.FinSIdeal.main_v1) = v0 c
          ∧ r.2.mem ((c.tc : Thread Cert.FinSIdeal.nD Cert.FinSIdeal.τ).loc Cert.FinSIdeal.main_arg0) = m ((c.tc : Thread Cert.FinSIdeal.nD Cert.FinSIdeal.τ).loc Cert.FinSIdeal.main_arg0)
          ∧ r.2.mem ((c.tc : Thread Cert.FinSIdeal.nD Cert.FinSIdeal.τ).loc Cert.FinSIdeal.main_arg1) = m ((c.tc : Thread Cert.FinSIdeal.nD Cert.FinSIdeal.τ).loc Cert.FinSIdeal.main_arg1))
      ∧ θ_run (Cert.FinSRefIdeal.defs (F := Ideal)) (onTc (τ := Cert.FinSRefIdeal.τ) (Cert.FinSRefIdeal.main (F := Ideal))) ⟨m', fun _ => 0, g'⟩ (fun r => ∀ c : Dev Cert.FinSRefIdeal.nD,
          r.2.mem ((c.tc : Thread Cert.FinSRefIdeal.nD Cert.FinSRefIdeal.τ).loc Cert.FinSRefIdeal.main_v13) = v0 c
          ∧ r.2.mem ((c.tc : Thread Cert.FinSRefIdeal.nD Cert.FinSRefIdeal.τ).loc Cert.FinSRefIdeal.main_arg0) = m' ((c.tc : Thread Cert.FinSRefIdeal.nD Cert.FinSRefIdeal.τ).loc Cert.FinSRefIdeal.main_arg0)
          ∧ r.2.mem ((c.tc : Thread Cert.FinSRefIdeal.nD Cert.FinSRefIdeal.τ).loc Cert.FinSRefIdeal.main_arg1) = m' ((c.tc : Thread Cert.FinSRefIdeal.nD Cert.FinSRefIdeal.τ).loc Cert.FinSRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Router_RouterIdeal : Prop :=
  True

def algebraic_RouterIdeal_RouterRefIdeal [hRouterIdeal : Cert.RouterIdeal.Facts] [hRouterRefIdeal : Cert.RouterRefIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)) →
    ∃ (v0 : (c : Dev Cert.RouterIdeal.nD) → Buf (Elt Ideal) ((c.tc : Thread Cert.RouterIdeal.nD Cert.RouterIdeal.τ).loc Cert.RouterIdeal.main_v1_0)) (v1 : (c : Dev Cert.RouterIdeal.nD) → Buf (Elt Ideal) ((c.tc : Thread Cert.RouterIdeal.nD Cert.RouterIdeal.τ).loc Cert.RouterIdeal.main_v1_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v1_0) = v0 c
          ∧ r.2.mem ((c.tc : Thread Cert.RouterIdeal.nD Cert.RouterIdeal.τ).loc Cert.RouterIdeal.main_v1_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v35) = v0 c
          ∧ r.2.mem ((c.tc : Thread Cert.RouterRefIdeal.nD Cert.RouterRefIdeal.τ).loc Cert.RouterRefIdeal.main_v47) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)) →
    ∃ (v0 : (c : Dev Cert.RopeIdeal.nD) → Buf (Elt Ideal) ((c.tc : Thread Cert.RopeIdeal.nD Cert.RopeIdeal.τ).loc Cert.RopeIdeal.main_v3)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v3) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v21) = v0 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v4)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v4) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v19) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_DnNorm_DnNormIdeal : Prop :=
  True

def algebraic_DnNormIdeal_DnNormRefIdeal [hDnNormIdeal : Cert.DnNormIdeal.Facts] [hDnNormRefIdeal : Cert.DnNormRefIdeal.Facts] : Prop :=
  ∀ (m : (ℓ : Loc Cert.DnNormIdeal.nD Cert.DnNormIdeal.τ Cert.DnNormIdeal.sig) → Buf (Elt Ideal) ℓ) (g : Dev Cert.DnNormIdeal.nD → PrngReg)
    (m' : (ℓ : Loc Cert.DnNormRefIdeal.nD Cert.DnNormRefIdeal.τ Cert.DnNormRefIdeal.sig) → Buf (Elt Ideal) ℓ) (g' : Dev Cert.DnNormRefIdeal.nD → PrngReg), Pre_DnNormIdeal m →
    (∀ c : Dev Cert.DnNormIdeal.nD,
      m' ((c.tc : Thread Cert.DnNormRefIdeal.nD Cert.DnNormRefIdeal.τ).loc Cert.DnNormRefIdeal.main_arg0) = m ((c.tc : Thread Cert.DnNormIdeal.nD Cert.DnNormIdeal.τ).loc Cert.DnNormIdeal.main_arg0)
      ∧ m' ((c.tc : Thread Cert.DnNormRefIdeal.nD Cert.DnNormRefIdeal.τ).loc Cert.DnNormRefIdeal.main_arg1) = m ((c.tc : Thread Cert.DnNormIdeal.nD Cert.DnNormIdeal.τ).loc Cert.DnNormIdeal.main_arg1)
      ∧ m' ((c.tc : Thread Cert.DnNormRefIdeal.nD Cert.DnNormRefIdeal.τ).loc Cert.DnNormRefIdeal.main_arg2) = m ((c.tc : Thread Cert.DnNormIdeal.nD Cert.DnNormIdeal.τ).loc Cert.DnNormIdeal.main_arg2)
      ∧ m' ((c.tc : Thread Cert.DnNormRefIdeal.nD Cert.DnNormRefIdeal.τ).loc Cert.DnNormRefIdeal.main_arg3) = m ((c.tc : Thread Cert.DnNormIdeal.nD Cert.DnNormIdeal.τ).loc Cert.DnNormIdeal.main_arg3)) →
    ∃ (v0 : (c : Dev Cert.DnNormIdeal.nD) → Buf (Elt Ideal) ((c.tc : Thread Cert.DnNormIdeal.nD Cert.DnNormIdeal.τ).loc Cert.DnNormIdeal.main_v1)),
      θ_run (Cert.DnNormIdeal.defs (F := Ideal)) (onTc (τ := Cert.DnNormIdeal.τ) (Cert.DnNormIdeal.main (F := Ideal))) ⟨m, fun _ => 0, g⟩ (fun r => ∀ c : Dev Cert.DnNormIdeal.nD,
          r.2.mem ((c.tc : Thread Cert.DnNormIdeal.nD Cert.DnNormIdeal.τ).loc Cert.DnNormIdeal.main_v1) = v0 c
          ∧ r.2.mem ((c.tc : Thread Cert.DnNormIdeal.nD Cert.DnNormIdeal.τ).loc Cert.DnNormIdeal.main_arg0) = m ((c.tc : Thread Cert.DnNormIdeal.nD Cert.DnNormIdeal.τ).loc Cert.DnNormIdeal.main_arg0)
          ∧ r.2.mem ((c.tc : Thread Cert.DnNormIdeal.nD Cert.DnNormIdeal.τ).loc Cert.DnNormIdeal.main_arg1) = m ((c.tc : Thread Cert.DnNormIdeal.nD Cert.DnNormIdeal.τ).loc Cert.DnNormIdeal.main_arg1)
          ∧ r.2.mem ((c.tc : Thread Cert.DnNormIdeal.nD Cert.DnNormIdeal.τ).loc Cert.DnNormIdeal.main_arg2) = m ((c.tc : Thread Cert.DnNormIdeal.nD Cert.DnNormIdeal.τ).loc Cert.DnNormIdeal.main_arg2)
          ∧ r.2.mem ((c.tc : Thread Cert.DnNormIdeal.nD Cert.DnNormIdeal.τ).loc Cert.DnNormIdeal.main_arg3) = m ((c.tc : Thread Cert.DnNormIdeal.nD Cert.DnNormIdeal.τ).loc Cert.DnNormIdeal.main_arg3))
      ∧ θ_run (Cert.DnNormRefIdeal.defs (F := Ideal)) (onTc (τ := Cert.DnNormRefIdeal.τ) (Cert.DnNormRefIdeal.main (F := Ideal))) ⟨m', fun _ => 0, g'⟩ (fun r => ∀ c : Dev Cert.DnNormRefIdeal.nD,
          r.2.mem ((c.tc : Thread Cert.DnNormRefIdeal.nD Cert.DnNormRefIdeal.τ).loc Cert.DnNormRefIdeal.main_v20) = v0 c
          ∧ r.2.mem ((c.tc : Thread Cert.DnNormRefIdeal.nD Cert.DnNormRefIdeal.τ).loc Cert.DnNormRefIdeal.main_arg0) = m' ((c.tc : Thread Cert.DnNormRefIdeal.nD Cert.DnNormRefIdeal.τ).loc Cert.DnNormRefIdeal.main_arg0)
          ∧ r.2.mem ((c.tc : Thread Cert.DnNormRefIdeal.nD Cert.DnNormRefIdeal.τ).loc Cert.DnNormRefIdeal.main_arg1) = m' ((c.tc : Thread Cert.DnNormRefIdeal.nD Cert.DnNormRefIdeal.τ).loc Cert.DnNormRefIdeal.main_arg1)
          ∧ r.2.mem ((c.tc : Thread Cert.DnNormRefIdeal.nD Cert.DnNormRefIdeal.τ).loc Cert.DnNormRefIdeal.main_arg2) = m' ((c.tc : Thread Cert.DnNormRefIdeal.nD Cert.DnNormRefIdeal.τ).loc Cert.DnNormRefIdeal.main_arg2)
          ∧ r.2.mem ((c.tc : Thread Cert.DnNormRefIdeal.nD Cert.DnNormRefIdeal.τ).loc Cert.DnNormRefIdeal.main_arg3) = m' ((c.tc : Thread Cert.DnNormRefIdeal.nD Cert.DnNormRefIdeal.τ).loc Cert.DnNormRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v35) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_Ctx_CtxIdeal : Prop :=
  True

def algebraic_CtxIdeal_CtxRefIdeal [hCtxIdeal : Cert.CtxIdeal.Facts] [hCtxRefIdeal : Cert.CtxRefIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)) →
    ∃ (v0 : (c : Dev Cert.CtxIdeal.nD) → Buf (Elt Ideal) ((c.tc : Thread Cert.CtxIdeal.nD Cert.CtxIdeal.τ).loc Cert.CtxIdeal.main_v1)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v1) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v29) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1))

def preserves_DnConv_DnConvIdeal : Prop :=
  True

def algebraic_DnConvIdeal_DnConvRefIdeal [hDnConvIdeal : Cert.DnConvIdeal.Facts] [hDnConvRefIdeal : Cert.DnConvRefIdeal.Facts] : Prop :=
  ∀ (m : (ℓ : Loc Cert.DnConvIdeal.nD Cert.DnConvIdeal.τ Cert.DnConvIdeal.sig) → Buf (Elt Ideal) ℓ) (g : Dev Cert.DnConvIdeal.nD → PrngReg)
    (m' : (ℓ : Loc Cert.DnConvRefIdeal.nD Cert.DnConvRefIdeal.τ Cert.DnConvRefIdeal.sig) → Buf (Elt Ideal) ℓ) (g' : Dev Cert.DnConvRefIdeal.nD → PrngReg), Pre_DnConvIdeal m →
    (∀ c : Dev Cert.DnConvIdeal.nD,
      m' ((c.tc : Thread Cert.DnConvRefIdeal.nD Cert.DnConvRefIdeal.τ).loc Cert.DnConvRefIdeal.main_arg0) = m ((c.tc : Thread Cert.DnConvIdeal.nD Cert.DnConvIdeal.τ).loc Cert.DnConvIdeal.main_arg0)
      ∧ m' ((c.tc : Thread Cert.DnConvRefIdeal.nD Cert.DnConvRefIdeal.τ).loc Cert.DnConvRefIdeal.main_arg1) = m ((c.tc : Thread Cert.DnConvIdeal.nD Cert.DnConvIdeal.τ).loc Cert.DnConvIdeal.main_arg1)) →
    ∃ (v0 : (c : Dev Cert.DnConvIdeal.nD) → Buf (Elt Ideal) ((c.tc : Thread Cert.DnConvIdeal.nD Cert.DnConvIdeal.τ).loc Cert.DnConvIdeal.main_v0)),
      θ_run (Cert.DnConvIdeal.defs (F := Ideal)) (onTc (τ := Cert.DnConvIdeal.τ) (Cert.DnConvIdeal.main (F := Ideal))) ⟨m, fun _ => 0, g⟩ (fun r => ∀ c : Dev Cert.DnConvIdeal.nD,
          r.2.mem ((c.tc : Thread Cert.DnConvIdeal.nD Cert.DnConvIdeal.τ).loc Cert.DnConvIdeal.main_v0) = v0 c
          ∧ r.2.mem ((c.tc : Thread Cert.DnConvIdeal.nD Cert.DnConvIdeal.τ).loc Cert.DnConvIdeal.main_arg0) = m ((c.tc : Thread Cert.DnConvIdeal.nD Cert.DnConvIdeal.τ).loc Cert.DnConvIdeal.main_arg0)
          ∧ r.2.mem ((c.tc : Thread Cert.DnConvIdeal.nD Cert.DnConvIdeal.τ).loc Cert.DnConvIdeal.main_arg1) = m ((c.tc : Thread Cert.DnConvIdeal.nD Cert.DnConvIdeal.τ).loc Cert.DnConvIdeal.main_arg1))
      ∧ θ_run (Cert.DnConvRefIdeal.defs (F := Ideal)) (onTc (τ := Cert.DnConvRefIdeal.τ) (Cert.DnConvRefIdeal.main (F := Ideal))) ⟨m', fun _ => 0, g'⟩ (fun r => ∀ c : Dev Cert.DnConvRefIdeal.nD,
          r.2.mem ((c.tc : Thread Cert.DnConvRefIdeal.nD Cert.DnConvRefIdeal.τ).loc Cert.DnConvRefIdeal.main_v106) = v0 c
          ∧ r.2.mem ((c.tc : Thread Cert.DnConvRefIdeal.nD Cert.DnConvRefIdeal.τ).loc Cert.DnConvRefIdeal.main_arg0) = m' ((c.tc : Thread Cert.DnConvRefIdeal.nD Cert.DnConvRefIdeal.τ).loc Cert.DnConvRefIdeal.main_arg0)
          ∧ r.2.mem ((c.tc : Thread Cert.DnConvRefIdeal.nD Cert.DnConvRefIdeal.τ).loc Cert.DnConvRefIdeal.main_arg1) = m' ((c.tc : Thread Cert.DnConvRefIdeal.nD Cert.DnConvRefIdeal.τ).loc Cert.DnConvRefIdeal.main_arg1))

def Claim : Prop :=
  ∃ (hLat : Cert.Lat.Facts) (hLatIdeal : Cert.LatIdeal.Facts) (hLatRefIdeal : Cert.LatRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hQkv : Cert.Qkv.Facts) (hQkvIdeal : Cert.QkvIdeal.Facts) (hQkvRefIdeal : Cert.QkvRefIdeal.Facts) (hDnIn : Cert.DnIn.Facts) (hDnInIdeal : Cert.DnInIdeal.Facts) (hDnInRefIdeal : Cert.DnInRefIdeal.Facts) (hDnAb : Cert.DnAb.Facts) (hDnAbIdeal : Cert.DnAbIdeal.Facts) (hDnAbRefIdeal : Cert.DnAbRefIdeal.Facts) (hPw1 : Cert.Pw1.Facts) (hPw1Ideal : Cert.Pw1Ideal.Facts) (hPw1RefIdeal : Cert.Pw1RefIdeal.Facts) (hPw2 : Cert.Pw2.Facts) (hPw2Ideal : Cert.Pw2Ideal.Facts) (hPw2RefIdeal : Cert.Pw2RefIdeal.Facts) (hAttnOut : Cert.AttnOut.Facts) (hAttnOutIdeal : Cert.AttnOutIdeal.Facts) (hAttnOutRefIdeal : Cert.AttnOutRefIdeal.Facts) (hDnOut : Cert.DnOut.Facts) (hDnOutIdeal : Cert.DnOutIdeal.Facts) (hDnOutRefIdeal : Cert.DnOutRefIdeal.Facts) (hFin : Cert.Fin.Facts) (hFinIdeal : Cert.FinIdeal.Facts) (hFinRefIdeal : Cert.FinRefIdeal.Facts) (hFinS : Cert.FinS.Facts) (hFinSIdeal : Cert.FinSIdeal.Facts) (hFinSRefIdeal : Cert.FinSRefIdeal.Facts) (hAda : Cert.Ada.Facts) (hAdaIdeal : Cert.AdaIdeal.Facts) (hAdaRefIdeal : Cert.AdaRefIdeal.Facts) (hRouter : Cert.Router.Facts) (hRouterIdeal : Cert.RouterIdeal.Facts) (hRouterRefIdeal : Cert.RouterRefIdeal.Facts) (hRope : Cert.Rope.Facts) (hRopeIdeal : Cert.RopeIdeal.Facts) (hRopeRefIdeal : Cert.RopeRefIdeal.Facts) (hGates : Cert.Gates.Facts) (hGatesIdeal : Cert.GatesIdeal.Facts) (hGatesRefIdeal : Cert.GatesRefIdeal.Facts) (hDnNorm : Cert.DnNorm.Facts) (hDnNormIdeal : Cert.DnNormIdeal.Facts) (hDnNormRefIdeal : Cert.DnNormRefIdeal.Facts) (hNorm : Cert.Norm.Facts) (hNormIdeal : Cert.NormIdeal.Facts) (hNormRefIdeal : Cert.NormRefIdeal.Facts) (hCtx : Cert.Ctx.Facts) (hCtxIdeal : Cert.CtxIdeal.Facts) (hCtxRefIdeal : Cert.CtxRefIdeal.Facts) (hDnConv : Cert.DnConv.Facts) (hDnConvIdeal : Cert.DnConvIdeal.Facts) (hDnConvRefIdeal : Cert.DnConvRefIdeal.Facts) (hPre_latent_finite : Cert.Pre_latent_finite.Facts),
    quiescent_Lat (hLat := hLat)
    ∧ quiescent_LatIdeal (hLatIdeal := hLatIdeal)
    ∧ quiescent_LatIdeal_pre_latent_finite (hLatIdeal := hLatIdeal) (hPre_latent_finite := hPre_latent_finite)
    ∧ quiescent_LatRefIdeal (hLatRefIdeal := hLatRefIdeal)
    ∧ quiescent_LatRefIdeal_pre_latent_finite (hLatRefIdeal := hLatRefIdeal) (hPre_latent_finite := hPre_latent_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Qkv (hQkv := hQkv)
    ∧ quiescent_QkvIdeal (hQkvIdeal := hQkvIdeal)
    ∧ quiescent_QkvRefIdeal (hQkvRefIdeal := hQkvRefIdeal)
    ∧ quiescent_DnIn (hDnIn := hDnIn)
    ∧ quiescent_DnInIdeal (hDnInIdeal := hDnInIdeal)
    ∧ quiescent_DnInRefIdeal (hDnInRefIdeal := hDnInRefIdeal)
    ∧ quiescent_DnAb (hDnAb := hDnAb)
    ∧ quiescent_DnAbIdeal (hDnAbIdeal := hDnAbIdeal)
    ∧ quiescent_DnAbRefIdeal (hDnAbRefIdeal := hDnAbRefIdeal)
    ∧ quiescent_Pw1 (hPw1 := hPw1)
    ∧ quiescent_Pw1Ideal (hPw1Ideal := hPw1Ideal)
    ∧ quiescent_Pw1RefIdeal (hPw1RefIdeal := hPw1RefIdeal)
    ∧ quiescent_Pw2 (hPw2 := hPw2)
    ∧ quiescent_Pw2Ideal (hPw2Ideal := hPw2Ideal)
    ∧ quiescent_Pw2RefIdeal (hPw2RefIdeal := hPw2RefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_DnOut (hDnOut := hDnOut)
    ∧ quiescent_DnOutIdeal (hDnOutIdeal := hDnOutIdeal)
    ∧ quiescent_DnOutRefIdeal (hDnOutRefIdeal := hDnOutRefIdeal)
    ∧ quiescent_Fin (hFin := hFin)
    ∧ quiescent_FinIdeal (hFinIdeal := hFinIdeal)
    ∧ quiescent_FinRefIdeal (hFinRefIdeal := hFinRefIdeal)
    ∧ quiescent_FinS (hFinS := hFinS)
    ∧ quiescent_FinSIdeal (hFinSIdeal := hFinSIdeal)
    ∧ quiescent_FinSRefIdeal (hFinSRefIdeal := hFinSRefIdeal)
    ∧ quiescent_Ada (hAda := hAda)
    ∧ quiescent_AdaIdeal (hAdaIdeal := hAdaIdeal)
    ∧ quiescent_AdaRefIdeal (hAdaRefIdeal := hAdaRefIdeal)
    ∧ quiescent_Router (hRouter := hRouter)
    ∧ quiescent_RouterIdeal (hRouterIdeal := hRouterIdeal)
    ∧ quiescent_RouterRefIdeal (hRouterRefIdeal := hRouterRefIdeal)
    ∧ quiescent_Rope (hRope := hRope)
    ∧ quiescent_RopeIdeal (hRopeIdeal := hRopeIdeal)
    ∧ quiescent_RopeRefIdeal (hRopeRefIdeal := hRopeRefIdeal)
    ∧ quiescent_Gates (hGates := hGates)
    ∧ quiescent_GatesIdeal (hGatesIdeal := hGatesIdeal)
    ∧ quiescent_GatesRefIdeal (hGatesRefIdeal := hGatesRefIdeal)
    ∧ quiescent_DnNorm (hDnNorm := hDnNorm)
    ∧ quiescent_DnNormIdeal (hDnNormIdeal := hDnNormIdeal)
    ∧ quiescent_DnNormRefIdeal (hDnNormRefIdeal := hDnNormRefIdeal)
    ∧ quiescent_Norm (hNorm := hNorm)
    ∧ quiescent_NormIdeal (hNormIdeal := hNormIdeal)
    ∧ quiescent_NormRefIdeal (hNormRefIdeal := hNormRefIdeal)
    ∧ quiescent_Ctx (hCtx := hCtx)
    ∧ quiescent_CtxIdeal (hCtxIdeal := hCtxIdeal)
    ∧ quiescent_CtxRefIdeal (hCtxRefIdeal := hCtxRefIdeal)
    ∧ quiescent_DnConv (hDnConv := hDnConv)
    ∧ quiescent_DnConvIdeal (hDnConvIdeal := hDnConvIdeal)
    ∧ quiescent_DnConvRefIdeal (hDnConvRefIdeal := hDnConvRefIdeal)
    ∧ preserves_Lat_LatIdeal
    ∧ algebraic_LatIdeal_LatRefIdeal_pre_latent_finite (hLatIdeal := hLatIdeal) (hLatRefIdeal := hLatRefIdeal) (hPre_latent_finite := hPre_latent_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Qkv_QkvIdeal
    ∧ algebraic_QkvIdeal_QkvRefIdeal (hQkvIdeal := hQkvIdeal) (hQkvRefIdeal := hQkvRefIdeal)
    ∧ preserves_DnIn_DnInIdeal
    ∧ algebraic_DnInIdeal_DnInRefIdeal (hDnInIdeal := hDnInIdeal) (hDnInRefIdeal := hDnInRefIdeal)
    ∧ preserves_DnAb_DnAbIdeal
    ∧ algebraic_DnAbIdeal_DnAbRefIdeal (hDnAbIdeal := hDnAbIdeal) (hDnAbRefIdeal := hDnAbRefIdeal)
    ∧ preserves_Pw1_Pw1Ideal
    ∧ algebraic_Pw1Ideal_Pw1RefIdeal (hPw1Ideal := hPw1Ideal) (hPw1RefIdeal := hPw1RefIdeal)
    ∧ preserves_Pw2_Pw2Ideal
    ∧ algebraic_Pw2Ideal_Pw2RefIdeal (hPw2Ideal := hPw2Ideal) (hPw2RefIdeal := hPw2RefIdeal)
    ∧ preserves_AttnOut_AttnOutIdeal
    ∧ algebraic_AttnOutIdeal_AttnOutRefIdeal (hAttnOutIdeal := hAttnOutIdeal) (hAttnOutRefIdeal := hAttnOutRefIdeal)
    ∧ preserves_DnOut_DnOutIdeal
    ∧ algebraic_DnOutIdeal_DnOutRefIdeal (hDnOutIdeal := hDnOutIdeal) (hDnOutRefIdeal := hDnOutRefIdeal)
    ∧ preserves_Fin_FinIdeal
    ∧ algebraic_FinIdeal_FinRefIdeal (hFinIdeal := hFinIdeal) (hFinRefIdeal := hFinRefIdeal)
    ∧ preserves_FinS_FinSIdeal
    ∧ algebraic_FinSIdeal_FinSRefIdeal (hFinSIdeal := hFinSIdeal) (hFinSRefIdeal := hFinSRefIdeal)
    ∧ preserves_Ada_AdaIdeal
    ∧ algebraic_AdaIdeal_AdaRefIdeal (hAdaIdeal := hAdaIdeal) (hAdaRefIdeal := hAdaRefIdeal)
    ∧ preserves_Router_RouterIdeal
    ∧ algebraic_RouterIdeal_RouterRefIdeal (hRouterIdeal := hRouterIdeal) (hRouterRefIdeal := hRouterRefIdeal)
    ∧ preserves_Rope_RopeIdeal
    ∧ algebraic_RopeIdeal_RopeRefIdeal (hRopeIdeal := hRopeIdeal) (hRopeRefIdeal := hRopeRefIdeal)
    ∧ preserves_Gates_GatesIdeal
    ∧ algebraic_GatesIdeal_GatesRefIdeal (hGatesIdeal := hGatesIdeal) (hGatesRefIdeal := hGatesRefIdeal)
    ∧ preserves_DnNorm_DnNormIdeal
    ∧ algebraic_DnNormIdeal_DnNormRefIdeal (hDnNormIdeal := hDnNormIdeal) (hDnNormRefIdeal := hDnNormRefIdeal)
    ∧ preserves_Norm_NormIdeal
    ∧ algebraic_NormIdeal_NormRefIdeal (hNormIdeal := hNormIdeal) (hNormRefIdeal := hNormRefIdeal)
    ∧ preserves_Ctx_CtxIdeal
    ∧ algebraic_CtxIdeal_CtxRefIdeal (hCtxIdeal := hCtxIdeal) (hCtxRefIdeal := hCtxRefIdeal)
    ∧ preserves_DnConv_DnConvIdeal
    ∧ algebraic_DnConvIdeal_DnConvRefIdeal (hDnConvIdeal := hDnConvIdeal) (hDnConvRefIdeal := hDnConvRefIdeal)
-- ==== Pre_latent_finite.lean ====
abbrev S8192x3072 : Shape := ⟨2, ![8192, 3072]⟩
abbrev S4x256x4x128 : Shape := ⟨4, ![4, 256, 4, 128]⟩
abbrev S16 : Shape := ⟨1, ![16]⟩
abbrev S12288x2048 : Shape := ⟨2, ![12288, 2048]⟩
abbrev S_ : Shape := ⟨0, ![]⟩

class Facts : Prop where
  bcast_S_S8192x3072 : S_.BroadcastsInDim S8192x3072 (![] : Fin 0 → Fin S8192x3072.rank)
  bcast_S_S4x256x4x128 : S_.BroadcastsInDim S4x256x4x128 (![] : Fin 0 → Fin S4x256x4x128.rank)
  bcast_S_S16 : S_.BroadcastsInDim S16 (![] : Fin 0 → Fin S16.rank)

variable [Facts]

def fn {F : FTy → Type} [FloatOps F] (main_arg0 : FVec F S8192x3072 .bf16) (main_arg1 : FVec F S4x256x4x128 .f32) (main_arg2 : FVec F S4x256x4x128 .f32) (main_arg3 : FVec F S16 .f32) (main_arg4 : FVec F S12288x2048 .bf16) : IVec S8192x3072 1 × IVec S4x256x4x128 1 × IVec S16 1 :=
  let main_v0 : FVec F S8192x3072 .bf16 := Host.absf main_arg0
  let main_cst : FVec F S_ .bf16 := constant S_ .bf16 0x7F80#16
  let main_v1 : FVec F S8192x3072 .bf16 := broadcastInDim S8192x3072 ![] bcast_S_S8192x3072 main_cst
  let main_v2 : IVec S8192x3072 1 := cmpf .olt main_v0 main_v1
  let main_v3 : FVec F S4x256x4x128 .f32 := Host.absf main_arg1
  let main_cst_0 : FVec F S_ .f32 := constant S_ .f32 0x7F800000#32
  let main_v4 : FVec F S4x256x4x128 .f32 := broadcastInDim S4x256x4x128 ![] bcast_S_S4x256x4x128 main_cst_0
  let main_v5 : IVec S4x256x4x128 1 := cmpf .olt main_v3 main_v4
  let main_v6 : FVec F S16 .f32 := Host.absf main_arg3
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  (main_v2, main_v5, main_v8)
-- ==== Lat.lean ====
abbrev S8192x3072 : Shape := ⟨2, ![8192, 3072]⟩
abbrev S4x256x4x128 : Shape := ⟨4, ![4, 256, 4, 128]⟩
abbrev S16 : Shape := ⟨1, ![16]⟩
abbrev S12288x2048 : Shape := ⟨2, ![12288, 2048]⟩
abbrev S4x4x256x128 : Shape := ⟨4, ![4, 4, 256, 128]⟩
abbrev S128x512 : Shape := ⟨2, ![128, 512]⟩
abbrev S128x128 : Shape := ⟨2, ![128, 128]⟩
abbrev S1x1x256x128 : Shape := ⟨4, ![1, 1, 256, 128]⟩
abbrev S512x128 : Shape := ⟨2, ![512, 128]⟩
abbrev S384x128 : Shape := ⟨2, ![384, 128]⟩
abbrev S512x384 : Shape := ⟨2, ![512, 384]⟩
abbrev S512x1 : Shape := ⟨2, ![512, 1]⟩
abbrev S1x384 : Shape := ⟨2, ![1, 384]⟩
abbrev S256x128 : Shape := ⟨2, ![256, 128]⟩
abbrev S512x256 : Shape := ⟨2, ![512, 256]⟩
abbrev S1 : Shape := ⟨1, ![1]⟩
abbrev S128x1 : Shape := ⟨2, ![128, 1]⟩
abbrev S512 : Shape := ⟨1, ![512]⟩

abbrev nBuf : Space → Nat
  | .hbm => 10
  | .vmem => 20
  | .smem => 1
  | _ => 0

abbrev bufTy : (tb : Table) → Fin (tcTables nBuf tb) → BufTy
  | .hbm, ⟨0, _⟩ => ⟨S8192x3072, .bf16⟩
  | .hbm, ⟨1, _⟩ => ⟨S4x256x4x128, .f32⟩
  | .hbm, ⟨2, _⟩ => ⟨S4x256x4x128, .f32⟩
  | .hbm, ⟨3, _⟩ => ⟨S16, .f32⟩
  | .hbm, ⟨4, _⟩ => ⟨S12288x2048, .bf16⟩
  | .hbm, ⟨5, _⟩ => ⟨S4x4x256x128, .f32⟩
  | .hbm, ⟨6, _⟩ => ⟨S4x4x256x128, .bf16⟩
  | .hbm, ⟨7, _⟩ => ⟨S4x4x256x128, .f32⟩
  | .hbm, ⟨8, _⟩ => ⟨S4x4x256x128, .bf16⟩
  | .hbm, ⟨9, _⟩ => ⟨S12288x2048, .bf16⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S1x1x256x128, .bf16⟩
  | .local _ .vmem, ⟨15, _⟩ => ⟨S1x1x256x128, .bf16⟩
  | .local _ .vmem, ⟨16, _⟩ => ⟨S1x1x256x128, .bf16⟩
  | .local _ .vmem, ⟨17, _⟩ => ⟨S1x1x256x128, .bf16⟩
  | .local _ .vmem, ⟨18, _⟩ => ⟨S128x512, .bf16⟩
  | .local _ .vmem, ⟨19, _⟩ => ⟨S128x512, .bf16⟩
  | .local _ .smem, ⟨0, _⟩ => ⟨S16, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![4, 4, 16], ![false, false, false]⟩

def k0_off1 (i : grid0.Coords) (c0_i32_26 : BitVec 32) : Fin 1 → Nat :=
  let arg1 : BitVec 32 := BitVec.ofNat 32 (i 1).val
  let c4_i32 : BitVec 32 := 4#32
  let v48 : BitVec 32 := Scalar.muli arg1 c4_i32
  let v49 : BitVec 32 := Scalar.addi v48 c0_i32_26
  let v50 : Index := Scalar.indexCast v49
  ![v50.toNat]
def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c_m1_i32 : BitVec 32 := 4294967295#32
  let v1 : BitVec 32 := Scalar.addi arg2 c_m1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c16_i32_0 : BitVec 32 := 16#32
  let v5 : BitVec 32 := Scalar.addi c16_i32_0 arg1
  let c0_i32_1 : BitVec 32 := 0#32
  ![v4.toNat, v5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi arg2 c0_i32
  let c0_i32_0 : BitVec 32 := 0#32
  let c15_i32 : BitVec 32 := 15#32
  let v2 : BitVec 32 := Scalar.maxsi c0_i32_0 v1
  let v3 : BitVec 32 := Scalar.minsi c15_i32 v2
  let v4 : BitVec 32 := Scalar.addi v0 v3
  let c16_i32_1 : BitVec 32 := 16#32
  let v5 : BitVec 32 := Scalar.addi c16_i32_1 arg1
  let c0_i32_2 : BitVec 32 := 0#32
  ![v4.toNat, v5.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c1_i32 : BitVec 32 := 1#32
  let v1 : BitVec 32 := Scalar.addi arg2 c1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c16_i32_0 : BitVec 32 := 16#32
  let v5 : BitVec 32 := Scalar.addi c16_i32_0 arg1
  let c0_i32_1 : BitVec 32 := 0#32
  ![v4.toNat, v5.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c_m1_i32 : BitVec 32 := 4294967295#32
  let v1 : BitVec 32 := Scalar.addi arg2 c_m1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c20_i32 : BitVec 32 := 20#32
  let v5 : BitVec 32 := Scalar.addi c20_i32 arg1
  let c0_i32_0 : BitVec 32 := 0#32
  ![v4.toNat, v5.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi arg2 c0_i32
  let c0_i32_0 : BitVec 32 := 0#32
  let c15_i32 : BitVec 32 := 15#32
  let v2 : BitVec 32 := Scalar.maxsi c0_i32_0 v1
  let v3 : BitVec 32 := Scalar.minsi c15_i32 v2
  let v4 : BitVec 32 := Scalar.addi v0 v3
  let c20_i32 : BitVec 32 := 20#32
  let v5 : BitVec 32 := Scalar.addi c20_i32 arg1
  let c0_i32_1 : BitVec 32 := 0#32
  ![v4.toNat, v5.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c1_i32 : BitVec 32 := 1#32
  let v1 : BitVec 32 := Scalar.addi arg2 c1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c20_i32 : BitVec 32 := 20#32
  let v5 : BitVec 32 := Scalar.addi c20_i32 arg1
  let c0_i32_0 : BitVec 32 := 0#32
  ![v4.toNat, v5.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c32_i32 : BitVec 32 := 32#32
  let v1 : BitVec 32 := Scalar.addi c32_i32 v0
  let v2 : BitVec 32 := Scalar.addi v1 arg2
  let c0_i32 : BitVec 32 := 0#32
  ![v2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== LatIdeal.lean ====
variable {F : FTy → Type} [FloatOps F] [Named F]
def κ : String → Option EReal := fun
  | "mask" => some ⊥
  | _ => none
-- ==== LatRefIdeal.lean ====
abbrev S8192x3072 : Shape := ⟨2, ![8192, 3072]⟩
abbrev S4x256x4x128 : Shape := ⟨4, ![4, 256, 4, 128]⟩
abbrev S16 : Shape := ⟨1, ![16]⟩
abbrev S12288x2048 : Shape := ⟨2, ![12288, 2048]⟩
abbrev S8192x2048 : Shape := ⟨2, ![8192, 2048]⟩
abbrev S4x2048x4x4x128 : Shape := ⟨5, ![4, 2048, 4, 4, 128]⟩
abbrev S8192x512 : Shape := ⟨2, ![8192, 512]⟩
abbrev S4x2048x4x128 : Shape := ⟨4, ![4, 2048, 4, 128]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x4x2048x2048x4 : Shape := ⟨5, ![4, 4, 2048, 2048, 4]⟩
abbrev S4x4x4x2048x2048 : Shape := ⟨5, ![4, 4, 4, 2048, 2048]⟩
abbrev S_ : Shape := ⟨0, ![]⟩
abbrev S4x4x256x2048x4 : Shape := ⟨5, ![4, 4, 256, 2048, 4]⟩
abbrev S4x4x4x2048x256 : Shape := ⟨5, ![4, 4, 4, 2048, 256]⟩
abbrev S4x4x4x2048x2304 : Shape := ⟨5, ![4, 4, 4, 2048, 2304]⟩
abbrev S4x4x1x1 : Shape := ⟨4, ![4, 4, 1, 1]⟩
abbrev S4x4x4x2048x1 : Shape := ⟨5, ![4, 4, 4, 2048, 1]⟩
abbrev S4x4x4x2048x2305 : Shape := ⟨5, ![4, 4, 4, 2048, 2305]⟩
abbrev S4x4x4x2048 : Shape := ⟨4, ![4, 4, 4, 2048]⟩
abbrev S4x4x128x4x2048 : Shape := ⟨5, ![4, 4, 128, 4, 2048]⟩
abbrev S4096x2048 : Shape := ⟨2, ![4096, 2048]⟩

abbrev nBuf : Space → Nat
  | .hbm => 68
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S4x256x4x128, .f32⟩
  | .hbm, ⟨2, _⟩ => ⟨S4x256x4x128, .f32⟩
  | .hbm, ⟨3, _⟩ => ⟨S16, .f32⟩
  | .hbm, ⟨4, _⟩ => ⟨S12288x2048, .bf16⟩
  | .hbm, ⟨5, _⟩ => ⟨S8192x3072, .f32⟩
  | .hbm, ⟨6, _⟩ => ⟨S8192x2048, .f32⟩
  | .hbm, ⟨7, _⟩ => ⟨S4x2048x4x4x128, .f32⟩
  | .hbm, ⟨8, _⟩ => ⟨S8192x512, .f32⟩
  | .hbm, ⟨9, _⟩ => ⟨S4x2048x4x128, .f32⟩
  | .hbm, ⟨10, _⟩ => ⟨S8192x512, .f32⟩
  | .hbm, ⟨11, _⟩ => ⟨S4x2048x4x128, .f32⟩
  | .hbm, ⟨12, _⟩ => ⟨S2048, .i32⟩
  | .hbm, ⟨13, _⟩ => ⟨S1x2048, .i32⟩
  | .hbm, ⟨14, _⟩ => ⟨S2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S4x4x2048x2048x4, .f32⟩
  | .hbm, ⟨20, _⟩ => ⟨S4x4x4x2048x2048, .f32⟩
  | .hbm, ⟨21, _⟩ => ⟨S_, .f32⟩
  | .hbm, ⟨22, _⟩ => ⟨S4x4x4x2048x2048, .f32⟩
  | .hbm, ⟨23, _⟩ => ⟨S4x4x4x2048x2048, .f32⟩
  | .hbm, ⟨24, _⟩ => ⟨S2048x2048, .i32⟩
  | .hbm, ⟨25, _⟩ => ⟨S_, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S4x4x4x2048x2048, .i1⟩
  | .hbm, ⟨31, _⟩ => ⟨S4x4x4x2048x2048, .f32⟩
  | .hbm, ⟨32, _⟩ => ⟨S4x4x4x2048x2048, .f32⟩
  | .hbm, ⟨33, _⟩ => ⟨S4x4x256x2048x4, .f32⟩
  | .hbm, ⟨34, _⟩ => ⟨S4x4x4x2048x256, .f32⟩
  | .hbm, ⟨35, _⟩ => ⟨S_, .f32⟩
  | .hbm, ⟨36, _⟩ => ⟨S4x4x4x2048x256, .f32⟩
  | .hbm, ⟨37, _⟩ => ⟨S4x4x4x2048x256, .f32⟩
  | .hbm, ⟨38, _⟩ => ⟨S4x4x4x2048x2304, .f32⟩
  | .hbm, ⟨39, _⟩ => ⟨S4x4x1x1, .f32⟩
  | .hbm, ⟨40, _⟩ => ⟨S4x4x4x2048x1, .f32⟩
  | .hbm, ⟨41, _⟩ => ⟨S4x4x4x2048x2305, .f32⟩
  | .hbm, ⟨42, _⟩ => ⟨S_, .f32⟩
  | .hbm, ⟨43, _⟩ => ⟨S4x4x4x2048, .f32⟩
  | .hbm, ⟨44, _⟩ => ⟨S_, .f32⟩
  | .hbm, ⟨45, _⟩ => ⟨S4x4x4x2048, .f32⟩
  | .hbm, ⟨46, _⟩ => ⟨S4x4x4x2048, .f32⟩
  | .hbm, ⟨47, _⟩ => ⟨S4x4x4x2048x1, .f32⟩
  | .hbm, ⟨48, _⟩ => ⟨S4x4x4x2048x2305, .f32⟩
  | .hbm, ⟨49, _⟩ => ⟨S4x4x4x2048x2305, .f32⟩
  | .hbm, ⟨50, _⟩ => ⟨S4x4x4x2048x2305, .f32⟩
  | .hbm, ⟨51, _⟩ => ⟨S_, .f32⟩
  | .hbm, ⟨52, _⟩ => ⟨S4x4x4x2048, .f32⟩
  | .hbm, ⟨53, _⟩ => ⟨S4x4x4x2048x1, .f32⟩
  | .hbm, ⟨54, _⟩ => ⟨S4x4x4x2048x2305, .f32⟩
  | .hbm, ⟨55, _⟩ => ⟨S4x4x4x2048x2305, .f32⟩
  | .hbm, ⟨56, _⟩ => ⟨S4x4x4x2048x2304, .f32⟩
  | .hbm, ⟨57, _⟩ => ⟨S4x4x4x2048x2048, .f32⟩
  | .hbm, ⟨58, _⟩ => ⟨S4x4x128x4x2048, .f32⟩
  | .hbm, ⟨59, _⟩ => ⟨S4x2048x4x4x128, .f32⟩
  | .hbm, ⟨60, _⟩ => ⟨S4x4x4x2048x256, .f32⟩
  | .hbm, ⟨61, _⟩ => ⟨S4x4x128x4x2048, .f32⟩
  | .hbm, ⟨62, _⟩ => ⟨S4x2048x4x4x128, .f32⟩
  | .hbm, ⟨63, _⟩ => ⟨S4x2048x4x4x128, .f32⟩
  | .hbm, ⟨64, _⟩ => ⟨S8192x2048, .f32⟩
  | .hbm, ⟨65, _⟩ => ⟨S8192x2048, .bf16⟩
  | .hbm, ⟨66, _⟩ => ⟨S4096x2048, .bf16⟩
  | .hbm, ⟨67, _⟩ => ⟨S12288x2048, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Up.lean ====
abbrev S16x1536x2048 : Shape := ⟨3, ![16, 1536, 2048]⟩
abbrev S4x16x2048x1024 : Shape := ⟨4, ![4, 16, 2048, 1024]⟩
abbrev S16x1536x1024 : Shape := ⟨3, ![16, 1536, 1024]⟩
abbrev S1x1536x2048 : Shape := ⟨3, ![1, 1536, 2048]⟩
abbrev S1x1x2048x512 : Shape := ⟨4, ![1, 1, 2048, 512]⟩
abbrev S1x1536x512 : Shape := ⟨3, ![1, 1536, 512]⟩
abbrev S1536x2048 : Shape := ⟨2, ![1536, 2048]⟩
abbrev S2048x512 : Shape := ⟨2, ![2048, 512]⟩
abbrev S1536x512 : Shape := ⟨2, ![1536, 512]⟩

abbrev nBuf : Space → Nat
  | .hbm => 4
  | .vmem => 8
  | .smem => 0
  | _ => 0

abbrev bufTy : (tb : Table) → Fin (tcTables nBuf tb) → BufTy
  | .hbm, ⟨0, _⟩ => ⟨S16x1536x2048, .bf16⟩
  | .hbm, ⟨1, _⟩ => ⟨S4x16x2048x1024, .f32⟩
  | .hbm, ⟨2, _⟩ => ⟨S4x16x2048x1024, .f32⟩
  | .hbm, ⟨3, _⟩ => ⟨S16x1536x1024, .bf16⟩
  | .local _ .vmem, ⟨0, _⟩ => ⟨S1x1536x2048, .bf16⟩
  | .local _ .vmem, ⟨1, _⟩ => ⟨S1x1536x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1536x512, .bf16⟩
  | .local _ .vmem, ⟨7, _⟩ => ⟨S1x1536x512, .bf16⟩
  | _, _ => ⟨S16x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S16x1536x2048 : Shape := ⟨3, ![16, 1536, 2048]⟩
abbrev S4x16x2048x1024 : Shape := ⟨4, ![4, 16, 2048, 1024]⟩
abbrev S1x16x2048x1024 : Shape := ⟨4, ![1, 16, 2048, 1024]⟩
abbrev S16x2048x1024 : Shape := ⟨3, ![16, 2048, 1024]⟩
abbrev S16x1536x1024 : Shape := ⟨3, ![16, 1536, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16x1536x2048, .bf16⟩
  | .hbm, ⟨1, _⟩ => ⟨S4x16x2048x1024, .f32⟩
  | .hbm, ⟨2, _⟩ => ⟨S4x16x2048x1024, .f32⟩
  | .hbm, ⟨3, _⟩ => ⟨S16x1536x2048, .f32⟩
  | .hbm, ⟨4, _⟩ => ⟨S1x16x2048x1024, .f32⟩
  | .hbm, ⟨5, _⟩ => ⟨S16x2048x1024, .f32⟩
  | .hbm, ⟨6, _⟩ => ⟨S16x1536x1024, .f32⟩
  | .hbm, ⟨7, _⟩ => ⟨S16x1536x1024, .f32⟩
  | .hbm, ⟨8, _⟩ => ⟨S16x1536x1024, .f32⟩
  | .hbm, ⟨9, _⟩ => ⟨S_, .f32⟩
  | .hbm, ⟨10, _⟩ => ⟨S16x1536x1024, .f32⟩
  | .hbm, ⟨11, _⟩ => ⟨S16x1536x1024, .f32⟩
  | .hbm, ⟨12, _⟩ => ⟨S_, .f32⟩
  | .hbm, ⟨13, _⟩ => ⟨S16x1536x1024, .f32⟩
  | .hbm, ⟨14, _⟩ => ⟨S16x1536x1024, .f32⟩
  | .hbm, ⟨15, _⟩ => ⟨S16x1536x1024, .f32⟩
  | .hbm, ⟨16, _⟩ => ⟨S1x16x2048x1024, .f32⟩
  | .hbm, ⟨17, _⟩ => ⟨S16x2048x1024, .f32⟩
  | .hbm, ⟨18, _⟩ => ⟨S16x1536x1024, .f32⟩
  | .hbm, ⟨19, _⟩ => ⟨S16x1536x1024, .f32⟩
  | .hbm, ⟨20, _⟩ => ⟨S16x1536x1024, .bf16⟩
  | _, _ => ⟨S16x1536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Down.lean ====
abbrev S16x1536x1024 : Shape := ⟨3, ![16, 1536, 1024]⟩
abbrev S4x16x1024x2048 : Shape := ⟨4, ![4, 16, 1024, 2048]⟩
abbrev S16x1536x1 : Shape := ⟨3, ![16, 1536, 1]⟩
abbrev S16x1536x2048 : Shape := ⟨3, ![16, 1536, 2048]⟩
abbrev S1x1536x1024 : Shape := ⟨3, ![1, 1536, 1024]⟩
abbrev S1x1x1024x1024 : Shape := ⟨4, ![1, 1, 1024, 1024]⟩
abbrev S1x1536x1 : Shape := ⟨3, ![1, 1536, 1]⟩
abbrev S1536x1024 : Shape := ⟨2, ![1536, 1024]⟩
abbrev S1024x1024 : Shape := ⟨2, ![1024, 1024]⟩
abbrev S1536x1 : Shape := ⟨2, ![1536, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x1536x1024, .bf16⟩
  | .hbm, ⟨1, _⟩ => ⟨S4x16x1024x2048, .f32⟩
  | .hbm, ⟨2, _⟩ => ⟨S16x1536x1, .f32⟩
  | .hbm, ⟨3, _⟩ => ⟨S16x1536x2048, .bf16⟩
  | .local _ .vmem, ⟨0, _⟩ => ⟨S1x1536x1024, .bf16⟩
  | .local _ .vmem, ⟨1, _⟩ => ⟨S1x1536x1024, .bf16⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1536x1, .f32⟩
  | .local _ .vmem, ⟨5, _⟩ => ⟨S1x1536x1, .f32⟩
  | .local _ .vmem, ⟨6, _⟩ => ⟨S1x1536x1024, .bf16⟩
  | .local _ .vmem, ⟨7, _⟩ => ⟨S1x1536x1024, .bf16⟩
  | _, _ => ⟨S16x1536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S16x1536x1024 : Shape := ⟨3, ![16, 1536, 1024]⟩
abbrev S4x16x1024x2048 : Shape := ⟨4, ![4, 16, 1024, 2048]⟩
abbrev S16x1536x1 : Shape := ⟨3, ![16, 1536, 1]⟩
abbrev S1x16x1024x2048 : Shape := ⟨4, ![1, 16, 1024, 2048]⟩
abbrev S16x1024x2048 : Shape := ⟨3, ![16, 1024, 2048]⟩
abbrev S16x1536x2048 : Shape := ⟨3, ![16, 1536, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16x1536x1024, .bf16⟩
  | .hbm, ⟨1, _⟩ => ⟨S4x16x1024x2048, .f32⟩
  | .hbm, ⟨2, _⟩ => ⟨S16x1536x1, .f32⟩
  | .hbm, ⟨3, _⟩ => ⟨S16x1536x1024, .f32⟩
  | .hbm, ⟨4, _⟩ => ⟨S1x16x1024x2048, .f32⟩
  | .hbm, ⟨5, _⟩ => ⟨S16x1024x2048, .f32⟩
  | .hbm, ⟨6, _⟩ => ⟨S16x1536x2048, .f32⟩
  | .hbm, ⟨7, _⟩ => ⟨S16x1536x2048, .f32⟩
  | .hbm, ⟨8, _⟩ => ⟨S16x1536x2048, .f32⟩
  | .hbm, ⟨9, _⟩ => ⟨S16x1536x2048, .bf16⟩
  | _, _ => ⟨S16x1536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Qkv.lean ====
abbrev S12288x2048 : Shape := ⟨2, ![12288, 2048]⟩
abbrev S1x2048x3072 : Shape := ⟨3, ![1, 2048, 3072]⟩
abbrev S12288x3072 : Shape := ⟨2, ![12288, 3072]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S12288x2048, .bf16⟩
  | .hbm, ⟨1, _⟩ => ⟨S1x2048x3072, .f32⟩
  | .hbm, ⟨2, _⟩ => ⟨S12288x3072, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S1x2048x512, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvRefIdeal.lean ====
abbrev S12288x2048 : Shape := ⟨2, ![12288, 2048]⟩
abbrev S1x2048x3072 : Shape := ⟨3, ![1, 2048, 3072]⟩
abbrev S2048x3072 : Shape := ⟨2, ![2048, 3072]⟩
abbrev S12288x3072 : Shape := ⟨2, ![12288, 3072]⟩

abbrev nBuf : Space → Nat
  | .hbm => 5
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S1x2048x3072, .f32⟩
  | .hbm, ⟨2, _⟩ => ⟨S12288x2048, .f32⟩
  | .hbm, ⟨3, _⟩ => ⟨S2048x3072, .f32⟩
  | .hbm, ⟨4, _⟩ => ⟨S12288x3072, .f32⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DnIn.lean ====
abbrev S12288x2048 : Shape := ⟨2, ![12288, 2048]⟩
abbrev S1x2048x12416 : Shape := ⟨3, ![1, 2048, 12416]⟩
abbrev S12288x12288 : Shape := ⟨2, ![12288, 12288]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S12288x2048, .bf16⟩
  | .hbm, ⟨1, _⟩ => ⟨S1x2048x12416, .f32⟩
  | .hbm, ⟨2, _⟩ => ⟨S12288x12288, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S1x2048x512, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DnInRefIdeal.lean ====
abbrev S12288x2048 : Shape := ⟨2, ![12288, 2048]⟩
abbrev S1x2048x12416 : Shape := ⟨3, ![1, 2048, 12416]⟩
abbrev S2048x12416 : Shape := ⟨2, ![2048, 12416]⟩
abbrev S12288x12416 : Shape := ⟨2, ![12288, 12416]⟩
abbrev S12288x12288 : Shape := ⟨2, ![12288, 12288]⟩

abbrev nBuf : Space → Nat
  | .hbm => 6
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S1x2048x12416, .f32⟩
  | .hbm, ⟨2, _⟩ => ⟨S12288x2048, .f32⟩
  | .hbm, ⟨3, _⟩ => ⟨S2048x12416, .f32⟩
  | .hbm, ⟨4, _⟩ => ⟨S12288x12416, .f32⟩
  | .hbm, ⟨5, _⟩ => ⟨S12288x12288, .f32⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DnAb.lean ====
abbrev S12288x2048 : Shape := ⟨2, ![12288, 2048]⟩
abbrev S1x2048x12416 : Shape := ⟨3, ![1, 2048, 12416]⟩
abbrev S12288x128 : Shape := ⟨2, ![12288, 128]⟩
abbrev S1024x2048 : Shape := ⟨2, ![1024, 2048]⟩
abbrev S1x2048x128 : Shape := ⟨3, ![1, 2048, 128]⟩
abbrev S1024x128 : Shape := ⟨2, ![1024, 128]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S12288x2048, .bf16⟩
  | .hbm, ⟨1, _⟩ => ⟨S1x2048x12416, .f32⟩
  | .hbm, ⟨2, _⟩ => ⟨S12288x128, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x128, .f32⟩
  | .local _ .vmem, ⟨3, _⟩ => ⟨S1024x128, .f32⟩
  | .local _ .vmem, ⟨4, _⟩ => ⟨S1024x128, .f32⟩
  | .local _ .vmem, ⟨5, _⟩ => ⟨S1x2048x128, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DnAbRefIdeal.lean ====
abbrev S12288x2048 : Shape := ⟨2, ![12288, 2048]⟩
abbrev S1x2048x12416 : Shape := ⟨3, ![1, 2048, 12416]⟩
abbrev S2048x12416 : Shape := ⟨2, ![2048, 12416]⟩
abbrev S12288x12416 : Shape := ⟨2, ![12288, 12416]⟩
abbrev S12288x128 : Shape := ⟨2, ![12288, 128]⟩

abbrev nBuf : Space → Nat
  | .hbm => 6
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S1x2048x12416, .f32⟩
  | .hbm, ⟨2, _⟩ => ⟨S12288x2048, .f32⟩
  | .hbm, ⟨3, _⟩ => ⟨S2048x12416, .f32⟩
  | .hbm, ⟨4, _⟩ => ⟨S12288x12416, .f32⟩
  | .hbm, ⟨5, _⟩ => ⟨S12288x128, .f32⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Pw1.lean ====
abbrev S12288x2048 : Shape := ⟨2, ![12288, 2048]⟩
abbrev S2x2048x4096 : Shape := ⟨3, ![2, 2048, 4096]⟩
abbrev S4096 : Shape := ⟨1, ![4096]⟩
abbrev S1x4096 : Shape := ⟨2, ![1, 4096]⟩
abbrev S1024x2048 : Shape := ⟨2, ![1024, 2048]⟩
abbrev S1x2048x512 : Shape := ⟨3, ![1, 2048, 512]⟩
abbrev S1x512 : Shape := ⟨2, ![1, 512]⟩
abbrev S1024x512 : Shape := ⟨2, ![1024, 512]⟩
abbrev S2x2048x512 : Shape := ⟨3, ![2, 2048, 512]⟩
abbrev S2048x512 : Shape := ⟨2, ![2048, 512]⟩

abbrev nBuf : Space → Nat
  | .hbm => 5
  | .vmem => 13
  | .smem => 0
  | _ => 0

abbrev bufTy : (tb : Table) → Fin (tcTables nBuf tb) → BufTy
  | .hbm, ⟨0, _⟩ => ⟨S12288x2048, .bf16⟩
  | .hbm, ⟨1, _⟩ => ⟨S2x2048x4096, .f32⟩
  | .hbm, ⟨2, _⟩ => ⟨S4096, .f32⟩
  | .hbm, ⟨3, _⟩ => ⟨S1x4096, .f32⟩
  | .hbm, ⟨4, _⟩ => ⟨S12288x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S2x2048x512, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Pw1RefIdeal.lean ====
abbrev S12288x2048 : Shape := ⟨2, ![12288, 2048]⟩
abbrev S2x2048x4096 : Shape := ⟨3, ![2, 2048, 4096]⟩
abbrev S4096 : Shape := ⟨1, ![4096]⟩
abbrev S1x2048x4096 : Shape := ⟨3, ![1, 2048, 4096]⟩
abbrev S2048x4096 : Shape := ⟨2, ![2048, 4096]⟩
abbrev S12288x4096 : Shape := ⟨2, ![12288, 4096]⟩
abbrev S1x4096 : Shape := ⟨2, ![1, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S2x2048x4096, .f32⟩
  | .hbm, ⟨2, _⟩ => ⟨S4096, .f32⟩
  | .hbm, ⟨3, _⟩ => ⟨S12288x2048, .f32⟩
  | .hbm, ⟨4, _⟩ => ⟨S1x2048x4096, .f32⟩
  | .hbm, ⟨5, _⟩ => ⟨S2048x4096, .f32⟩
  | .hbm, ⟨6, _⟩ => ⟨S12288x4096, .f32⟩
  | .hbm, ⟨7, _⟩ => ⟨S1x4096, .f32⟩
  | .hbm, ⟨8, _⟩ => ⟨S12288x4096, .f32⟩
  | .hbm, ⟨9, _⟩ => ⟨S12288x4096, .f32⟩
  | .hbm, ⟨10, _⟩ => ⟨S12288x2048, .f32⟩
  | .hbm, ⟨11, _⟩ => ⟨S12288x2048, .f32⟩
  | .hbm, ⟨12, _⟩ => ⟨S12288x2048, .f32⟩
  | .hbm, ⟨13, _⟩ => ⟨S12288x2048, .f32⟩
  | .hbm, ⟨14, _⟩ => ⟨S_, .f32⟩
  | .hbm, ⟨15, _⟩ => ⟨S12288x2048, .f32⟩
  | .hbm, ⟨16, _⟩ => ⟨S12288x2048, .f32⟩
  | .hbm, ⟨17, _⟩ => ⟨S_, .f32⟩
  | .hbm, ⟨18, _⟩ => ⟨S12288x2048, .f32⟩
  | .hbm, ⟨19, _⟩ => ⟨S12288x2048, .f32⟩
  | .hbm, ⟨20, _⟩ => ⟨S12288x2048, .f32⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Pw2.lean ====
abbrev S12288x2048 : Shape := ⟨2, ![12288, 2048]⟩
abbrev S2x2048x2048 : Shape := ⟨3, ![2, 2048, 2048]⟩
abbrev S2048 : Shape := ⟨1, ![2048]⟩
abbrev S192x1x2048 : Shape := ⟨3, ![192, 1, 2048]⟩
abbrev S1x2048 : Shape := ⟨2, ![1, 2048]⟩
abbrev S1024x2048 : Shape := ⟨2, ![1024, 2048]⟩
abbrev S1x2048x512 : Shape := ⟨3, ![1, 2048, 512]⟩
abbrev S1x512 : Shape := ⟨2, ![1, 512]⟩
abbrev S1024x512 : Shape := ⟨2, ![1024, 512]⟩
abbrev S1x1x512 : Shape := ⟨3, ![1, 1, 512]⟩
abbrev S2048x512 : Shape := ⟨2, ![2048, 512]⟩

abbrev nBuf : Space → Nat
  | .hbm => 7
  | .vmem => 13
  | .smem => 0
  | _ => 0

abbrev bufTy : (tb : Table) → Fin (tcTables nBuf tb) → BufTy
  | .hbm, ⟨0, _⟩ => ⟨S12288x2048, .bf16⟩
  | .hbm, ⟨1, _⟩ => ⟨S2x2048x2048, .f32⟩
  | .hbm, ⟨2, _⟩ => ⟨S2048, .f32⟩
  | .hbm, ⟨3, _⟩ => ⟨S12288x2048, .f32⟩
  | .hbm, ⟨4, _⟩ => ⟨S192x1x2048, .f32⟩
  | .hbm, ⟨5, _⟩ => ⟨S1x2048, .f32⟩
  | .hbm, ⟨6, _⟩ => ⟨S12288x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1x1x512, .f32⟩
  | .local _ .vmem, ⟨9, _⟩ => ⟨S1x1x512, .f32⟩
  | .local _ .vmem, ⟨10, _⟩ => ⟨S1024x512, .f32⟩
  | .local _ .vmem, ⟨11, _⟩ => ⟨S1024x512, .f32⟩
  | .local _ .vmem, ⟨12, _⟩ => ⟨S1x2048x512, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c4_i32_0 : BitVec 32 := 4#32
  let v1 : BitVec 32 := Scalar.subi arg1 c4_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let v21 : BitVec 32 := Scalar.addi c0_i32_7 v20
  let c6_i32 : BitVec 32 := 6#32
  let v22 : BitVec 32 := Scalar.muli v21 c6_i32
  let c2_i32_8 : BitVec 32 := 2#32
  let v23 : BitVec 32 := Scalar.addi v22 c2_i32_8
  let c0_i32_9 : BitVec 32 := 0#32
  let c0_i32_10 : BitVec 32 := 0#32
  ![v23.toNat, c0_i32_9.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Pw2RefIdeal.lean ====
abbrev S12288x2048 : Shape := ⟨2, ![12288, 2048]⟩
abbrev S2x2048x2048 : Shape := ⟨3, ![2, 2048, 2048]⟩
abbrev S2048 : Shape := ⟨1, ![2048]⟩
abbrev S192x1x2048 : Shape := ⟨3, ![192, 1, 2048]⟩
abbrev S4x8x6x2048 : Shape := ⟨4, ![4, 8, 6, 2048]⟩
abbrev S1x8x1x2048 : Shape := ⟨4, ![1, 8, 1, 2048]⟩
abbrev S8x2048 : Shape := ⟨2, ![8, 2048]⟩
abbrev S1x2048 : Shape := ⟨2, ![1, 2048]⟩
abbrev S4096x2048 : Shape := ⟨2, ![4096, 2048]⟩
abbrev S4x2048 : Shape := ⟨2, ![4, 2048]⟩
abbrev S4x2048x2048 : Shape := ⟨3, ![4, 2048, 2048]⟩
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S2x2048x2048, .f32⟩
  | .hbm, ⟨2, _⟩ => ⟨S2048, .f32⟩
  | .hbm, ⟨3, _⟩ => ⟨S12288x2048, .f32⟩
  | .hbm, ⟨4, _⟩ => ⟨S192x1x2048, .f32⟩
  | .hbm, ⟨5, _⟩ => ⟨S4x8x6x2048, .f32⟩
  | .hbm, ⟨6, _⟩ => ⟨S1x8x1x2048, .f32⟩
  | .hbm, ⟨7, _⟩ => ⟨S8x2048, .f32⟩
  | .hbm, ⟨8, _⟩ => ⟨S1x2048, .f32⟩
  | .hbm, ⟨9, _⟩ => ⟨S4096x2048, .f32⟩
  | .hbm, ⟨10, _⟩ => ⟨S4x2048, .f32⟩
  | .hbm, ⟨11, _⟩ => ⟨S4x2048x2048, .f32⟩
  | .hbm, ⟨12, _⟩ => ⟨S8192x2048, .f32⟩
  | .hbm, ⟨13, _⟩ => ⟨S12288x2048, .f32⟩
  | .hbm, ⟨14, _⟩ => ⟨S12288x2048, .f32⟩
  | .hbm, ⟨15, _⟩ => ⟨S1x2048x2048, .f32⟩
  | .hbm, ⟨16, _⟩ => ⟨S2048x2048, .f32⟩
  | .hbm, ⟨17, _⟩ => ⟨S12288x2048, .f32⟩
  | .hbm, ⟨18, _⟩ => ⟨S1x2048, .f32⟩
  | .hbm, ⟨19, _⟩ => ⟨S12288x2048, .f32⟩
  | .hbm, ⟨20, _⟩ => ⟨S12288x2048, .f32⟩
  | .hbm, ⟨21, _⟩ => ⟨S12288x2048, .f32⟩
  | .hbm, ⟨22, _⟩ => ⟨S12288x2048, .f32⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== AttnOut.lean ====
abbrev S12288x2048 : Shape := ⟨2, ![12288, 2048]⟩
abbrev S1x2048x2048 : Shape := ⟨3, ![1, 2048, 2048]⟩
abbrev S192x1x2048 : Shape := ⟨3, ![192, 1, 2048]⟩
abbrev S1024x2048 : Shape := ⟨2, ![1024, 2048]⟩
abbrev S1x2048x512 : Shape := ⟨3, ![1, 2048, 512]⟩
abbrev S1024x512 : Shape := ⟨2, ![1024, 512]⟩
abbrev S1x1x512 : Shape := ⟨3, ![1, 1, 512]⟩
abbrev S2048x512 : Shape := ⟨2, ![2048, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S12288x2048, .bf16⟩
  | .hbm, ⟨1, _⟩ => ⟨S1x2048x2048, .f32⟩
  | .hbm, ⟨2, _⟩ => ⟨S12288x2048, .f32⟩
  | .hbm, ⟨3, _⟩ => ⟨S192x1x2048, .f32⟩
  | .hbm, ⟨4, _⟩ => ⟨S12288x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1x2048x512, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c4_i32_0 : BitVec 32 := 4#32
  let v1 : BitVec 32 := Scalar.subi arg1 c4_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c8_i32 : BitVec 32 := 8#32
  let v21 : BitVec 32 := Scalar.addi c8_i32 v20
  let c6_i32 : BitVec 32 := 6#32
  let v22 : BitVec 32 := Scalar.muli v21 c6_i32
  let c2_i32_7 : BitVec 32 := 2#32
  let v23 : BitVec 32 := Scalar.addi v22 c2_i32_7
  let c0_i32_8 : BitVec 32 := 0#32
  let c0_i32_9 : BitVec 32 := 0#32
  ![v23.toNat, c0_i32_8.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnOutRefIdeal.lean ====
abbrev S12288x2048 : Shape := ⟨2, ![12288, 2048]⟩
abbrev S1x2048x2048 : Shape := ⟨3, ![1, 2048, 2048]⟩
abbrev S192x1x2048 : Shape := ⟨3, ![192, 1, 2048]⟩
abbrev S4x8x6x2048 : Shape := ⟨4, ![4, 8, 6, 2048]⟩
abbrev S1x8x1x2048 : Shape := ⟨4, ![1, 8, 1, 2048]⟩
abbrev S8x2048 : Shape := ⟨2, ![8, 2048]⟩
abbrev S1x2048 : Shape := ⟨2, ![1, 2048]⟩
abbrev S4096x2048 : Shape := ⟨2, ![4096, 2048]⟩
abbrev S4x2048 : Shape := ⟨2, ![4, 2048]⟩
abbrev S4x2048x2048 : Shape := ⟨3, ![4, 2048, 2048]⟩
abbrev S8192x2048 : Shape := ⟨2, ![8192, 2048]⟩
abbrev S2048x2048 : Shape := ⟨2, ![2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S1x2048x2048, .f32⟩
  | .hbm, ⟨2, _⟩ => ⟨S12288x2048, .f32⟩
  | .hbm, ⟨3, _⟩ => ⟨S192x1x2048, .f32⟩
  | .hbm, ⟨4, _⟩ => ⟨S4x8x6x2048, .f32⟩
  | .hbm, ⟨5, _⟩ => ⟨S1x8x1x2048, .f32⟩
  | .hbm, ⟨6, _⟩ => ⟨S8x2048, .f32⟩
  | .hbm, ⟨7, _⟩ => ⟨S1x2048, .f32⟩
  | .hbm, ⟨8, _⟩ => ⟨S4096x2048, .f32⟩
  | .hbm, ⟨9, _⟩ => ⟨S4x2048, .f32⟩
  | .hbm, ⟨10, _⟩ => ⟨S4x2048x2048, .f32⟩
  | .hbm, ⟨11, _⟩ => ⟨S8192x2048, .f32⟩
  | .hbm, ⟨12, _⟩ => ⟨S12288x2048, .f32⟩
  | .hbm, ⟨13, _⟩ => ⟨S12288x2048, .f32⟩
  | .hbm, ⟨14, _⟩ => ⟨S2048x2048, .f32⟩
  | .hbm, ⟨15, _⟩ => ⟨S12288x2048, .f32⟩
  | .hbm, ⟨16, _⟩ => ⟨S12288x2048, .f32⟩
  | .hbm, ⟨17, _⟩ => ⟨S12288x2048, .f32⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== DnOut.lean ====
abbrev S12288x4096 : Shape := ⟨2, ![12288, 4096]⟩
abbrev S1x4096x2048 : Shape := ⟨3, ![1, 4096, 2048]⟩
abbrev S12288x2048 : Shape := ⟨2, ![12288, 2048]⟩
abbrev S192x1x2048 : Shape := ⟨3, ![192, 1, 2048]⟩
abbrev S512x4096 : Shape := ⟨2, ![512, 4096]⟩
abbrev S1x4096x512 : Shape := ⟨3, ![1, 4096, 512]⟩
abbrev S512x512 : Shape := ⟨2, ![512, 512]⟩
abbrev S1x1x512 : Shape := ⟨3, ![1, 1, 512]⟩
abbrev S4096x512 : Shape := ⟨2, ![4096, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S12288x4096, .bf16⟩
  | .hbm, ⟨1, _⟩ => ⟨S1x4096x2048, .f32⟩
  | .hbm, ⟨2, _⟩ => ⟨S12288x2048, .f32⟩
  | .hbm, ⟨3, _⟩ => ⟨S192x1x2048, .f32⟩
  | .hbm, ⟨4, _⟩ => ⟨S12288x2048, .f32⟩
  | .local _ .vmem, ⟨0, _⟩ => ⟨S512x4096, .bf16⟩
  | .local _ .vmem, ⟨1, _⟩ => ⟨S512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | .local _ .vmem, ⟨10, _⟩ => ⟨S1x4096x512, .bf16⟩
  | _, _ => ⟨S12288x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c8_i32_0 : BitVec 32 := 8#32
  let v1 : BitVec 32 := Scalar.subi arg1 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c16_i32 : BitVec 32 := 16#32
  let v21 : BitVec 32 := Scalar.addi c16_i32 v20
  let c6_i32 : BitVec 32 := 6#32
  let v22 : BitVec 32 := Scalar.muli v21 c6_i32
  let c2_i32 : BitVec 32 := 2#32
  let v23 : BitVec 32 := Scalar.addi v22 c2_i32
  let c0_i32_7 : BitVec 32 := 0#32
  let c0_i32_8 : BitVec 32 := 0#32
  ![v23.toNat, c0_i32_7.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DnOutRefIdeal.lean ====
abbrev S12288x4096 : Shape := ⟨2, ![12288, 4096]⟩
abbrev S1x4096x2048 : Shape := ⟨3, ![1, 4096, 2048]⟩
abbrev S12288x2048 : Shape := ⟨2, ![12288, 2048]⟩
abbrev S192x1x2048 : Shape := ⟨3, ![192, 1, 2048]⟩
abbrev S4x8x6x2048 : Shape := ⟨4, ![4, 8, 6, 2048]⟩
abbrev S1x8x1x2048 : Shape := ⟨4, ![1, 8, 1, 2048]⟩
abbrev S8x2048 : Shape := ⟨2, ![8, 2048]⟩
abbrev S1x2048 : Shape := ⟨2, ![1, 2048]⟩
abbrev S4096x2048 : Shape := ⟨2, ![4096, 2048]⟩
abbrev S4x2048 : Shape := ⟨2, ![4, 2048]⟩
abbrev S4x2048x2048 : Shape := ⟨3, ![4, 2048, 2048]⟩
abbrev S8192x2048 : Shape := ⟨2, ![8192, 2048]⟩

abbrev nBuf : Space → Nat
  | .hbm => 18
  | .vmem => 0
  | .smem => 0
  | _ => 0

abbrev bufTy : (tb : Table) → Fin (tcTables nBuf tb) → BufTy
  | .hbm, ⟨0, _⟩ => ⟨S12288x4096, .bf16⟩
  | .hbm, ⟨1, _⟩ => ⟨S1x4096x2048, .f32⟩
  | .hbm, ⟨2, _⟩ => ⟨S12288x2048, .f32⟩
  | .hbm, ⟨3, _⟩ => ⟨S192x1x2048, .f32⟩
  | .hbm, ⟨4, _⟩ => ⟨S4x8x6x2048, .f32⟩
  | .hbm, ⟨5, _⟩ => ⟨S1x8x1x2048, .f32⟩
  | .hbm, ⟨6, _⟩ => ⟨S8x2048, .f32⟩
  | .hbm, ⟨7, _⟩ => ⟨S1x2048, .f32⟩
  | .hbm, ⟨8, _⟩ => ⟨S4096x2048, .f32⟩
  | .hbm, ⟨9, _⟩ => ⟨S4x2048, .f32⟩
  | .hbm, ⟨10, _⟩ => ⟨S4x2048x2048, .f32⟩
  | .hbm, ⟨11, _⟩ => ⟨S8192x2048, .f32⟩
  | .hbm, ⟨12, _⟩ => ⟨S12288x2048, .f32⟩
  | .hbm, ⟨13, _⟩ => ⟨S12288x4096, .f32⟩
  | .hbm, ⟨14, _⟩ => ⟨S4096x2048, .f32⟩
  | .hbm, ⟨15, _⟩ => ⟨S12288x2048, .f32⟩
  | .hbm, ⟨16, _⟩ => ⟨S12288x2048, .f32⟩
  | .hbm, ⟨17, _⟩ => ⟨S12288x2048, .f32⟩
  | _, _ => ⟨S12288x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Fin.lean ====
abbrev S12288x2048 : Shape := ⟨2, ![12288, 2048]⟩
abbrev S2048 : Shape := ⟨1, ![2048]⟩
abbrev S1x2048 : Shape := ⟨2, ![1, 2048]⟩
abbrev S4096x2048 : Shape := ⟨2, ![4096, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S1x2048, .f32⟩
  | .hbm, ⟨3, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinRefIdeal.lean ====
abbrev S12288x2048 : Shape := ⟨2, ![12288, 2048]⟩
abbrev S2048 : Shape := ⟨1, ![2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FinS.lean ====
abbrev S12288x2048 : Shape := ⟨2, ![12288, 2048]⟩
abbrev S2048 : Shape := ⟨1, ![2048]⟩
abbrev S1x2048 : Shape := ⟨2, ![1, 2048]⟩
abbrev S8192x2048 : Shape := ⟨2, ![8192, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinSRefIdeal.lean ====
abbrev S12288x2048 : Shape := ⟨2, ![12288, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Ada.lean ====
abbrev S8x2048 : Shape := ⟨2, ![8, 2048]⟩
abbrev S4x2048x12288 : Shape := ⟨3, ![4, 2048, 12288]⟩
abbrev S4x12288 : Shape := ⟨2, ![4, 12288]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S4x1x12288, .f32⟩
  | .hbm, ⟨4, _⟩ => ⟨S4x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x2048 : Shape := ⟨2, ![8, 2048]⟩
abbrev S4x2048x12288 : Shape := ⟨3, ![4, 2048, 12288]⟩
abbrev S4x12288 : Shape := ⟨2, ![4, 12288]⟩
abbrev S_ : Shape := ⟨0, ![]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S4x12288x8, .f32⟩
  | .hbm, ⟨13, _⟩ => ⟨S4x8x12288, .f32⟩
  | .hbm, ⟨14, _⟩ => ⟨S4x1x12288, .f32⟩
  | .hbm, ⟨15, _⟩ => ⟨S4x8x12288, .f32⟩
  | .hbm, ⟨16, _⟩ => ⟨S4x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Router.lean ====
abbrev S12288x2048 : Shape := ⟨2, ![12288, 2048]⟩
abbrev S2048 : Shape := ⟨1, ![2048]⟩
abbrev S192x1x2048 : Shape := ⟨3, ![192, 1, 2048]⟩
abbrev S2048x16 : Shape := ⟨2, ![2048, 16]⟩
abbrev S1x2048 : Shape := ⟨2, ![1, 2048]⟩
abbrev S12288x16 : Shape := ⟨2, ![12288, 16]⟩
abbrev S256x2048 : Shape := ⟨2, ![256, 2048]⟩
abbrev S1x1x2048 : Shape := ⟨3, ![1, 1, 2048]⟩
abbrev S256x16 : Shape := ⟨2, ![256, 16]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S192x1x2048, .f32⟩
  | .hbm, ⟨3, _⟩ => ⟨S2048x16, .f32⟩
  | .hbm, ⟨4, _⟩ => ⟨S1x2048, .f32⟩
  | .hbm, ⟨5, _⟩ => ⟨S12288x2048, .bf16⟩
  | .hbm, ⟨6, _⟩ => ⟨S12288x16, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x16, .f32⟩
  | .local _ .vmem, ⟨8, _⟩ => ⟨S256x2048, .bf16⟩
  | .local _ .vmem, ⟨9, _⟩ => ⟨S256x2048, .bf16⟩
  | .local _ .vmem, ⟨10, _⟩ => ⟨S256x16, .f32⟩
  | .local _ .vmem, ⟨11, _⟩ => ⟨S256x16, .f32⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let v21 : BitVec 32 := Scalar.addi c0_i32_7 v20
  let c6_i32 : BitVec 32 := 6#32
  let v22 : BitVec 32 := Scalar.muli v21 c6_i32
  let c3_i32 : BitVec 32 := 3#32
  let v23 : BitVec 32 := Scalar.addi v22 c3_i32
  let c0_i32_8 : BitVec 32 := 0#32
  let c0_i32_9 : BitVec 32 := 0#32
  let c0_i32_10 : BitVec 32 := 0#32
  ![v23.toNat, c0_i32_8.toNat, c0_i32_9.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let v21 : BitVec 32 := Scalar.addi c0_i32_7 v20
  let c6_i32 : BitVec 32 := 6#32
  let v22 : BitVec 32 := Scalar.muli v21 c6_i32
  let c4_i32 : BitVec 32 := 4#32
  let v23 : BitVec 32 := Scalar.addi v22 c4_i32
  let c0_i32_8 : BitVec 32 := 0#32
  let c0_i32_9 : BitVec 32 := 0#32
  let c0_i32_10 : BitVec 32 := 0#32
  ![v23.toNat, c0_i32_8.toNat, c0_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RouterRefIdeal.lean ====
abbrev S12288x2048 : Shape := ⟨2, ![12288, 2048]⟩
abbrev S2048 : Shape := ⟨1, ![2048]⟩
abbrev S192x1x2048 : Shape := ⟨3, ![192, 1, 2048]⟩
abbrev S2048x16 : Shape := ⟨2, ![2048, 16]⟩
abbrev S_ : Shape := ⟨0, ![]⟩
abbrev S12288 : Shape := ⟨1, ![12288]⟩
abbrev S12288x1 : Shape := ⟨2, ![12288, 1]⟩
abbrev S1x2048 : Shape := ⟨2, ![1, 2048]⟩
abbrev S4x8x6x2048 : Shape := ⟨4, ![4, 8, 6, 2048]⟩
abbrev S1x8x1x2048 : Shape := ⟨4, ![1, 8, 1, 2048]⟩
abbrev S8x2048 : Shape := ⟨2, ![8, 2048]⟩
abbrev S4096x2048 : Shape := ⟨2, ![4096, 2048]⟩
abbrev S4x2048 : Shape := ⟨2, ![4, 2048]⟩
abbrev S4x2048x2048 : Shape := ⟨3, ![4, 2048, 2048]⟩
abbrev S8192x2048 : Shape := ⟨2, ![8192, 2048]⟩
abbrev S12288x16 : Shape := ⟨2, ![12288, 16]⟩

abbrev nBuf : Space → Nat
  | .hbm => 59
  | .vmem => 0
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S192x1x2048, .f32⟩
  | .hbm, ⟨3, _⟩ => ⟨S2048x16, .f32⟩
  | .hbm, ⟨4, _⟩ => ⟨S12288x2048, .f32⟩
  | .hbm, ⟨5, _⟩ => ⟨S_, .f32⟩
  | .hbm, ⟨6, _⟩ => ⟨S12288, .f32⟩
  | .hbm, ⟨7, _⟩ => ⟨S12288x1, .f32⟩
  | .hbm, ⟨8, _⟩ => ⟨S_, .f32⟩
  | .hbm, ⟨9, _⟩ => ⟨S12288x1, .f32⟩
  | .hbm, ⟨10, _⟩ => ⟨S12288x1, .f32⟩
  | .hbm, ⟨11, _⟩ => ⟨S_, .f32⟩
  | .hbm, ⟨12, _⟩ => ⟨S12288x1, .f32⟩
  | .hbm, ⟨13, _⟩ => ⟨S12288x1, .f32⟩
  | .hbm, ⟨14, _⟩ => ⟨S12288x1, .f32⟩
  | .hbm, ⟨15, _⟩ => ⟨S12288x2048, .f32⟩
  | .hbm, ⟨16, _⟩ => ⟨S12288x2048, .f32⟩
  | .hbm, ⟨17, _⟩ => ⟨S1x2048, .f32⟩
  | .hbm, ⟨18, _⟩ => ⟨S12288x2048, .f32⟩
  | .hbm, ⟨19, _⟩ => ⟨S12288x2048, .f32⟩
  | .hbm, ⟨20, _⟩ => ⟨S4x8x6x2048, .f32⟩
  | .hbm, ⟨21, _⟩ => ⟨S1x8x1x2048, .f32⟩
  | .hbm, ⟨22, _⟩ => ⟨S8x2048, .f32⟩
  | .hbm, ⟨23, _⟩ => ⟨S1x2048, .f32⟩
  | .hbm, ⟨24, _⟩ => ⟨S4096x2048, .f32⟩
  | .hbm, ⟨25, _⟩ => ⟨S4x2048, .f32⟩
  | .hbm, ⟨26, _⟩ => ⟨S4x2048x2048, .f32⟩
  | .hbm, ⟨27, _⟩ => ⟨S8192x2048, .f32⟩
  | .hbm, ⟨28, _⟩ => ⟨S12288x2048, .f32⟩
  | .hbm, ⟨29, _⟩ => ⟨S_, .f32⟩
  | .hbm, ⟨30, _⟩ => ⟨S12288x2048, .f32⟩
  | .hbm, ⟨31, _⟩ => ⟨S12288x2048, .f32⟩
  | .hbm, ⟨32, _⟩ => ⟨S12288x2048, .f32⟩
  | .hbm, ⟨33, _⟩ => ⟨S4x8x6x2048, .f32⟩
  | .hbm, ⟨34, _⟩ => ⟨S1x8x1x2048, .f32⟩
  | .hbm, ⟨35, _⟩ => ⟨S8x2048, .f32⟩
  | .hbm, ⟨36, _⟩ => ⟨S1x2048, .f32⟩
  | .hbm, ⟨37, _⟩ => ⟨S4096x2048, .f32⟩
  | .hbm, ⟨38, _⟩ => ⟨S4x2048, .f32⟩
  | .hbm, ⟨39, _⟩ => ⟨S4x2048x2048, .f32⟩
  | .hbm, ⟨40, _⟩ => ⟨S8192x2048, .f32⟩
  | .hbm, ⟨41, _⟩ => ⟨S12288x2048, .f32⟩
  | .hbm, ⟨42, _⟩ => ⟨S12288x2048, .f32⟩
  | .hbm, ⟨43, _⟩ => ⟨S12288x2048, .bf16⟩
  | .hbm, ⟨44, _⟩ => ⟨S12288x16, .f32⟩
  | .hbm, ⟨45, _⟩ => ⟨S_, .f32⟩
  | .hbm, ⟨46, _⟩ => ⟨S12288, .f32⟩
  | .hbm, ⟨47, _⟩ => ⟨S_, .f32⟩
  | .hbm, ⟨48, _⟩ => ⟨S12288, .f32⟩
  | .hbm, ⟨49, _⟩ => ⟨S12288, .f32⟩
  | .hbm, ⟨50, _⟩ => ⟨S12288x1, .f32⟩
  | .hbm, ⟨51, _⟩ => ⟨S12288x16, .f32⟩
  | .hbm, ⟨52, _⟩ => ⟨S12288x16, .f32⟩
  | .hbm, ⟨53, _⟩ => ⟨S12288x16, .f32⟩
  | .hbm, ⟨54, _⟩ => ⟨S_, .f32⟩
  | .hbm, ⟨55, _⟩ => ⟨S12288, .f32⟩
  | .hbm, ⟨56, _⟩ => ⟨S12288x1, .f32⟩
  | .hbm, ⟨57, _⟩ => ⟨S12288x16, .f32⟩
  | .hbm, ⟨58, _⟩ => ⟨S12288x16, .f32⟩
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== Rope.lean ====
abbrev S12288x3072 : Shape := ⟨2, ![12288, 3072]⟩
abbrev S2048x64 : Shape := ⟨2, ![2048, 64]⟩
abbrev S2048x128 : Shape := ⟨2, ![2048, 128]⟩
abbrev S8192x3072 : Shape := ⟨2, ![8192, 3072]⟩
abbrev S256x3072 : Shape := ⟨2, ![256, 3072]⟩
abbrev S256x128 : Shape := ⟨2, ![256, 128]⟩

abbrev nBuf : Space → Nat
  | .hbm => 7
  | .vmem => 8
  | .smem => 0
  | _ => 0

abbrev bufTy : (tb : Table) → Fin (tcTables nBuf tb) → BufTy
  | .hbm, ⟨0, _⟩ => ⟨S12288x3072, .f32⟩
  | .hbm, ⟨1, _⟩ => ⟨S2048x64, .f32⟩
  | .hbm, ⟨2, _⟩ => ⟨S2048x64, .f32⟩
  | .hbm, ⟨3, _⟩ => ⟨S2048x128, .f32⟩
  | .hbm, ⟨4, _⟩ => ⟨S2048x64, .f32⟩
  | .hbm, ⟨5, _⟩ => ⟨S2048x128, .f32⟩
  | .hbm, ⟨6, _⟩ => ⟨S8192x3072, .bf16⟩
  | .local _ .vmem, ⟨0, _⟩ => ⟨S256x3072, .f32⟩
  | .local _ .vmem, ⟨1, _⟩ => ⟨S256x3072, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x3072, .bf16⟩
  | .local _ .vmem, ⟨7, _⟩ => ⟨S256x3072, .bf16⟩
  | _, _ => ⟨S12288x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeRefIdeal.lean ====
abbrev S12288x3072 : Shape := ⟨2, ![12288, 3072]⟩
abbrev S2048x64 : Shape := ⟨2, ![2048, 64]⟩
abbrev S8192x3072 : Shape := ⟨2, ![8192, 3072]⟩
abbrev S4x2048x24x128 : Shape := ⟨4, ![4, 2048, 24, 128]⟩
abbrev S4x2048x20x128 : Shape := ⟨4, ![4, 2048, 20, 128]⟩
abbrev S4x2048x20x64 : Shape := ⟨4, ![4, 2048, 20, 64]⟩
abbrev S1x2048x1x64 : Shape := ⟨4, ![1, 2048, 1, 64]⟩
abbrev S4x2048x4x128 : Shape := ⟨4, ![4, 2048, 4, 128]⟩

abbrev nBuf : Space → Nat
  | .hbm => 25
  | .vmem => 0
  | .smem => 0
  | _ => 0

abbrev bufTy : (tb : Table) → Fin (tcTables nBuf tb) → BufTy
  | .hbm, ⟨0, _⟩ => ⟨S12288x3072, .f32⟩
  | .hbm, ⟨1, _⟩ => ⟨S2048x64, .f32⟩
  | .hbm, ⟨2, _⟩ => ⟨S2048x64, .f32⟩
  | .hbm, ⟨3, _⟩ => ⟨S8192x3072, .f32⟩
  | .hbm, ⟨4, _⟩ => ⟨S4x2048x24x128, .f32⟩
  | .hbm, ⟨5, _⟩ => ⟨S4x2048x20x128, .f32⟩
  | .hbm, ⟨6, _⟩ => ⟨S4x2048x20x64, .f32⟩
  | .hbm, ⟨7, _⟩ => ⟨S4x2048x20x64, .f32⟩
  | .hbm, ⟨8, _⟩ => ⟨S1x2048x1x64, .f32⟩
  | .hbm, ⟨9, _⟩ => ⟨S1x2048x1x64, .f32⟩
  | .hbm, ⟨10, _⟩ => ⟨S4x2048x20x64, .f32⟩
  | .hbm, ⟨11, _⟩ => ⟨S4x2048x20x64, .f32⟩
  | .hbm, ⟨12, _⟩ => ⟨S4x2048x20x64, .f32⟩
  | .hbm, ⟨13, _⟩ => ⟨S4x2048x20x64, .f32⟩
  | .hbm, ⟨14, _⟩ => ⟨S4x2048x20x64, .f32⟩
  | .hbm, ⟨15, _⟩ => ⟨S4x2048x20x64, .f32⟩
  | .hbm, ⟨16, _⟩ => ⟨S4x2048x20x64, .f32⟩
  | .hbm, ⟨17, _⟩ => ⟨S4x2048x20x64, .f32⟩
  | .hbm, ⟨18, _⟩ => ⟨S4x2048x20x64, .f32⟩
  | .hbm, ⟨19, _⟩ => ⟨S4x2048x20x64, .f32⟩
  | .hbm, ⟨20, _⟩ => ⟨S4x2048x20x128, .f32⟩
  | .hbm, ⟨21, _⟩ => ⟨S4x2048x4x128, .f32⟩
  | .hbm, ⟨22, _⟩ => ⟨S4x2048x24x128, .f32⟩
  | .hbm, ⟨23, _⟩ => ⟨S8192x3072, .f32⟩
  | .hbm, ⟨24, _⟩ => ⟨S8192x3072, .bf16⟩
  | _, _ => ⟨S12288x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Gates.lean ====
abbrev S12288x128 : Shape := ⟨2, ![12288, 128]⟩
abbrev S2x32 : Shape := ⟨2, ![2, 32]⟩
abbrev S1x64 : Shape := ⟨2, ![1, 64]⟩
abbrev S_ : Shape := ⟨0, ![]⟩
abbrev S1x128 : Shape := ⟨2, ![1, 128]⟩
abbrev S1024x128 : Shape := ⟨2, ![1024, 128]⟩

abbrev nBuf : Space → Nat
  | .hbm => 12
  | .vmem => 6
  | .smem => 0
  | _ => 0

abbrev bufTy : (tb : Table) → Fin (tcTables nBuf tb) → BufTy
  | .hbm, ⟨0, _⟩ => ⟨S12288x128, .f32⟩
  | .hbm, ⟨1, _⟩ => ⟨S2x32, .f32⟩
  | .hbm, ⟨2, _⟩ => ⟨S2x32, .f32⟩
  | .hbm, ⟨3, _⟩ => ⟨S1x64, .f32⟩
  | .hbm, ⟨4, _⟩ => ⟨S_, .i32⟩
  | .hbm, ⟨5, _⟩ => ⟨S_, .f32⟩
  | .hbm, ⟨6, _⟩ => ⟨S1x128, .f32⟩
  | .hbm, ⟨7, _⟩ => ⟨S1x64, .f32⟩
  | .hbm, ⟨8, _⟩ => ⟨S_, .i32⟩
  | .hbm, ⟨9, _⟩ => ⟨S_, .f32⟩
  | .hbm, ⟨10, _⟩ => ⟨S1x128, .f32⟩
  | .hbm, ⟨11, _⟩ => ⟨S12288x128, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GatesRefIdeal.lean ====
abbrev S12288x128 : Shape := ⟨2, ![12288, 128]⟩
abbrev S2x32 : Shape := ⟨2, ![2, 32]⟩
abbrev S12288x4x32 : Shape := ⟨3, ![12288, 4, 32]⟩
abbrev S12288x2x32 : Shape := ⟨3, ![12288, 2, 32]⟩
abbrev S1x2x32 : Shape := ⟨3, ![1, 2, 32]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S12288x128, .f32⟩
  | .hbm, ⟨1, _⟩ => ⟨S2x32, .f32⟩
  | .hbm, ⟨2, _⟩ => ⟨S2x32, .f32⟩
  | .hbm, ⟨3, _⟩ => ⟨S12288x4x32, .f32⟩
  | .hbm, ⟨4, _⟩ => ⟨S2x32, .f32⟩
  | .hbm, ⟨5, _⟩ => ⟨S2x32, .f32⟩
  | .hbm, ⟨6, _⟩ => ⟨S12288x2x32, .f32⟩
  | .hbm, ⟨7, _⟩ => ⟨S1x2x32, .f32⟩
  | .hbm, ⟨8, _⟩ => ⟨S12288x2x32, .f32⟩
  | .hbm, ⟨9, _⟩ => ⟨S12288x2x32, .f32⟩
  | .hbm, ⟨10, _⟩ => ⟨S_, .f32⟩
  | .hbm, ⟨11, _⟩ => ⟨S12288x2x32, .f32⟩
  | .hbm, ⟨12, _⟩ => ⟨S12288x2x32, .f32⟩
  | .hbm, ⟨13, _⟩ => ⟨S12288x2x32, .f32⟩
  | .hbm, ⟨14, _⟩ => ⟨S12288x2x32, .f32⟩
  | .hbm, ⟨15, _⟩ => ⟨S12288x2x32, .i1⟩
  | .hbm, ⟨16, _⟩ => ⟨S12288x2x32, .f32⟩
  | .hbm, ⟨17, _⟩ => ⟨S12288x2x32, .f32⟩
  | .hbm, ⟨18, _⟩ => ⟨S12288x2x32, .f32⟩
  | .hbm, ⟨19, _⟩ => ⟨S12288x2x32, .f32⟩
  | .hbm, ⟨20, _⟩ => ⟨S12288x2x32, .f32⟩
  | .hbm, ⟨21, _⟩ => ⟨S12288x2x32, .f32⟩
  | .hbm, ⟨22, _⟩ => ⟨S12288x2x32, .f32⟩
  | .hbm, ⟨23, _⟩ => ⟨S12288x2x32, .f32⟩
  | .hbm, ⟨24, _⟩ => ⟨S1x2x32, .f32⟩
  | .hbm, ⟨25, _⟩ => ⟨S12288x2x32, .f32⟩
  | .hbm, ⟨26, _⟩ => ⟨S12288x2x32, .f32⟩
  | .hbm, ⟨27, _⟩ => ⟨S12288x2x32, .f32⟩
  | .hbm, ⟨28, _⟩ => ⟨S12288x2x32, .f32⟩
  | .hbm, ⟨29, _⟩ => ⟨S12288x2x32, .f32⟩
  | .hbm, ⟨30, _⟩ => ⟨S_, .f32⟩
  | .hbm, ⟨31, _⟩ => ⟨S12288x2x32, .f32⟩
  | .hbm, ⟨32, _⟩ => ⟨S12288x2x32, .f32⟩
  | .hbm, ⟨33, _⟩ => ⟨S_, .f32⟩
  | .hbm, ⟨34, _⟩ => ⟨S12288x2x32, .f32⟩
  | .hbm, ⟨35, _⟩ => ⟨S12288x2x32, .f32⟩
  | .hbm, ⟨36, _⟩ => ⟨S12288x4x32, .f32⟩
  | .hbm, ⟨37, _⟩ => ⟨S12288x128, .f32⟩
  | _, _ => ⟨S12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]
-- ==== DnNorm.lean ====
abbrev S12288x4096 : Shape := ⟨2, ![12288, 4096]⟩
abbrev S12288x12288 : Shape := ⟨2, ![12288, 12288]⟩
abbrev S128 : Shape := ⟨1, ![128]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S12288x4096, .f32⟩
  | .hbm, ⟨1, _⟩ => ⟨S12288x4096, .f32⟩
  | .hbm, ⟨2, _⟩ => ⟨S12288x12288, .f32⟩
  | .hbm, ⟨3, _⟩ => ⟨S128, .f32⟩
  | .hbm, ⟨4, _⟩ => ⟨S1x128, .f32⟩
  | .hbm, ⟨5, _⟩ => ⟨S12288x4096, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | .local _ .vmem, ⟨7, _⟩ => ⟨S256x1024, .bf16⟩
  | .local _ .vmem, ⟨8, _⟩ => ⟨S256x1024, .bf16⟩
  | _, _ => ⟨S12288x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![48, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DnNormRefIdeal.lean ====
abbrev S12288x4096 : Shape := ⟨2, ![12288, 4096]⟩
abbrev S12288x12288 : Shape := ⟨2, ![12288, 12288]⟩
abbrev S128 : Shape := ⟨1, ![128]⟩
abbrev S12288x32x128 : Shape := ⟨3, ![12288, 32, 128]⟩
abbrev S_ : Shape := ⟨0, ![]⟩
abbrev S12288x32 : Shape := ⟨2, ![12288, 32]⟩
abbrev S12288x32x1 : Shape := ⟨3, ![12288, 32, 1]⟩
abbrev S1x1x128 : Shape := ⟨3, ![1, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S12288x4096, .f32⟩
  | .hbm, ⟨1, _⟩ => ⟨S12288x4096, .f32⟩
  | .hbm, ⟨2, _⟩ => ⟨S12288x12288, .f32⟩
  | .hbm, ⟨3, _⟩ => ⟨S128, .f32⟩
  | .hbm, ⟨4, _⟩ => ⟨S12288x4096, .f32⟩
  | .hbm, ⟨5, _⟩ => ⟨S12288x32x128, .f32⟩
  | .hbm, ⟨6, _⟩ => ⟨S12288x4096, .f32⟩
  | .hbm, ⟨7, _⟩ => ⟨S12288x32x128, .f32⟩
  | .hbm, ⟨8, _⟩ => ⟨S12288x32x128, .f32⟩
  | .hbm, ⟨9, _⟩ => ⟨S_, .f32⟩
  | .hbm, ⟨10, _⟩ => ⟨S12288x32, .f32⟩
  | .hbm, ⟨11, _⟩ => ⟨S12288x32x1, .f32⟩
  | .hbm, ⟨12, _⟩ => ⟨S_, .f32⟩
  | .hbm, ⟨13, _⟩ => ⟨S12288x32x1, .f32⟩
  | .hbm, ⟨14, _⟩ => ⟨S12288x32x1, .f32⟩
  | .hbm, ⟨15, _⟩ => ⟨S_, .f32⟩
  | .hbm, ⟨16, _⟩ => ⟨S12288x32x1, .f32⟩
  | .hbm, ⟨17, _⟩ => ⟨S12288x32x1, .f32⟩
  | .hbm, ⟨18, _⟩ => ⟨S12288x32x1, .f32⟩
  | .hbm, ⟨19, _⟩ => ⟨S12288x32x128, .f32⟩
  | .hbm, ⟨20, _⟩ => ⟨S12288x32x128, .f32⟩
  | .hbm, ⟨21, _⟩ => ⟨S1x1x128, .f32⟩
  | .hbm, ⟨22, _⟩ => ⟨S12288x32x128, .f32⟩
  | .hbm, ⟨23, _⟩ => ⟨S12288x32x128, .f32⟩
  | .hbm, ⟨24, _⟩ => ⟨S12288x32x128, .f32⟩
  | .hbm, ⟨25, _⟩ => ⟨S12288x32x128, .f32⟩
  | .hbm, ⟨26, _⟩ => ⟨S_, .f32⟩
  | .hbm, ⟨27, _⟩ => ⟨S12288x32x128, .f32⟩
  | .hbm, ⟨28, _⟩ => ⟨S12288x32x128, .f32⟩
  | .hbm, ⟨29, _⟩ => ⟨S_, .f32⟩
  | .hbm, ⟨30, _⟩ => ⟨S12288x32x128, .f32⟩
  | .hbm, ⟨31, _⟩ => ⟨S12288x32x128, .f32⟩
  | .hbm, ⟨32, _⟩ => ⟨S12288x32x128, .f32⟩
  | .hbm, ⟨33, _⟩ => ⟨S12288x32x128, .f32⟩
  | .hbm, ⟨34, _⟩ => ⟨S12288x4096, .f32⟩
  | .hbm, ⟨35, _⟩ => ⟨S12288x4096, .bf16⟩
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Norm.lean ====
abbrev S12288x2048 : Shape := ⟨2, ![12288, 2048]⟩
abbrev S2048 : Shape := ⟨1, ![2048]⟩
abbrev S192x1x2048 : Shape := ⟨3, ![192, 1, 2048]⟩
abbrev S1x2048 : Shape := ⟨2, ![1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S192x1x2048, .f32⟩
  | .hbm, ⟨3, _⟩ => ⟨S1x2048, .f32⟩
  | .hbm, ⟨4, _⟩ => ⟨S12288x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S256x2048, .bf16⟩
  | .local _ .vmem, ⟨8, _⟩ => ⟨S256x2048, .bf16⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let v21 : BitVec 32 := Scalar.addi c0_i32_7 v20
  let c6_i32 : BitVec 32 := 6#32
  let v22 : BitVec 32 := Scalar.muli v21 c6_i32
  let c0_i32_8 : BitVec 32 := 0#32
  let v23 : BitVec 32 := Scalar.addi v22 c0_i32_8
  let c0_i32_9 : BitVec 32 := 0#32
  let c0_i32_10 : BitVec 32 := 0#32
  let c0_i32_11 : BitVec 32 := 0#32
  ![v23.toNat, c0_i32_9.toNat, c0_i32_10.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let v21 : BitVec 32 := Scalar.addi c0_i32_7 v20
  let c6_i32 : BitVec 32 := 6#32
  let v22 : BitVec 32 := Scalar.muli v21 c6_i32
  let c1_i32_8 : BitVec 32 := 1#32
  let v23 : BitVec 32 := Scalar.addi v22 c1_i32_8
  let c0_i32_9 : BitVec 32 := 0#32
  let c0_i32_10 : BitVec 32 := 0#32
  let c0_i32_11 : BitVec 32 := 0#32
  ![v23.toNat, c0_i32_9.toNat, c0_i32_10.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S12288x2048 : Shape := ⟨2, ![12288, 2048]⟩
abbrev S2048 : Shape := ⟨1, ![2048]⟩
abbrev S192x1x2048 : Shape := ⟨3, ![192, 1, 2048]⟩
abbrev S_ : Shape := ⟨0, ![]⟩
abbrev S12288 : Shape := ⟨1, ![12288]⟩
abbrev S12288x1 : Shape := ⟨2, ![12288, 1]⟩
abbrev S1x2048 : Shape := ⟨2, ![1, 2048]⟩
abbrev S4x8x6x2048 : Shape := ⟨4, ![4, 8, 6, 2048]⟩
abbrev S1x8x1x2048 : Shape := ⟨4, ![1, 8, 1, 2048]⟩
abbrev S8x2048 : Shape := ⟨2, ![8, 2048]⟩
abbrev S4096x2048 : Shape := ⟨2, ![4096, 2048]⟩
abbrev S4x2048 : Shape := ⟨2, ![4, 2048]⟩
abbrev S4x2048x2048 : Shape := ⟨3, ![4, 2048, 2048]⟩
abbrev S8192x2048 : Shape := ⟨2, ![8192, 2048]⟩

abbrev nBuf : Space → Nat
  | .hbm => 43
  | .vmem => 0
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S192x1x2048, .f32⟩
  | .hbm, ⟨3, _⟩ => ⟨S12288x2048, .f32⟩
  | .hbm, ⟨4, _⟩ => ⟨S_, .f32⟩
  | .hbm, ⟨5, _⟩ => ⟨S12288, .f32⟩
  | .hbm, ⟨6, _⟩ => ⟨S12288x1, .f32⟩
  | .hbm, ⟨7, _⟩ => ⟨S_, .f32⟩
  | .hbm, ⟨8, _⟩ => ⟨S12288x1, .f32⟩
  | .hbm, ⟨9, _⟩ => ⟨S12288x1, .f32⟩
  | .hbm, ⟨10, _⟩ => ⟨S_, .f32⟩
  | .hbm, ⟨11, _⟩ => ⟨S12288x1, .f32⟩
  | .hbm, ⟨12, _⟩ => ⟨S12288x1, .f32⟩
  | .hbm, ⟨13, _⟩ => ⟨S12288x1, .f32⟩
  | .hbm, ⟨14, _⟩ => ⟨S12288x2048, .f32⟩
  | .hbm, ⟨15, _⟩ => ⟨S12288x2048, .f32⟩
  | .hbm, ⟨16, _⟩ => ⟨S1x2048, .f32⟩
  | .hbm, ⟨17, _⟩ => ⟨S12288x2048, .f32⟩
  | .hbm, ⟨18, _⟩ => ⟨S12288x2048, .f32⟩
  | .hbm, ⟨19, _⟩ => ⟨S4x8x6x2048, .f32⟩
  | .hbm, ⟨20, _⟩ => ⟨S1x8x1x2048, .f32⟩
  | .hbm, ⟨21, _⟩ => ⟨S8x2048, .f32⟩
  | .hbm, ⟨22, _⟩ => ⟨S1x2048, .f32⟩
  | .hbm, ⟨23, _⟩ => ⟨S4096x2048, .f32⟩
  | .hbm, ⟨24, _⟩ => ⟨S4x2048, .f32⟩
  | .hbm, ⟨25, _⟩ => ⟨S4x2048x2048, .f32⟩
  | .hbm, ⟨26, _⟩ => ⟨S8192x2048, .f32⟩
  | .hbm, ⟨27, _⟩ => ⟨S12288x2048, .f32⟩
  | .hbm, ⟨28, _⟩ => ⟨S_, .f32⟩
  | .hbm, ⟨29, _⟩ => ⟨S12288x2048, .f32⟩
  | .hbm, ⟨30, _⟩ => ⟨S12288x2048, .f32⟩
  | .hbm, ⟨31, _⟩ => ⟨S12288x2048, .f32⟩
  | .hbm, ⟨32, _⟩ => ⟨S4x8x6x2048, .f32⟩
  | .hbm, ⟨33, _⟩ => ⟨S1x8x1x2048, .f32⟩
  | .hbm, ⟨34, _⟩ => ⟨S8x2048, .f32⟩
  | .hbm, ⟨35, _⟩ => ⟨S1x2048, .f32⟩
  | .hbm, ⟨36, _⟩ => ⟨S4096x2048, .f32⟩
  | .hbm, ⟨37, _⟩ => ⟨S4x2048, .f32⟩
  | .hbm, ⟨38, _⟩ => ⟨S4x2048x2048, .f32⟩
  | .hbm, ⟨39, _⟩ => ⟨S8192x2048, .f32⟩
  | .hbm, ⟨40, _⟩ => ⟨S12288x2048, .f32⟩
  | .hbm, ⟨41, _⟩ => ⟨S12288x2048, .f32⟩
  | .hbm, ⟨42, _⟩ => ⟨S12288x2048, .bf16⟩
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Ctx.lean ====
abbrev S12288x3072 : Shape := ⟨2, ![12288, 3072]⟩
abbrev S16 : Shape := ⟨1, ![16]⟩
abbrev S12288x2048 : Shape := ⟨2, ![12288, 2048]⟩
abbrev S256x512 : Shape := ⟨2, ![256, 512]⟩
abbrev S256x128 : Shape := ⟨2, ![256, 128]⟩
abbrev S1024x128 : Shape := ⟨2, ![1024, 128]⟩
abbrev S1024x256 : Shape := ⟨2, ![1024, 256]⟩
abbrev S1 : Shape := ⟨1, ![1]⟩
abbrev S256x1 : Shape := ⟨2, ![256, 1]⟩
abbrev S1024x1 : Shape := ⟨2, ![1024, 1]⟩
abbrev S1024 : Shape := ⟨1, ![1024]⟩
abbrev S4096x2048 : Shape := ⟨2, ![4096, 2048]⟩

abbrev nBuf : Space → Nat
  | .hbm => 4
  | .vmem => 8
  | .smem => 1
  | _ => 0

abbrev bufTy : (tb : Table) → Fin (tcTables nBuf tb) → BufTy
  | .hbm, ⟨0, _⟩ => ⟨S12288x3072, .f32⟩
  | .hbm, ⟨1, _⟩ => ⟨S16, .f32⟩
  | .hbm, ⟨2, _⟩ => ⟨S12288x2048, .bf16⟩
  | .hbm, ⟨3, _⟩ => ⟨S4096x2048, .bf16⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .bf16⟩
  | .local _ .vmem, ⟨7, _⟩ => ⟨S256x512, .bf16⟩
  | .local _ .smem, ⟨0, _⟩ => ⟨S16, .f32⟩
  | _, _ => ⟨S12288x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_off1 (i : grid0.Coords) (c0_i32 : BitVec 32) : Fin 1 → Nat :=
  let arg1 : BitVec 32 := BitVec.ofNat 32 (i 1).val
  let c4_i32 : BitVec 32 := 4#32
  let v14 : BitVec 32 := Scalar.muli arg1 c4_i32
  let v15 : BitVec 32 := Scalar.addi v14 c0_i32
  let v16 : Index := Scalar.indexCast v15
  ![v16.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CtxRefIdeal.lean ====
abbrev S12288x3072 : Shape := ⟨2, ![12288, 3072]⟩
abbrev S16 : Shape := ⟨1, ![16]⟩
abbrev S4096x3072 : Shape := ⟨2, ![4096, 3072]⟩
abbrev S4096x2048 : Shape := ⟨2, ![4096, 2048]⟩
abbrev S16x256x4x4x128 : Shape := ⟨5, ![16, 256, 4, 4, 128]⟩
abbrev S4096x512 : Shape := ⟨2, ![4096, 512]⟩
abbrev S16x256x4x128 : Shape := ⟨4, ![16, 256, 4, 128]⟩
abbrev S16x4x256x256x4 : Shape := ⟨5, ![16, 4, 256, 256, 4]⟩
abbrev S16x4x4x256x256 : Shape := ⟨5, ![16, 4, 4, 256, 256]⟩
abbrev S_ : Shape := ⟨0, ![]⟩
abbrev S4x4x1x1 : Shape := ⟨4, ![4, 4, 1, 1]⟩
abbrev S16x4x4x256x1 : Shape := ⟨5, ![16, 4, 4, 256, 1]⟩
abbrev S16x4x4x256x257 : Shape := ⟨5, ![16, 4, 4, 256, 257]⟩
abbrev S16x4x4x256 : Shape := ⟨4, ![16, 4, 4, 256]⟩
abbrev S16x4x128x4x256 : Shape := ⟨5, ![16, 4, 128, 4, 256]⟩

abbrev nBuf : Space → Nat
  | .hbm => 36
  | .vmem => 0
  | .smem => 0
  | _ => 0

abbrev bufTy : (tb : Table) → Fin (tcTables nBuf tb) → BufTy
  | .hbm, ⟨0, _⟩ => ⟨S12288x3072, .f32⟩
  | .hbm, ⟨1, _⟩ => ⟨S16, .f32⟩
  | .hbm, ⟨2, _⟩ => ⟨S4096x3072, .f32⟩
  | .hbm, ⟨3, _⟩ => ⟨S4096x2048, .f32⟩
  | .hbm, ⟨4, _⟩ => ⟨S16x256x4x4x128, .f32⟩
  | .hbm, ⟨5, _⟩ => ⟨S4096x512, .f32⟩
  | .hbm, ⟨6, _⟩ => ⟨S16x256x4x128, .f32⟩
  | .hbm, ⟨7, _⟩ => ⟨S4096x512, .f32⟩
  | .hbm, ⟨8, _⟩ => ⟨S16x256x4x128, .f32⟩
  | .hbm, ⟨9, _⟩ => ⟨S16x4x256x256x4, .f32⟩
  | .hbm, ⟨10, _⟩ => ⟨S16x4x4x256x256, .f32⟩
  | .hbm, ⟨11, _⟩ => ⟨S_, .f32⟩
  | .hbm, ⟨12, _⟩ => ⟨S16x4x4x256x256, .f32⟩
  | .hbm, ⟨13, _⟩ => ⟨S16x4x4x256x256, .f32⟩
  | .hbm, ⟨14, _⟩ => ⟨S4x4x1x1, .f32⟩
  | .hbm, ⟨15, _⟩ => ⟨S16x4x4x256x1, .f32⟩
  | .hbm, ⟨16, _⟩ => ⟨S16x4x4x256x257, .f32⟩
  | .hbm, ⟨17, _⟩ => ⟨S_, .f32⟩
  | .hbm, ⟨18, _⟩ => ⟨S16x4x4x256, .f32⟩
  | .hbm, ⟨19, _⟩ => ⟨S_, .f32⟩
  | .hbm, ⟨20, _⟩ => ⟨S16x4x4x256, .f32⟩
  | .hbm, ⟨21, _⟩ => ⟨S16x4x4x256, .f32⟩
  | .hbm, ⟨22, _⟩ => ⟨S16x4x4x256x1, .f32⟩
  | .hbm, ⟨23, _⟩ => ⟨S16x4x4x256x257, .f32⟩
  | .hbm, ⟨24, _⟩ => ⟨S16x4x4x256x257, .f32⟩
  | .hbm, ⟨25, _⟩ => ⟨S16x4x4x256x257, .f32⟩
  | .hbm, ⟨26, _⟩ => ⟨S_, .f32⟩
  | .hbm, ⟨27, _⟩ => ⟨S16x4x4x256, .f32⟩
  | .hbm, ⟨28, _⟩ => ⟨S16x4x4x256x1, .f32⟩
  | .hbm, ⟨29, _⟩ => ⟨S16x4x4x256x257, .f32⟩
  | .hbm, ⟨30, _⟩ => ⟨S16x4x4x256x257, .f32⟩
  | .hbm, ⟨31, _⟩ => ⟨S16x4x4x256x256, .f32⟩
  | .hbm, ⟨32, _⟩ => ⟨S16x4x128x4x256, .f32⟩
  | .hbm, ⟨33, _⟩ => ⟨S16x256x4x4x128, .f32⟩
  | .hbm, ⟨34, _⟩ => ⟨S4096x2048, .f32⟩
  | .hbm, ⟨35, _⟩ => ⟨S4096x2048, .bf16⟩
  | _, _ => ⟨S12288x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== DnConv.lean ====
abbrev S12288x12288 : Shape := ⟨2, ![12288, 12288]⟩
abbrev S5x8192 : Shape := ⟨2, ![5, 8192]⟩
abbrev S12288x8192 : Shape := ⟨2, ![12288, 8192]⟩
abbrev S8x1024 : Shape := ⟨2, ![8, 1024]⟩
abbrev S256x1024 : Shape := ⟨2, ![256, 1024]⟩
abbrev S5x1024 : Shape := ⟨2, ![5, 1024]⟩
abbrev S272x1024 : Shape := ⟨2, ![272, 1024]⟩
abbrev S64x128 : Shape := ⟨2, ![64, 128]⟩
abbrev S1x128 : Shape := ⟨2, ![1, 128]⟩
abbrev S64 : Shape := ⟨1, ![64]⟩
abbrev S64x1 : Shape := ⟨2, ![64, 1]⟩

abbrev nBuf : Space → Nat
  | .hbm => 3
  | .vmem => 11
  | .smem => 0
  | _ => 0

abbrev bufTy : (tb : Table) → Fin (tcTables nBuf tb) → BufTy
  | .hbm, ⟨0, _⟩ => ⟨S12288x12288, .f32⟩
  | .hbm, ⟨1, _⟩ => ⟨S5x8192, .f32⟩
  | .hbm, ⟨2, _⟩ => ⟨S12288x8192, .f32⟩
  | .local _ .vmem, ⟨0, _⟩ => ⟨S8x1024, .f32⟩
  | .local _ .vmem, ⟨1, _⟩ => ⟨S8x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S8x1024, .f32⟩
  | .local _ .vmem, ⟨6, _⟩ => ⟨S5x1024, .f32⟩
  | .local _ .vmem, ⟨7, _⟩ => ⟨S5x1024, .f32⟩
  | .local _ .vmem, ⟨8, _⟩ => ⟨S256x1024, .f32⟩
  | .local _ .vmem, ⟨9, _⟩ => ⟨S256x1024, .f32⟩
  | .local _ .vmem, ⟨10, _⟩ => ⟨S272x1024, .f32⟩
  | _, _ => ⟨S12288x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![48, 8], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c1535_i32 : BitVec 32 := 1535#32
  let v2 : BitVec 32 := Scalar.minsi v1 c1535_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DnConvRefIdeal.lean ====
abbrev S12288x12288 : Shape := ⟨2, ![12288, 12288]⟩
abbrev S5x8192 : Shape := ⟨2, ![5, 8192]⟩
abbrev S12288x8192 : Shape := ⟨2, ![12288, 8192]⟩
abbrev S4096x8192 : Shape := ⟨2, ![4096, 8192]⟩
abbrev S16x256x8192 : Shape := ⟨3, ![16, 256, 8192]⟩
abbrev S_ : Shape := ⟨0, ![]⟩
abbrev S16x260x8192 : Shape := ⟨3, ![16, 260, 8192]⟩
abbrev S1x8192 : Shape := ⟨2, ![1, 8192]⟩
abbrev S8192 : Shape := ⟨1, ![8192]⟩
abbrev S1x1x8192 : Shape := ⟨3, ![1, 1, 8192]⟩
abbrev S8192x8192 : Shape := ⟨2, ![8192, 8192]⟩
abbrev S4x2048x8192 : Shape := ⟨3, ![4, 2048, 8192]⟩
abbrev S4x2052x8192 : Shape := ⟨3, ![4, 2052, 8192]⟩
abbrev S12288x64x128 : Shape := ⟨3, ![12288, 64, 128]⟩
abbrev S12288x16x128 : Shape := ⟨3, ![12288, 16, 128]⟩
abbrev S12288x16 : Shape := ⟨2, ![12288, 16]⟩
abbrev S12288x16x1 : Shape := ⟨3, ![12288, 16, 1]⟩
abbrev S12288x32x128 : Shape := ⟨3, ![12288, 32, 128]⟩

abbrev nBuf : Space → Nat
  | .hbm => 128
  | .vmem => 0
  | .smem => 0
  | _ => 0

abbrev bufTy : (tb : Table) → Fin (tcTables nBuf tb) → BufTy
  | .hbm, ⟨0, _⟩ => ⟨S12288x12288, .f32⟩
  | .hbm, ⟨1, _⟩ => ⟨S5x8192, .f32⟩
  | .hbm, ⟨2, _⟩ => ⟨S12288x8192, .f32⟩
  | .hbm, ⟨3, _⟩ => ⟨S4096x8192, .f32⟩
  | .hbm, ⟨4, _⟩ => ⟨S16x256x8192, .f32⟩
  | .hbm, ⟨5, _⟩ => ⟨S_, .i32⟩
  | .hbm, ⟨6, _⟩ => ⟨S_, .f32⟩
  | .hbm, ⟨7, _⟩ => ⟨S16x260x8192, .f32⟩
  | .hbm, ⟨8, _⟩ => ⟨S16x256x8192, .f32⟩
  | .hbm, ⟨9, _⟩ => ⟨S1x8192, .f32⟩
  | .hbm, ⟨10, _⟩ => ⟨S8192, .f32⟩
  | .hbm, ⟨11, _⟩ => ⟨S1x1x8192, .f32⟩
  | .hbm, ⟨12, _⟩ => ⟨S16x256x8192, .f32⟩
  | .hbm, ⟨13, _⟩ => ⟨S16x256x8192, .f32⟩
  | .hbm, ⟨14, _⟩ => ⟨S_, .f32⟩
  | .hbm, ⟨15, _⟩ => ⟨S16x256x8192, .f32⟩
  | .hbm, ⟨16, _⟩ => ⟨S16x256x8192, .f32⟩
  | .hbm, ⟨17, _⟩ => ⟨S16x256x8192, .f32⟩
  | .hbm, ⟨18, _⟩ => ⟨S1x8192, .f32⟩
  | .hbm, ⟨19, _⟩ => ⟨S8192, .f32⟩
  | .hbm, ⟨20, _⟩ => ⟨S1x1x8192, .f32⟩
  | .hbm, ⟨21, _⟩ => ⟨S16x256x8192, .f32⟩
  | .hbm, ⟨22, _⟩ => ⟨S16x256x8192, .f32⟩
  | .hbm, ⟨23, _⟩ => ⟨S16x256x8192, .f32⟩
  | .hbm, ⟨24, _⟩ => ⟨S16x256x8192, .f32⟩
  | .hbm, ⟨25, _⟩ => ⟨S1x8192, .f32⟩
  | .hbm, ⟨26, _⟩ => ⟨S8192, .f32⟩
  | .hbm, ⟨27, _⟩ => ⟨S1x1x8192, .f32⟩
  | .hbm, ⟨28, _⟩ => ⟨S16x256x8192, .f32⟩
  | .hbm, ⟨29, _⟩ => ⟨S16x256x8192, .f32⟩
  | .hbm, ⟨30, _⟩ => ⟨S16x256x8192, .f32⟩
  | .hbm, ⟨31, _⟩ => ⟨S16x256x8192, .f32⟩
  | .hbm, ⟨32, _⟩ => ⟨S1x8192, .f32⟩
  | .hbm, ⟨33, _⟩ => ⟨S8192, .f32⟩
  | .hbm, ⟨34, _⟩ => ⟨S1x1x8192, .f32⟩
  | .hbm, ⟨35, _⟩ => ⟨S16x256x8192, .f32⟩
  | .hbm, ⟨36, _⟩ => ⟨S16x256x8192, .f32⟩
  | .hbm, ⟨37, _⟩ => ⟨S16x256x8192, .f32⟩
  | .hbm, ⟨38, _⟩ => ⟨S16x256x8192, .f32⟩
  | .hbm, ⟨39, _⟩ => ⟨S1x8192, .f32⟩
  | .hbm, ⟨40, _⟩ => ⟨S8192, .f32⟩
  | .hbm, ⟨41, _⟩ => ⟨S1x1x8192, .f32⟩
  | .hbm, ⟨42, _⟩ => ⟨S16x256x8192, .f32⟩
  | .hbm, ⟨43, _⟩ => ⟨S16x256x8192, .f32⟩
  | .hbm, ⟨44, _⟩ => ⟨S16x256x8192, .f32⟩
  | .hbm, ⟨45, _⟩ => ⟨S4096x8192, .f32⟩
  | .hbm, ⟨46, _⟩ => ⟨S8192x8192, .f32⟩
  | .hbm, ⟨47, _⟩ => ⟨S4x2048x8192, .f32⟩
  | .hbm, ⟨48, _⟩ => ⟨S_, .i32⟩
  | .hbm, ⟨49, _⟩ => ⟨S_, .f32⟩
  | .hbm, ⟨50, _⟩ => ⟨S4x2052x8192, .f32⟩
  | .hbm, ⟨51, _⟩ => ⟨S4x2048x8192, .f32⟩
  | .hbm, ⟨52, _⟩ => ⟨S1x8192, .f32⟩
  | .hbm, ⟨53, _⟩ => ⟨S8192, .f32⟩
  | .hbm, ⟨54, _⟩ => ⟨S1x1x8192, .f32⟩
  | .hbm, ⟨55, _⟩ => ⟨S4x2048x8192, .f32⟩
  | .hbm, ⟨56, _⟩ => ⟨S4x2048x8192, .f32⟩
  | .hbm, ⟨57, _⟩ => ⟨S_, .f32⟩
  | .hbm, ⟨58, _⟩ => ⟨S4x2048x8192, .f32⟩
  | .hbm, ⟨59, _⟩ => ⟨S4x2048x8192, .f32⟩
  | .hbm, ⟨60, _⟩ => ⟨S4x2048x8192, .f32⟩
  | .hbm, ⟨61, _⟩ => ⟨S1x8192, .f32⟩
  | .hbm, ⟨62, _⟩ => ⟨S8192, .f32⟩
  | .hbm, ⟨63, _⟩ => ⟨S1x1x8192, .f32⟩
  | .hbm, ⟨64, _⟩ => ⟨S4x2048x8192, .f32⟩
  | .hbm, ⟨65, _⟩ => ⟨S4x2048x8192, .f32⟩
  | .hbm, ⟨66, _⟩ => ⟨S4x2048x8192, .f32⟩
  | .hbm, ⟨67, _⟩ => ⟨S4x2048x8192, .f32⟩
  | .hbm, ⟨68, _⟩ => ⟨S1x8192, .f32⟩
  | .hbm, ⟨69, _⟩ => ⟨S8192, .f32⟩
  | .hbm, ⟨70, _⟩ => ⟨S1x1x8192, .f32⟩
  | .hbm, ⟨71, _⟩ => ⟨S4x2048x8192, .f32⟩
  | .hbm, ⟨72, _⟩ => ⟨S4x2048x8192, .f32⟩
  | .hbm, ⟨73, _⟩ => ⟨S4x2048x8192, .f32⟩
  | .hbm, ⟨74, _⟩ => ⟨S4x2048x8192, .f32⟩
  | .hbm, ⟨75, _⟩ => ⟨S1x8192, .f32⟩
  | .hbm, ⟨76, _⟩ => ⟨S8192, .f32⟩
  | .hbm, ⟨77, _⟩ => ⟨S1x1x8192, .f32⟩
  | .hbm, ⟨78, _⟩ => ⟨S4x2048x8192, .f32⟩
  | .hbm, ⟨79, _⟩ => ⟨S4x2048x8192, .f32⟩
  | .hbm, ⟨80, _⟩ => ⟨S4x2048x8192, .f32⟩
  | .hbm, ⟨81, _⟩ => ⟨S4x2048x8192, .f32⟩
  | .hbm, ⟨82, _⟩ => ⟨S1x8192, .f32⟩
  | .hbm, ⟨83, _⟩ => ⟨S8192, .f32⟩
  | .hbm, ⟨84, _⟩ => ⟨S1x1x8192, .f32⟩
  | .hbm, ⟨85, _⟩ => ⟨S4x2048x8192, .f32⟩
  | .hbm, ⟨86, _⟩ => ⟨S4x2048x8192, .f32⟩
  | .hbm, ⟨87, _⟩ => ⟨S4x2048x8192, .f32⟩
  | .hbm, ⟨88, _⟩ => ⟨S8192x8192, .f32⟩
  | .hbm, ⟨89, _⟩ => ⟨S12288x8192, .f32⟩
  | .hbm, ⟨90, _⟩ => ⟨S12288x8192, .f32⟩
  | .hbm, ⟨91, _⟩ => ⟨S12288x8192, .f32⟩
  | .hbm, ⟨92, _⟩ => ⟨S_, .f32⟩
  | .hbm, ⟨93, _⟩ => ⟨S12288x8192, .f32⟩
  | .hbm, ⟨94, _⟩ => ⟨S12288x8192, .f32⟩
  | .hbm, ⟨95, _⟩ => ⟨S_, .f32⟩
  | .hbm, ⟨96, _⟩ => ⟨S12288x8192, .f32⟩
  | .hbm, ⟨97, _⟩ => ⟨S12288x8192, .f32⟩
  | .hbm, ⟨98, _⟩ => ⟨S12288x8192, .f32⟩
  | .hbm, ⟨99, _⟩ => ⟨S12288x64x128, .f32⟩
  | .hbm, ⟨100, _⟩ => ⟨S12288x16x128, .f32⟩
  | .hbm, ⟨101, _⟩ => ⟨S12288x16x128, .f32⟩
  | .hbm, ⟨102, _⟩ => ⟨S_, .f32⟩
  | .hbm, ⟨103, _⟩ => ⟨S12288x16, .f32⟩
  | .hbm, ⟨104, _⟩ => ⟨S12288x16x1, .f32⟩
  | .hbm, ⟨105, _⟩ => ⟨S_, .f32⟩
  | .hbm, ⟨106, _⟩ => ⟨S12288x16x1, .f32⟩
  | .hbm, ⟨107, _⟩ => ⟨S12288x16x1, .f32⟩
  | .hbm, ⟨108, _⟩ => ⟨S12288x16x1, .f32⟩
  | .hbm, ⟨109, _⟩ => ⟨S12288x16x128, .f32⟩
  | .hbm, ⟨110, _⟩ => ⟨S12288x16x128, .f32⟩
  | .hbm, ⟨111, _⟩ => ⟨S_, .f32⟩
  | .hbm, ⟨112, _⟩ => ⟨S12288x16x128, .f32⟩
  | .hbm, ⟨113, _⟩ => ⟨S12288x16x128, .f32⟩
  | .hbm, ⟨114, _⟩ => ⟨S12288x16x128, .f32⟩
  | .hbm, ⟨115, _⟩ => ⟨S12288x16x128, .f32⟩
  | .hbm, ⟨116, _⟩ => ⟨S_, .f32⟩
  | .hbm, ⟨117, _⟩ => ⟨S12288x16, .f32⟩
  | .hbm, ⟨118, _⟩ => ⟨S12288x16x1, .f32⟩
  | .hbm, ⟨119, _⟩ => ⟨S_, .f32⟩
  | .hbm, ⟨120, _⟩ => ⟨S12288x16x1, .f32⟩
  | .hbm, ⟨121, _⟩ => ⟨S12288x16x1, .f32⟩
  | .hbm, ⟨122, _⟩ => ⟨S12288x16x1, .f32⟩
  | .hbm, ⟨123, _⟩ => ⟨S12288x16x128, .f32⟩
  | .hbm, ⟨124, _⟩ => ⟨S12288x16x128, .f32⟩
  | .hbm, ⟨125, _⟩ => ⟨S12288x32x128, .f32⟩
  | .hbm, ⟨126, _⟩ => ⟨S12288x64x128, .f32⟩
  | .hbm, ⟨127, _⟩ => ⟨S12288x8192, .f32⟩
  | _, _ => ⟨S12288x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_c_0 : Ref sig .tc := ⟨.hbm, 48, rfl⟩
abbrev main_call1_v0 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_1 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_2 : Ref sig .tc := ⟨.hbm, 102, rfl⟩
abbrev main_v86 : Ref sig .tc := ⟨.hbm, 103, rfl⟩
abbrev main_v87 : Ref sig .tc := ⟨.hbm, 104, rfl⟩
abbrev main_cst_3 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_cst_4 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_5 : Ref sig .tc := ⟨.hbm, 116, rfl⟩
abbrev main_v97 : Ref sig .tc := ⟨.hbm, 117, rfl⟩
abbrev main_v98 : Ref sig .tc := ⟨.hbm, 118, rfl⟩
abbrev main_cst_6 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩

abbrev nD : Nat := 1
abbrev τ : Topo := Topo.v7x

variable {F : FTy → Type} [FloatOps F]
-- ==== Proof.Val.Softmax.lean ====
module

public import Idealize.ShloMosaic.Lib.Pipeline.ValueKit

@[expose] public section

set_option maxRecDepth 16384

noncomputable section

/-! One query's attention with a sink, over keys in two groups, and why masked keys may be left out of the first. -/

namespace Cert.Softmax

open Idealize.ShloMosaic

variable {n n' p : ℕ}

/-- The greatest of a row's logits. -/
def top (L : Fin n → EReal) : EReal := (Finset.univ : Finset (Fin n)).fold max ⊥ L

/-- The shift of a query's softmax: the greatest of its logits and the sink. -/
def shift (L : Fin n → EReal) (C : Fin p → EReal) (s : EReal) : EReal := max (max (top L) (top C)) s

/-- The softmax's denominator: every key's exponential and the sink's. -/
def mass (L : Fin n → EReal) (C : Fin p → EReal) (s : EReal) : EReal :=
  ∑ j, Ideal.exp (L j - shift L C s) + ∑ j, Ideal.exp (C j - shift L C s) + Ideal.exp (s - shift L C s)

/-- A query's attention: the values weighted by the softmax of the logits. -/
def attend (L V : Fin n → EReal) (C W : Fin p → EReal) (s : EReal) : EReal :=
  ∑ j, Ideal.div (Ideal.exp (L j - shift L C s)) (mass L C s) * V j
    + ∑ j, Ideal.div (Ideal.exp (C j - shift L C s)) (mass L C s) * W j

/-- A finite value: neither infinity. -/
def Fin' (x : EReal) : Prop := x ≠ ⊥ ∧ x ≠ ⊤

theorem le_top' (L : Fin n → EReal) (j : Fin n) : L j ≤ top L :=
  (Finset.le_fold_max (L j)).2 (.inr ⟨j, Finset.mem_univ j, le_rfl⟩)

theorem top_le (L : Fin n → EReal) (a : EReal) (h : ∀ j, L j ≤ a) : top L ≤ a :=
  Finset.fold_max_le a |>.2 ⟨bot_le, fun j _ => h j⟩

/-- The greatest of finite or masked logits is not above every number. -/
theorem top_ne_top (L : Fin n → EReal) (h : ∀ j, L j ≠ ⊤) : top L ≠ ⊤ := by
  refine ne_of_lt ((Finset.fold_max_lt (⊤ : EReal)).2 ⟨bot_lt_top, fun j _ => lt_top_iff_ne_top.2 (h j)⟩)

theorem exp_nonneg (x : EReal) : 0 ≤ Ideal.exp x := by
  induction x with
  | bot => simp
  | top => simp
  | coe r => simp only [Ideal.exp_coe]; exact_mod_cast (Real.exp_pos r).le

theorem exp_pos_of (x : EReal) (h : x ≠ ⊥) : 0 < Ideal.exp x := by
  induction x with
  | bot => exact absurd rfl h
  | top => simp
  | coe r => simp only [Ideal.exp_coe]; exact_mod_cast Real.exp_pos r

/-- With a finite sink and no infinite logit the denominator is not zero. -/
theorem mass_ne_zero (L : Fin n → EReal) (C : Fin p → EReal) (s : EReal) (hL : ∀ j, L j ≠ ⊤) (hC : ∀ j, C j ≠ ⊤)
    (hs : Fin' s) : mass L C s ≠ 0 := by
  have hM : shift L C s ≠ ⊤ := by
    unfold shift
    simp only [ne_eq, max_eq_top, not_or]
    exact ⟨⟨top_ne_top L hL, top_ne_top C hC⟩, hs.2⟩
  have hx : s - shift L C s ≠ ⊥ := by
    rw [sub_eq_add_neg, ne_eq, EReal.add_eq_bot_iff, not_or]
    exact ⟨hs.1, fun h => hM (EReal.neg_eq_bot_iff.1 h)⟩
  have h := exp_pos_of _ hx
  unfold mass
  refine ne_of_gt (lt_of_lt_of_le h ?_)
  exact le_add_of_nonneg_left (add_nonneg (Finset.sum_nonneg fun j _ => exp_nonneg _) (Finset.sum_nonneg fun j _ => exp_nonneg _))

/-- A masked key's exponential is zero whatever the shift. -/
theorem exp_masked (M : EReal) : Ideal.exp (⊥ - M) = 0 := by
  rw [sub_eq_add_neg, EReal.bot_add, Ideal.exp_bot]

/-- Two sums agree when their terms agree along a matching of some of the indices and are zero at the rest. -/
theorem sum_match {a b : ℕ} (f : Fin a → EReal) (g : Fin b → EReal) (R : Fin a → Fin b → Prop)
    (hinj : ∀ j k k', R j k → R j k' → k = k') (hinj' : ∀ j j' k, R j k → R j' k → j = j')
    (hR : ∀ j k, R j k → f j = g k) (hf : ∀ j, (∀ k, ¬ R j k) → f j = 0) (hg : ∀ k, (∀ j, ¬ R j k) → g k = 0) :
    ∑ j, f j = ∑ k, g k := by
  classical
  have hex : ∀ j, f j ≠ 0 → ∃ k, R j k := fun j h => by
    by_contra hc; exact h (hf j fun k hk => hc ⟨k, hk⟩)
  refine Finset.sum_bij_ne_zero (fun j _ h => (hex j h).choose) (fun _ _ _ => Finset.mem_univ _) ?_ ?_ ?_
  · intro j _ h j' _ h' e
    have h1 := (hex j h).choose_spec
    have h2 := (hex j' h').choose_spec
    rw [e] at h1
    exact hinj' _ _ _ h1 h2
  · intro k _ h
    have : ∃ j, R j k := by
      by_contra hc; exact h (hg k fun j hj => hc ⟨j, hj⟩)
    obtain ⟨j, hj⟩ := this
    have hj0 : f j ≠ 0 := by rw [hR j k hj]; exact h
    exact ⟨j, Finset.mem_univ _, hj0, hinj j _ _ (hex j hj0).choose_spec hj⟩
  · intro j _ h
    exact hR _ _ (hex j h).choose_spec

/-- Attention over all keys is attention over a band of them, when the keys left out on either side are masked. -/
theorem attend_match (L V : Fin n → EReal) (L' V' : Fin n' → EReal) (C W : Fin p → EReal) (s : EReal)
    (R : Fin n → Fin n' → Prop) (hinj : ∀ j k k', R j k → R j k' → k = k') (hinj' : ∀ j j' k, R j k → R j' k → j = j')
    (hL : ∀ j k, R j k → L j = L' k) (hV : ∀ j k, R j k → V j = V' k)
    (hm : ∀ j, (∀ k, ¬ R j k) → L j = ⊥) (hm' : ∀ k, (∀ j, ¬ R j k) → L' k = ⊥)
    (hLt : ∀ j, L j ≠ ⊤) (hC : ∀ j, C j ≠ ⊤) (hs : Fin' s) :
    attend L V C W s = attend L' V' C W s := by
  have ht : top L = top L' := by
    refine le_antisymm (top_le _ _ fun j => ?_) (top_le _ _ fun k => ?_)
    · by_cases h : ∃ k, R j k
      · obtain ⟨k, hk⟩ := h; rw [hL j k hk]; exact le_top' L' k
      · rw [hm j fun k hk => h ⟨k, hk⟩]; exact bot_le
    · by_cases h : ∃ j, R j k
      · obtain ⟨j, hj⟩ := h; rw [← hL j k hj]; exact le_top' L j
      · rw [hm' k fun j hj => h ⟨j, hj⟩]; exact bot_le
  have hM : shift L C s = shift L' C s := by unfold shift; rw [ht]
  have hZ : mass L C s = mass L' C s := by
    unfold mass
    rw [hM]
    congr 2
    exact sum_match _ _ R hinj hinj' (fun j k h => by rw [hL j k h])
      (fun j h => by rw [hm j h, exp_masked]) (fun k h => by rw [hm' k h, exp_masked])
  have h0 := mass_ne_zero L C s hLt hC hs
  unfold attend
  rw [← hZ, ← hM]
  congr 1
  have hz : ∀ x : EReal, Ideal.div (Ideal.exp (⊥ - shift L C s)) (mass L C s) * x = 0 := fun x => by
    rw [exp_masked, Ideal.div, if_neg h0, zero_mul, zero_mul]
  exact sum_match _ _ R hinj hinj' (fun j k h => by rw [hL j k h, hV j k h])
    (fun j h => by rw [hm j h, hz]) (fun k h => by rw [hm' k h, hz])

/-- A product of finite values is finite. -/
theorem fin_mul (x y : EReal) (hx : Fin' x) (hy : Fin' y) : Fin' (x * y) := by
  rw [← EReal.coe_toReal hx.2 hx.1, ← EReal.coe_toReal hy.2 hy.1, ← EReal.coe_mul]
  exact ⟨EReal.coe_ne_bot _, EReal.coe_ne_top _⟩

/-- A sum of products of finite values is finite. -/
theorem fin_sum_mul {a : ℕ} (x y : Fin a → EReal) (hx : ∀ k, Fin' (x k)) (hy : ∀ k, Fin' (y k)) :
    Fin' (∑ k, x k * y k) := by
  refine Finset.sum_induction _ Fin' (fun u v hu hv => ?_) ⟨EReal.zero_ne_bot, EReal.zero_ne_top⟩ fun k _ => fin_mul _ _ (hx k) (hy k)
  rw [← EReal.coe_toReal hu.2 hu.1, ← EReal.coe_toReal hv.2 hv.1, ← EReal.coe_add]
  exact ⟨EReal.coe_ne_bot _, EReal.coe_ne_top _⟩

/-- A sum over two groups of keys and the sink, group by group. -/
theorem sum_groups (F : Fin (n + p + 1) → EReal) (L : Fin n → EReal) (C : Fin p → EReal) (s : EReal)
    (hL : ∀ j : Fin n, F ⟨j.val, by omega⟩ = L j) (hC : ∀ j : Fin p, F ⟨n + j.val, by omega⟩ = C j)
    (hs : F ⟨n + p, by omega⟩ = s) : ∑ j, F j = ∑ j, L j + ∑ j, C j + s := by
  rw [Fin.sum_univ_castSucc, Fin.sum_univ_add]
  refine congrArg₂ (fun a b : EReal => a + b) (congrArg₂ (fun a b : EReal => a + b) ?_ ?_) hs
  · exact Finset.sum_congr rfl fun j _ => hL j
  · exact Finset.sum_congr rfl fun j _ => hC j

/-- The greatest over two groups of keys and the sink is the softmax's shift. -/
theorem top_groups (F : Fin (n + p + 1) → EReal) (L : Fin n → EReal) (C : Fin p → EReal) (s : EReal)
    (hL : ∀ j : Fin n, F ⟨j.val, by omega⟩ = L j) (hC : ∀ j : Fin p, F ⟨n + j.val, by omega⟩ = C j)
    (hs : F ⟨n + p, by omega⟩ = s) : top F = shift L C s := by
  refine le_antisymm (top_le _ _ fun j => ?_) (max_le (max_le (top_le _ _ fun j => ?_) (top_le _ _ fun j => ?_)) ?_)
  · by_cases h1 : j.val < n
    · exact le_trans (le_of_eq (hL ⟨j.val, h1⟩)) (le_trans (le_top' L _) (le_trans (le_max_left _ _) (le_max_left _ _)))
    · by_cases h2 : j.val < n + p
      · have e : j = ⟨n + (j.val - n), by omega⟩ := Fin.ext (by show j.val = n + (j.val - n); omega)
        rw [e]
        exact le_trans (le_of_eq (hC ⟨j.val - n, by omega⟩))
          (le_trans (le_top' C _) (le_trans (le_max_right _ _) (le_max_left _ _)))
      · have e : j = ⟨n + p, by omega⟩ := Fin.ext (by show j.val = n + p; omega)
        rw [e, hs]
        exact le_max_right _ _
  · rw [← hL j]; exact le_top' F _
  · rw [← hC j]; exact le_top' F _
  · rw [← hs]; exact le_top' F _

end Cert.Softmax

end
-- ==== Proof.Val.Window.lean ====
module

public import Idealize.ShloMosaic.Lib.Pipeline.ValueKit

@[expose] public section

set_option maxRecDepth 16384

noncomputable section

/-! The window's mask in 32-bit words: what the printed comparisons say of the positions. -/

namespace Cert.Window

open Idealize.ShloMosaic

/-- A word made of a small natural holds it, read signed. -/
theorem toInt_small (a : ℕ) (h : a < 100000) : (BitVec.ofNat 32 a).toInt = (a : ℤ) := by
  rw [BitVec.toInt_eq_toNat_cond, BitVec.toNat_ofNat, Nat.mod_eq_of_lt (by omega), if_pos (by omega)]

/-- A difference of two words that hold small integers holds their difference. -/
theorem toInt_sub (x y : BitVec 32) (a b : ℤ) (hx : x.toInt = a) (hy : y.toInt = b)
    (h : -200000 ≤ a - b ∧ a - b ≤ 200000) : (IntOp.subi x y).toInt = a - b := by
  simp only [IntOp.subi, BitVec.toInt_sub, hx, hy, Int.bmod]
  omega

/-- A sum of two words that hold small integers holds their sum. -/
theorem toInt_add (x y : BitVec 32) (a b : ℤ) (hx : x.toInt = a) (hy : y.toInt = b)
    (h : -200000 ≤ a + b ∧ a + b ≤ 200000) : (IntOp.addi x y).toInt = a + b := by
  simp only [IntOp.addi, BitVec.toInt_add, hx, hy, Int.bmod]
  omega

/-- A word that holds a small integer, times 128. -/
theorem toInt_mul (x : BitVec 32) (a : ℤ) (hx : x.toInt = a) (h : -1000 ≤ a ∧ a ≤ 1000) :
    (IntOp.muli x 128#32).toInt = a * 128 := by
  have h2 : (128#32).toInt = 128 := by decide
  simp only [IntOp.muli, BitVec.toInt_mul, hx, h2, Int.bmod]
  omega

/-- The signed comparison `|x| ≤ 128` of a word that holds the small integer `z`. -/
theorem abs_sle (x : BitVec 32) (z : ℤ) (hx : x.toInt = z) (h1 : -100000 ≤ z) (h2 : z ≤ 100000) :
    IntOp.cmpi .sle (IntOp.absi x) 128#32 = if -128 ≤ z ∧ z ≤ 128 then 1#1 else 0#1 := by
  have ha : (IntOp.absi x).toInt = if z < 0 then -z else z := by
    unfold IntOp.absi
    rw [BitVec.msb_eq_toInt, hx]
    by_cases h : z < 0
    · simp only [h, decide_true, if_true]
      rw [BitVec.toInt_neg, hx]
      simp only [Int.bmod]
      omega
    · simp [h, hx]
  have hs : IntOp.cmpi .sle (IntOp.absi x) 128#32 = BitVec.ofBool (decide ((IntOp.absi x).toInt ≤ (128#32).toInt)) := by
    unfold IntOp.cmpi
    simp only [BitVec.sle_eq_decide]
  have h128 : (128#32).toInt = 128 := by decide
  rw [hs, ha, h128]
  by_cases h : z < 0 <;> by_cases hw : -128 ≤ z ∧ z ≤ 128
  · rw [if_pos h, if_pos hw, decide_eq_true (by omega)]; rfl
  · rw [if_pos h, if_neg hw, decide_eq_false (by omega)]; rfl
  · rw [if_neg h, if_pos hw, decide_eq_true (by omega)]; rfl
  · rw [if_neg h, if_neg hw, decide_eq_false (by omega)]; rfl

/-- The signed comparison `x ≥ 0` of a word that holds the small integer `z`. -/
theorem sge_zero (x : BitVec 32) (z : ℤ) (hx : x.toInt = z) :
    IntOp.cmpi .sge x 0#32 = if 0 ≤ z then 1#1 else 0#1 := by
  have hs : IntOp.cmpi .sge x 0#32 = BitVec.ofBool (decide ((0#32).toInt ≤ x.toInt)) := by
    unfold IntOp.cmpi
    simp only [BitVec.sle_eq_decide]
  have h0 : (0#32).toInt = 0 := by decide
  rw [hs, hx, h0]
  by_cases h : 0 ≤ z
  · rw [if_pos h, decide_eq_true h]; rfl
  · rw [if_neg h, decide_eq_false h]; rfl

/-- The signed comparison `x < 2048` of a word that holds the small integer `z`. -/
theorem slt_rows (x : BitVec 32) (z : ℤ) (hx : x.toInt = z) :
    IntOp.cmpi .slt x 2048#32 = if z < 2048 then 1#1 else 0#1 := by
  have hs : IntOp.cmpi .slt x 2048#32 = BitVec.ofBool (decide (x.toInt < (2048#32).toInt)) := by
    unfold IntOp.cmpi
    simp only [BitVec.slt_eq_decide]
  have h0 : (2048#32).toInt = 2048 := by decide
  rw [hs, hx, h0]
  by_cases h : z < 2048
  · rw [if_pos h, decide_eq_true h]; rfl
  · rw [if_neg h, decide_eq_false h]; rfl

/-- The word of the band's key position: block `n`'s band begins 128 keys before the block. -/
theorem toInt_key (n k : ℕ) (hn : n < 16) (hk : k < 384) :
    (IntOp.addi (IntOp.muli (IntOp.subi (BitVec.ofNat 32 n) 1#32) 128#32) (BitVec.ofNat 32 k)).toInt
      = ((n : ℤ) - 1) * 128 + k :=
  toInt_add _ _ _ _ (toInt_mul _ _ (toInt_sub _ _ _ 1 (toInt_small n (by omega)) (by decide) (by omega)) (by omega))
    (toInt_small k (by omega)) (by omega)

/-- The word of a query's position: its row in the block, the four heads of a group stacked. -/
theorem toInt_query (n r : ℕ) (hn : n < 16) (hr : r < 512) :
    (IntOp.addi (IntOp.muli (BitVec.ofNat 32 n) 128#32) (IntOp.andi (BitVec.ofNat 32 r) 127#32)).toInt
      = (n : ℤ) * 128 + (r % 128 : ℕ) := by
  have h : IntOp.andi (BitVec.ofNat 32 r) 127#32 = BitVec.ofNat 32 (r % 128) := by
    apply BitVec.eq_of_toNat_eq
    simp only [IntOp.andi, BitVec.toNat_and, BitVec.toNat_ofNat]
    rw [show (127 % 2 ^ 32 : ℕ) = 2 ^ 7 - 1 by decide, Nat.and_two_pow_sub_one_eq_mod]
    omega
  rw [h]
  exact toInt_add _ _ _ _ (toInt_mul _ _ (toInt_small n (by omega)) (by omega)) (toInt_small _ (by omega)) (by omega)

end Cert.Window

end
-- ==== Proof.Val.LatRow.lean ====
module

public import proofs.«01_k».proof.Proof.Val.Softmax
public import proofs.«01_k».proof.Proof.Val.Window
public import proofs.«01_k».proof.Proof.Gen.LatIdeal.Value
public import Idealize.ShloMosaic.Lib.Pipeline.ValueKit

@[expose] public section

set_option maxRecDepth 16384

noncomputable section

/-! The kernel's payloads at one element: one query's attention over its band and its context. -/

namespace Cert.LatIdeal.Row

open Cert.LatIdeal Cert.LatIdeal.Gen Idealize.ShloMosaic Idealize.ShloMosaic.TcCoe
open Cert.Softmax

/-- The printed −∞. -/
theorem neg_inf : Ideal.ofBits FTy.f32 0xFF800000#32 = ⊥ := by
  simp [Ideal.ofBits, Ideal.ieee]

/-- One element of the result: the attention of the row's logits. -/
theorem pay10_eq (v12 : FVec Ideal S384x128 .bf16) (v42 : FVec Ideal S512x384 .f32) (v47 : FVec Ideal S512x256 .f32)
    (v68 v70 : FVec Ideal S512x1 .f32) (v96 : Vec Ideal S1x1x256x128 .bf16) (r : Fin 512) (d : Fin 128)
    (h70 : v70 (ix2 r 0) = top (fun k : Fin 384 => v42 (ix2 r k))) :
    k0_pay10 v12 v42 v47 v68 v70 v96 (ix2 r d)
      = attend (fun k : Fin 384 => v42 (ix2 r k)) (fun k => v12 (ix2 k d))
          (fun p : Fin 256 => v47 (ix2 r p)) (fun p => v96 (ix4 0 0 p d)) (v68 (ix2 r 0)) := by
  pointwise [k0_pay10]
  rw [h70, neg_inf]
  rfl

/-- The greatest of a row's local logits. -/
theorem pay9_eq (v15 : FVec Ideal S512x384 .f32) (v26 : IVec S1x384 32) (v30 : IVec S512x384 32) (r : Fin 512) :
    k0_pay9 v15 v26 v30 (ix2 r 0) = top (fun k : Fin 384 => k0_pay6 v15 v26 v30 (ix2 r k)) := by
  pointwise [k0_pay9]
  rw [neg_inf]
  rfl

/-- The mask at an element: the band's key lies in the window and in the request. -/
theorem pay6_eq (i : grid0.Coords) (v15 : FVec Ideal S512x384 .f32) (r : Fin 512) (k : Fin 384) :
    k0_pay6 v15 (k0_pay4 i) (k0_pay5 i) (ix2 r k)
      = if (k.val ≤ r.val % 128 + 256 ∧ r.val % 128 ≤ k.val) ∧ 128 ≤ (i 2).val * 128 + k.val ∧ (i 2).val * 128 + k.val < 2176
        then v15 (ix2 r k) else ⊥ := by
  pointwise [k0_pay6, k0_pay5, k0_pay4]
  have hn : (i 2).val < 16 := (i 2).isLt
  have hk := Cert.Window.toInt_key (i 2).val k.val hn k.isLt
  have hq := Cert.Window.toInt_query (i 2).val r.val hn r.isLt
  have e1 := Cert.Window.abs_sle _ _ (Cert.Window.toInt_sub _ _ _ _ hk hq (by omega)) (by omega) (by omega)
  have e2 := Cert.Window.sge_zero _ _ hk
  have e3 := Cert.Window.slt_rows _ _ hk
  unfold Scalar.muli Scalar.subi
  rw [e1, e2, e3]
  split_ifs with h1 h2 h3 h4 h5 h6 h7 h8
  all_goals first
    | rfl
    | exact absurd ‹_› (by omega)

/-- A row's local logit, the band's three blocks one after another. -/
theorem pay3_eq (v0 v1 v2 v3 v5 v6 v7 : Vec Ideal S128x128 .bf16) (r : Fin 512) (k : Fin 384) :
    k0_pay3 v0 v1 v2 v3 v5 v6 v7 (ix2 r k)
      = (∑ d : Fin 128, k0_pay1 v0 v1 v2 v3 (ix2 r d) * k0_pay2 v5 v6 v7 (ix2 k d)) * FloatOps.ofBits (F := Ideal) .f32 0x3DB504F3#32 := by
  pointwise [k0_pay3]
  refine congrArg (fun a : EReal => a * _) (Finset.sum_congr rfl fun d _ => ?_)
  refine congrArg (fun a : EReal => _ * a) ?_
  pointwise [k0_pay2]

/-- A row's context logit. -/
theorem pay7_eq (v4 : FVec Ideal S512x128 .bf16) (v43 : Vec Ideal S1x1x256x128 .bf16) (r : Fin 512) (p : Fin 256) :
    k0_pay7 v4 v43 (ix2 r p) = (∑ d : Fin 128, v4 (ix2 r d) * v43 (ix4 0 0 p d)) * FloatOps.ofBits (F := Ideal) .f32 0x3DB504F3#32 := by
  pointwise [k0_pay7]

/-- A stacked query's component. -/
theorem pay1_eq (v : Fin 4 → Vec Ideal S128x128 .bf16) (r : Fin 512) (d : Fin 128) :
    k0_pay1 (v 0) (v 1) (v 2) (v 3) (ix2 r d) = v ⟨r.val / 128, by omega⟩ (ix2 ⟨r.val % 128, by omega⟩ d) := by
  pointwise [k0_pay1]
  have pick : ∀ (a : Fin 4) (b : Fin 128) (a' : Fin 4) (b' : Fin 128), a = a' → b = b' → v a (ix2 b d) = v a' (ix2 b' d) := by
    rintro a b _ _ rfl rfl; rfl
  split_ifs <;> exact pick _ _ _ _ (Fin.ext (by show _ = r.val / 128; simp; omega)) (Fin.ext (by show _ = r.val % 128; simp; omega))

/-- A band's component. -/
theorem pay2_eq (v : Fin 3 → Vec Ideal S128x128 .bf16) (k : Fin 384) (d : Fin 128) :
    k0_pay2 (v 0) (v 1) (v 2) (ix2 k d) = v ⟨k.val / 128, by omega⟩ (ix2 ⟨k.val % 128, by omega⟩ d) := by
  pointwise [k0_pay2]
  have pick : ∀ (a : Fin 3) (b : Fin 128) (a' : Fin 3) (b' : Fin 128), a = a' → b = b' → v a (ix2 b d) = v a' (ix2 b' d) := by
    rintro a b _ _ rfl rfl; rfl
  split_ifs <;> exact pick _ _ _ _ (Fin.ext (by show _ = k.val / 128; simp; omega)) (Fin.ext (by show _ = k.val % 128; simp; omega))

/-- A stacked sink. -/
theorem pay8_eq (v : Fin 4 → EReal) (r : Fin 512) :
    k0_pay8 (F := Ideal) (v 0) (v 1) (v 2) (v 3) (ix2 r 0) = v ⟨r.val / 128, by omega⟩ := by
  pointwise [k0_pay8]
  split_ifs <;> exact congrArg v (Fin.ext (by show _ = r.val / 128; simp; omega))

end Cert.LatIdeal.Row

end
-- ==== Proof.Val.LatSpec.lean ====
module

public import proofs.«01_k».proof.Proof.Val.Softmax
public import proofs.«01_k».proof.Proof.Val.Window
public import proofs.«01_k».proof.Proof.Gen.LatRefIdeal.Read
public import Idealize.ShloMosaic.Lib.Pipeline.ValueKit

@[expose] public section

set_option maxRecDepth 16384

noncomputable section

/-! The reference's windowed attention read at one element: one query's attention over its request's keys. -/

namespace Cert.LatRefIdeal.Spec

open Cert.LatRefIdeal Idealize.ShloMosaic Idealize.ShloMosaic.ValueIdx
open Cert.LatRefIdeal.Read Cert.Softmax

variable (x0 : (⟨S8192x3072, .bf16⟩ : BufTy).Contents (Elt Ideal)) (x1 x2 : (⟨S4x256x4x128, .f32⟩ : BufTy).Contents (Elt Ideal))
  (x3 : (⟨S16, .f32⟩ : BufTy).Contents (Elt Ideal)) (x4 : (⟨S12288x2048, .bf16⟩ : BufTy).Contents (Elt Ideal))

/-- A query's component. -/
def qry (b h g : Fin 4) (i : Fin 2048) (d : Fin 128) : EReal :=
  x0 (ValueIdx.ix2 ⟨b.val * 2048 + i.val, by omega⟩ ⟨h.val * 512 + g.val * 128 + d.val, by omega⟩)

/-- A key's component. -/
def key (b h : Fin 4) (j : Fin 2048) (d : Fin 128) : EReal :=
  x0 (ValueIdx.ix2 ⟨b.val * 2048 + j.val, by omega⟩ ⟨2048 + h.val * 128 + d.val, by omega⟩)

/-- A value's component. -/
def val (b h : Fin 4) (j : Fin 2048) (d : Fin 128) : EReal :=
  x0 (ValueIdx.ix2 ⟨b.val * 2048 + j.val, by omega⟩ ⟨2560 + h.val * 128 + d.val, by omega⟩)

/-- The logits' scale, the printed literal. -/
def scale : EReal := FloatOps.ofBits (F := Ideal) .f32 0x3DB504F3#32

/-- The logit of a query and a key. -/
def logit (b h g : Fin 4) (i j : Fin 2048) : EReal := (∑ d : Fin 128, key x0 b h j d * qry x0 b h g i d) * scale

/-- The logit where the key lies in the query's window, else −∞. -/
def local' (b h g : Fin 4) (i j : Fin 2048) : EReal :=
  if j.val ≤ i.val + 128 ∧ i.val ≤ j.val + 128 then logit x0 b h g i j else ⊥

/-- The logit of a query and a context key. -/
def ctx (b h g : Fin 4) (i : Fin 2048) (p : Fin 256) : EReal :=
  (∑ d : Fin 128, (fun a b : EReal => a * b) (x1 (ValueIdx.ix4 b p h d)) (qry x0 b h g i d)) * scale

/-- A head's sink. -/
def snk (h g : Fin 4) : EReal := x3 (ValueIdx.ix1 ⟨h.val * 4 + g.val, by omega⟩)

/-- One element of the attention's result. -/
def out (b h g : Fin 4) (i : Fin 2048) (d : Fin 128) : EReal :=
  attend (local' x0 b h g i) (fun j => val x0 b h j d) (ctx x0 x1 b h g i) (fun p => x2 (ValueIdx.ix4 b p h d)) (snk x3 h g)

/-- A query's component is the reference's. -/
theorem qry_read (b h g : Fin 4) (i : Fin 2048) (d : Fin 128) : val_main_v2 (F := Ideal) x0 (ValueIdx.ix5 b i h g d) = qry x0 b h g i d := by
  rw [val_main_v2_apply, val_main_v1_apply, val_main_v0_apply]
  refine congrArg x0 ((ValueIdx.eq_ix2 (n0 := 8192) (n1 := 3072) _).trans (congrArg₂ ValueIdx.ix2 (Fin.ext ?_) (Fin.ext ?_)))
  · show ((((b.val * 2048 + i.val) * 4 + h.val) * 4 + g.val) * 128 + d.val) / 2048 = b.val * 2048 + i.val
    omega
  · show ((((b.val * 2048 + i.val) * 4 + h.val) * 4 + g.val) * 128 + d.val) % 2048 = h.val * 512 + g.val * 128 + d.val
    omega

/-- A key's component is the reference's. -/
theorem key_read (b h : Fin 4) (j : Fin 2048) (d : Fin 128) : val_main_v4 (F := Ideal) x0 (ValueIdx.ix4 b j h d) = key x0 b h j d := by
  rw [val_main_v4_apply, val_main_v3_apply, val_main_v0_apply]
  refine congrArg x0 ((ValueIdx.eq_ix2 (n0 := 8192) (n1 := 3072) _).trans (congrArg₂ ValueIdx.ix2 (Fin.ext ?_) (Fin.ext ?_)))
  · show (((b.val * 2048 + j.val) * 4 + h.val) * 128 + d.val) / 512 = b.val * 2048 + j.val
    omega
  · show 2048 + (((b.val * 2048 + j.val) * 4 + h.val) * 128 + d.val) % 512 = 2048 + h.val * 128 + d.val
    omega

/-- A value's component is the reference's. -/
theorem val_read (b h : Fin 4) (j : Fin 2048) (d : Fin 128) : val_main_v6 (F := Ideal) x0 (ValueIdx.ix4 b j h d) = val x0 b h j d := by
  rw [val_main_v6_apply, val_main_v5_apply, val_main_v0_apply]
  refine congrArg x0 ((ValueIdx.eq_ix2 (n0 := 8192) (n1 := 3072) _).trans (congrArg₂ ValueIdx.ix2 (Fin.ext ?_) (Fin.ext ?_)))
  · show (((b.val * 2048 + j.val) * 4 + h.val) * 128 + d.val) / 512 = b.val * 2048 + j.val
    omega
  · show 2560 + (((b.val * 2048 + j.val) * 4 + h.val) * 128 + d.val) % 512 = 2560 + h.val * 128 + d.val
    omega

/-- A scaled logit is the reference's. -/
theorem logit_read (b h g : Fin 4) (i j : Fin 2048) :
    val_main_v17 (F := Ideal) x0 (ValueIdx.ix5 b h g i j) = logit x0 b h g i j := by
  rw [val_main_v17_apply, val_main_v15_apply, val_main_v16_apply, val_main_cst_apply, val_main_v14_apply]
  refine congrArg (fun a : EReal => a * scale) (Finset.sum_congr rfl fun d _ => ?_)
  refine congrArg₂ (fun a b : EReal => a * b) ?_ ?_
  · exact (congrArg (val_main_v4 (F := Ideal) x0) (ValueIdx.eq_ix4 (n0 := 4) (n1 := 2048) (n2 := 4) (n3 := 128) _)).trans (key_read x0 b h j d)
  · exact (congrArg (val_main_v2 (F := Ideal) x0) (ValueIdx.eq_ix5 (n0 := 4) (n1 := 2048) (n2 := 4) (n3 := 4) (n4 := 128) _)).trans
      (qry_read x0 b h g i d)

/-- The reference's mask says whether the key lies in the query's window. -/
theorem mask_read (i j : Fin 2048) :
    val_main_v20 (F := Ideal) (ValueIdx.ix2 i j) = if j.val ≤ i.val + 128 ∧ i.val ≤ j.val + 128 then 1#1 else 0#1 := by
  rw [val_main_v20_apply, val_main_v18_apply, val_main_v19_apply, val_main_c_apply, val_main_v13_apply, val_main_v11_apply,
    val_main_v12_apply, val_main_v8_apply, val_main_v10_apply, val_main_v7_apply, val_main_v9_apply]
  have e := Cert.Window.abs_sle (IntOp.subi (BitVec.ofNat 32 j.val) (BitVec.ofNat 32 i.val)) ((j.val : ℤ) - i.val)
    (Cert.Window.toInt_sub _ _ _ _ (Cert.Window.toInt_small _ (by omega)) (Cert.Window.toInt_small _ (by omega)) (by omega))
    (by omega) (by omega)
  refine Eq.trans e (if_congr ?_ rfl rfl)
  omega

/-- The printed −∞. -/
theorem neg_inf : (FloatOps.ofBits (F := Ideal) .f32 0xFF800000#32 : EReal) = ⊥ := by
  show Ideal.ofBits .f32 0xFF800000#32 = ⊥
  simp [Ideal.ofBits, Ideal.ieee]

/-- The printed zero. -/
theorem zero_word : (FloatOps.ofBits (F := Ideal) .f32 0x00000000#32 : EReal) = 0 := Ideal.ofBits_zero .f32

/-- The masked logit is the reference's. -/
theorem local_read (b h g : Fin 4) (i j : Fin 2048) :
    val_main_v21 (F := Ideal) x0 (ValueIdx.ix5 b h g i j) = local' x0 b h g i j := by
  rw [val_main_v21_apply, val_main_call0_v1_apply, val_main_call0_v2_apply, val_main_call0_v0_apply, val_main_cst_0_apply,
    logit_read]
  have e : idx_main_call0_v1 (ValueIdx.ix5 b h g i j) = ValueIdx.ix2 i j := ValueIdx.eq_ix2 (n0 := 2048) (n1 := 2048) _
  rw [e, mask_read]
  unfold local'
  by_cases hw : j.val ≤ i.val + 128 ∧ i.val ≤ j.val + 128
  · rw [if_pos hw, if_pos hw]; rfl
  · rw [if_neg hw, if_neg hw]; exact neg_inf

/-- The context logit is the reference's. -/
theorem ctx_read (b h g : Fin 4) (i : Fin 2048) (p : Fin 256) :
    val_main_v25 (F := Ideal) x0 x1 (ValueIdx.ix5 b h g i p) = ctx x0 x1 b h g i p := by
  rw [val_main_v25_apply, val_main_v23_apply, val_main_v24_apply, val_main_cst_1_apply, val_main_v22_apply]
  refine congrArg (fun a : EReal => a * scale) (Finset.sum_congr rfl fun d _ => ?_)
  refine congrArg₂ (fun a b : EReal => a * b) ?_ ?_
  · exact congrArg x1 (ValueIdx.eq_ix4 (n0 := 4) (n1 := 256) (n2 := 4) (n3 := 128) _)
  · exact (congrArg (val_main_v2 (F := Ideal) x0) (ValueIdx.eq_ix5 (n0 := 4) (n1 := 2048) (n2 := 4) (n3 := 4) (n4 := 128) _)).trans
      (qry_read x0 b h g i d)

/-- The sink is the reference's. -/
theorem sink_read (b h g : Fin 4) (i : Fin 2048) (o : Fin 1) :
    val_main_v28 (F := Ideal) x3 (ValueIdx.ix5 b h g i o) = snk x3 h g := by
  rw [val_main_v28_apply, val_main_v27_apply]
  refine congrArg x3 ((ValueIdx.eq_ix1 (n := 16) _).trans (congrArg ValueIdx.ix1 (Fin.ext ?_)))
  show ((h.val * 4 + g.val) * 1 + 0) * 1 + 0 = h.val * 4 + g.val
  omega

/-- The row of logits the softmax reads: the local keys. -/
theorem row_local (b h g : Fin 4) (i j : Fin 2048) :
    val_main_v29 (F := Ideal) x0 x1 x3 (ValueIdx.ix5 b h g i ⟨j.val, by omega⟩) = local' x0 b h g i j := by
  unfold val_main_v29
  refine Eq.trans (concatenate_pair_apply_left (t := S4x4x4x2048x2305) (s₁ := S4x4x4x2048x2304) (s₂ := S4x4x4x2048x1) 4
    (val_main_v26 (F := Ideal) x0 x1) (val_main_v28 (F := Ideal) x3) _ _ rfl
    (ValueIdx.ix5 (n4 := 2304) b h g i ⟨j.val, by omega⟩ : S4x4x4x2048x2304.Idx) ?_) ?_
  · intro a
    match a with
    | ⟨0, _⟩ => rfl
    | ⟨1, _⟩ => rfl
    | ⟨2, _⟩ => rfl
    | ⟨3, _⟩ => rfl
    | ⟨4, _⟩ => rfl
  unfold val_main_v26
  refine Eq.trans (concatenate_pair_apply_left (t := S4x4x4x2048x2304) (s₁ := S4x4x4x2048x2048) (s₂ := S4x4x4x2048x256) 4
    (val_main_v21 (F := Ideal) x0) (val_main_v25 (F := Ideal) x0 x1) _ _ rfl
    (ValueIdx.ix5 b h g i j : S4x4x4x2048x2048.Idx) ?_) (local_read x0 b h g i j)
  intro a
  match a with
  | ⟨0, _⟩ => rfl
  | ⟨1, _⟩ => rfl
  | ⟨2, _⟩ => rfl
  | ⟨3, _⟩ => rfl
  | ⟨4, _⟩ => rfl

/-- The row of logits the softmax reads: the context keys. -/
theorem row_ctx (b h g : Fin 4) (i : Fin 2048) (p : Fin 256) :
    val_main_v29 (F := Ideal) x0 x1 x3 (ValueIdx.ix5 b h g i ⟨2048 + p.val, by omega⟩) = ctx x0 x1 b h g i p := by
  unfold val_main_v29
  refine Eq.trans (concatenate_pair_apply_left (t := S4x4x4x2048x2305) (s₁ := S4x4x4x2048x2304) (s₂ := S4x4x4x2048x1) 4
    (val_main_v26 (F := Ideal) x0 x1) (val_main_v28 (F := Ideal) x3) _ _ rfl
    (ValueIdx.ix5 (n4 := 2304) b h g i ⟨2048 + p.val, by omega⟩ : S4x4x4x2048x2304.Idx) ?_) ?_
  · intro a
    match a with
    | ⟨0, _⟩ => rfl
    | ⟨1, _⟩ => rfl
    | ⟨2, _⟩ => rfl
    | ⟨3, _⟩ => rfl
    | ⟨4, _⟩ => rfl
  unfold val_main_v26
  refine Eq.trans (concatenate_pair_apply_right (t := S4x4x4x2048x2304) (s₁ := S4x4x4x2048x2048) (s₂ := S4x4x4x2048x256) 4
    (val_main_v21 (F := Ideal) x0) (val_main_v25 (F := Ideal) x0 x1) _ _ rfl rfl
    (ValueIdx.ix5 b h g i p : S4x4x4x2048x256.Idx) ?_ ?_) (ctx_read x0 x1 b h g i p)
  · intro a ha
    match a with
    | ⟨0, _⟩ => rfl
    | ⟨1, _⟩ => rfl
    | ⟨2, _⟩ => rfl
    | ⟨3, _⟩ => rfl
    | ⟨4, _⟩ => exact absurd rfl ha
  · show p.val + 2048 = 2048 + p.val
    omega

/-- The row of logits the softmax reads: the sink. -/
theorem row_sink (b h g : Fin 4) (i : Fin 2048) :
    val_main_v29 (F := Ideal) x0 x1 x3 (ValueIdx.ix5 b h g i ⟨2048 + 256, by omega⟩) = snk x3 h g := by
  unfold val_main_v29
  refine Eq.trans (concatenate_pair_apply_right (t := S4x4x4x2048x2305) (s₁ := S4x4x4x2048x2304) (s₂ := S4x4x4x2048x1) 4
    (val_main_v26 (F := Ideal) x0 x1) (val_main_v28 (F := Ideal) x3) _ _ rfl rfl
    (ValueIdx.ix5 b h g i (0 : Fin 1) : S4x4x4x2048x1.Idx) ?_ ?_) (sink_read x3 b h g i 0)
  · intro a ha
    match a with
    | ⟨0, _⟩ => rfl
    | ⟨1, _⟩ => rfl
    | ⟨2, _⟩ => rfl
    | ⟨3, _⟩ => rfl
    | ⟨4, _⟩ => exact absurd rfl ha
  · rfl

/-- The shift of a query's softmax. -/
def shf (b h g : Fin 4) (i : Fin 2048) : EReal := shift (local' x0 b h g i) (ctx x0 x1 b h g i) (snk x3 h g)

/-- The denominator of a query's softmax. -/
def den (b h g : Fin 4) (i : Fin 2048) : EReal := mass (local' x0 b h g i) (ctx x0 x1 b h g i) (snk x3 h g)

/-- The greatest of the row is the softmax's shift. -/
theorem top_read (b h g : Fin 4) (i : Fin 2048) :
    val_main_v30 (F := Ideal) x0 x1 x3 (ValueIdx.ix4 b h g i) = shf x0 x1 x3 b h g i := by
  unfold val_main_v30
  rw [Host.reduce_eq_fold_single (a := 4) FloatOps.maximumf _ _ _
    (show S4x4x4x2048x2305.Reduces [4] S4x4x4x2048 by decide)]
  have e := top_groups (n := 2048) (p := 256) (fun k => val_main_v29 (F := Ideal) x0 x1 x3 (ValueIdx.ix5 b h g i k))
    _ _ _ (row_local x0 x1 x3 b h g i) (row_ctx x0 x1 x3 b h g i) (row_sink x0 x1 x3 b h g i)
  refine Eq.trans ?_ e
  rw [val_main_cst_2_apply, neg_inf]
  refine congrArg (fun f => Finset.univ.fold max (⊥ : EReal) f) (funext fun k => ?_)
  refine congrArg (val_main_v29 (F := Ideal) x0 x1 x3) (funext fun a => Fin.ext ?_)
  match a with
  | ⟨0, _⟩ => rfl
  | ⟨1, _⟩ => rfl
  | ⟨2, _⟩ => rfl
  | ⟨3, _⟩ => rfl
  | ⟨4, _⟩ => rfl

/-- An exponential of the softmax, from its logit. -/
theorem exp_read (b h g : Fin 4) (i : Fin 2048) (k : Fin 2305) : val_main_v36 (F := Ideal) x0 x1 x3 (ValueIdx.ix5 b h g i k)
    = Ideal.exp (val_main_v29 (F := Ideal) x0 x1 x3 (ValueIdx.ix5 b h g i k) - shf x0 x1 x3 b h g i) := by
  rw [val_main_v36_apply, val_main_v35_apply, val_main_v34_apply, val_main_v33_apply, val_main_v32_apply, val_main_v31_apply,
    val_main_cst_3_apply, neg_inf]
  have e : idx_main_v33 (idx_main_v34 (ValueIdx.ix5 b h g i k)) = ValueIdx.ix4 b h g i :=
    ValueIdx.eq_ix4 (n0 := 4) (n1 := 4) (n2 := 4) (n3 := 2048) _
  rw [e, top_read]
  show Ideal.exp (_ - max ⊥ _) = _
  rw [max_eq_right bot_le]

/-- The denominator of the softmax. -/
theorem den_read (b h g : Fin 4) (i : Fin 2048) :
    val_main_v37 (F := Ideal) x0 x1 x3 (ValueIdx.ix4 b h g i) = den x0 x1 x3 b h g i := by
  rw [val_main_v37_apply, val_main_cst_4_apply, zero_word, zero_add]
  refine Eq.trans ?_ (sum_groups (n := 2048) (p := 256)
    (fun k => val_main_v36 (F := Ideal) x0 x1 x3 (ValueIdx.ix5 b h g i k)) _ _ _
    (fun j => (exp_read x0 x1 x3 b h g i _).trans (congrArg (fun a => Ideal.exp (a - _)) (row_local x0 x1 x3 b h g i j)))
    (fun p => (exp_read x0 x1 x3 b h g i _).trans (congrArg (fun a => Ideal.exp (a - _)) (row_ctx x0 x1 x3 b h g i p)))
    ((exp_read x0 x1 x3 b h g i _).trans (congrArg (fun a => Ideal.exp (a - _)) (row_sink x0 x1 x3 b h g i))))
  exact Finset.sum_congr rfl fun k _ => congrArg (val_main_v36 (F := Ideal) x0 x1 x3)
    (ValueIdx.eq_ix5 (n0 := 4) (n1 := 4) (n2 := 4) (n3 := 2048) (n4 := 2305) _)

/-- A weight of the softmax, from its logit. -/
theorem weight_read (b h g : Fin 4) (i : Fin 2048) (k : Fin 2305) : val_main_v40 (F := Ideal) x0 x1 x3 (ValueIdx.ix5 b h g i k)
    = Ideal.div (Ideal.exp (val_main_v29 (F := Ideal) x0 x1 x3 (ValueIdx.ix5 b h g i k) - shf x0 x1 x3 b h g i))
      (den x0 x1 x3 b h g i) := by
  rw [val_main_v40_apply, val_main_v39_apply, val_main_v38_apply, exp_read]
  have e : idx_main_v38 (idx_main_v39 (ValueIdx.ix5 b h g i k)) = ValueIdx.ix4 b h g i :=
    ValueIdx.eq_ix4 (n0 := 4) (n1 := 4) (n2 := 4) (n3 := 2048) _
  rw [e, den_read]
  rfl

/-- One element of the reference's attention. -/
theorem out_read (b h g : Fin 4) (i : Fin 2048) (d : Fin 128) :
    val_main_v48 (F := Ideal) x0 x1 x2 x3 (ValueIdx.ix5 b i h g d) = out x0 x1 x2 x3 b h g i d := by
  rw [val_main_v48_apply, val_main_v44_apply, val_main_v47_apply, val_main_v43_apply, val_main_v46_apply]
  refine congrArg₂ (fun a b : EReal => a + b) (Finset.sum_congr rfl fun j _ => ?_) (Finset.sum_congr rfl fun p _ => ?_)
  · rw [mul_comm]
    refine congrArg₂ (fun a b : EReal => a * b) ?_ ?_
    · rw [val_main_v42_apply, val_main_v41_apply]
      refine (congrArg (val_main_v40 (F := Ideal) x0 x1 x3)
        (ValueIdx.eq_ix5 (n0 := 4) (n1 := 4) (n2 := 4) (n3 := 2048) (n4 := 2305) _)).trans ?_
      exact (weight_read x0 x1 x3 b h g i _).trans
        (congrArg (fun a => Ideal.div (Ideal.exp (a - _)) _) (row_local x0 x1 x3 b h g i j))
    · exact (congrArg (val_main_v6 (F := Ideal) x0) (ValueIdx.eq_ix4 (n0 := 4) (n1 := 2048) (n2 := 4) (n3 := 128) _)).trans
        (val_read x0 b h j d)
  · rw [mul_comm]
    refine congrArg₂ (fun a b : EReal => a * b) ?_ ?_
    · rw [val_main_v45_apply, val_main_v41_apply]
      refine (congrArg (val_main_v40 (F := Ideal) x0 x1 x3)
        (ValueIdx.eq_ix5 (n0 := 4) (n1 := 4) (n2 := 4) (n3 := 2048) (n4 := 2305) _)).trans ?_
      exact (weight_read x0 x1 x3 b h g i _).trans
        (congrArg (fun a => Ideal.div (Ideal.exp (a - _)) _) (row_ctx x0 x1 x3 b h g i p))
    · exact congrArg x2 (ValueIdx.eq_ix4 (n0 := 4) (n1 := 256) (n2 := 4) (n3 := 128) _)

/-- The reference's result in the request rows. -/
theorem latent_rows (b h g : Fin 4) (i : Fin 2048) (d : Fin 128) (j : S12288x2048.Idx)
    (h0 : (j 0).val = 4096 + b.val * 2048 + i.val) (h1 : (j 1).val = h.val * 512 + g.val * 128 + d.val) :
    val_main_v52 (F := Ideal) x0 x1 x2 x3 x4 j = out x0 x1 x2 x3 b h g i d := by
  unfold val_main_v52
  refine Eq.trans (concatenate_pair_apply_right (t := S12288x2048) (s₁ := S4096x2048) (s₂ := S8192x2048) 0
    (val_main_v51 (F := Ideal) x4) (val_main_v50 (F := Ideal) x0 x1 x2 x3) _ _ rfl rfl
    (ValueIdx.ix2 (n0 := 8192) (n1 := 2048) ⟨b.val * 2048 + i.val, by omega⟩ ⟨h.val * 512 + g.val * 128 + d.val, by omega⟩ :
      S8192x2048.Idx) ?_ ?_) ?_
  · intro a ha
    match a with
    | ⟨0, _⟩ => exact absurd rfl ha
    | ⟨1, _⟩ => exact h1.symm
  · show b.val * 2048 + i.val + 4096 = (j 0).val
    omega
  rw [val_main_v50_apply, val_main_v49_apply]
  refine (congrArg (val_main_v48 (F := Ideal) x0 x1 x2 x3) (funext fun a => Fin.ext ?_)).trans (out_read x0 x1 x2 x3 b h g i d)
  match a with
  | ⟨0, _⟩ =>
    show ((b.val * 2048 + i.val) * 2048 + (h.val * 512 + g.val * 128 + d.val)) / 4194304 = b.val
    omega
  | ⟨1, _⟩ =>
    show ((b.val * 2048 + i.val) * 2048 + (h.val * 512 + g.val * 128 + d.val)) / 2048 % 2048 = i.val
    omega
  | ⟨2, _⟩ =>
    show ((b.val * 2048 + i.val) * 2048 + (h.val * 512 + g.val * 128 + d.val)) / 512 % 4 = h.val
    omega
  | ⟨3, _⟩ =>
    show ((b.val * 2048 + i.val) * 2048 + (h.val * 512 + g.val * 128 + d.val)) / 128 % 4 = g.val
    omega
  | ⟨4, _⟩ =>
    show ((b.val * 2048 + i.val) * 2048 + (h.val * 512 + g.val * 128 + d.val)) % 128 = d.val
    omega

/-- The reference's result in the prompt rows: the rows it was given. -/
theorem prompt_rows (j : S12288x2048.Idx) (h0 : (j 0).val < 4096) :
    val_main_v52 (F := Ideal) x0 x1 x2 x3 x4 j = x4 j := by
  unfold val_main_v52
  refine Eq.trans (concatenate_pair_apply_left (t := S12288x2048) (s₁ := S4096x2048) (s₂ := S8192x2048) 0
    (val_main_v51 (F := Ideal) x4) (val_main_v50 (F := Ideal) x0 x1 x2 x3) _ _ rfl
    (ValueIdx.ix2 (n0 := 4096) (n1 := 2048) ⟨(j 0).val, h0⟩ (j 1) : S4096x2048.Idx) ?_) ?_
  · intro a
    match a with
    | ⟨0, _⟩ => rfl
    | ⟨1, _⟩ => rfl
  rw [val_main_v51_apply]
  refine congrArg x4 (funext fun a => Fin.ext ?_)
  match a with
  | ⟨0, _⟩ => rfl
  | ⟨1, _⟩ => rfl

end Cert.LatRefIdeal.Spec

end
-- ==== Proof.Val.Lat.lean ====
module

public import proofs.«01_k».proof.Proof.Val.LatRow
public import proofs.«01_k».proof.Proof.Val.LatSpec
public import Idealize.ShloMosaic.Lib.Pipeline.ValueKit
public import Idealize.ShloMosaic.Lib.Pipeline.ReadBack

@[expose] public section

set_option maxRecDepth 16384

noncomputable section

namespace Cert.LatIdeal.Final

open Cert.LatIdeal Cert.LatIdeal.Gen Idealize.ShloMosaic Idealize.ShloMosaic.TcCoe Idealize.SL.Sem
open Idealize.ShloMosaic.Pipeline (Dat)
open Cert.LatRefIdeal.Read

variable (m : (ℓ : Loc nD τ sig) → Buf (Elt Ideal) ℓ)

/-- Where the blocks stand: point `t` is request `t / 64`, key head `t / 16 % 4` and block `t % 16` of the request's rows. -/
theorem idx : ∀ t : Fin grid0.N,
    win0_0.index t = ![0] ∧ win0_1.index t = ![t.val / 64 * 16 + t.val % 16, t.val / 16 % 4]
    ∧ win0_2.index t = ![t.val / 64 * 16 + (t.val % 16 - 1), 16 + t.val / 16 % 4]
    ∧ win0_3.index t = ![t.val / 64 * 16 + t.val % 16, 16 + t.val / 16 % 4]
    ∧ win0_4.index t = ![t.val / 64 * 16 + min (t.val % 16 + 1) 15, 16 + t.val / 16 % 4]
    ∧ win0_5.index t = ![t.val / 64 * 16 + (t.val % 16 - 1), 20 + t.val / 16 % 4]
    ∧ win0_6.index t = ![t.val / 64 * 16 + t.val % 16, 20 + t.val / 16 % 4]
    ∧ win0_7.index t = ![t.val / 64 * 16 + min (t.val % 16 + 1) 15, 20 + t.val / 16 % 4]
    ∧ win0_8.index t = ![t.val / 64, t.val / 16 % 4, 0, 0] ∧ win0_9.index t = ![t.val / 64, t.val / 16 % 4, 0, 0]
    ∧ win0_10.index t = ![32 + t.val / 64 * 16 + t.val % 16, t.val / 16 % 4] := by decide +kernel

/-- The point's grid coordinates. -/
theorem crd : ∀ t : Fin grid0.N, (grid0.coords t 0).val = t.val / 64 ∧ (grid0.coords t 1).val = t.val / 16 % 4
    ∧ (grid0.coords t 2).val = t.val % 16 := by decide +kernel

/-- Where a head's sink is read. -/
theorem off : ∀ t : Fin grid0.N, k0_off1 (grid0.coords t) 0#32 = ![t.val / 16 % 4 * 4] ∧ k0_off1 (grid0.coords t) 1#32 = ![t.val / 16 % 4 * 4 + 1]
    ∧ k0_off1 (grid0.coords t) 2#32 = ![t.val / 16 % 4 * 4 + 2] ∧ k0_off1 (grid0.coords t) 3#32 = ![t.val / 16 % 4 * 4 + 3] := by
  decide +kernel

/-- The point's queries, one block per head of the group. -/
def qs (c : Dev nD) (t : Fin cfg0.N) : Fin 4 → Vec Ideal S128x128 .bf16 :=
  ![View.ld (iblk m c 1 t) (Rect.unit ![0, 0] ![128, 128] inb_S128x512_S128x128_0_0),
    View.ld (iblk m c 1 t) (Rect.unit ![0, 128] ![128, 128] inb_S128x512_S128x128_0_128),
    View.ld (iblk m c 1 t) (Rect.unit ![0, 256] ![128, 128] inb_S128x512_S128x128_0_256),
    View.ld (iblk m c 1 t) (Rect.unit ![0, 384] ![128, 128] inb_S128x512_S128x128_0_384)]

/-- The point's band of keys. -/
def ks (c : Dev nD) (t : Fin cfg0.N) : Fin 3 → Vec Ideal S128x128 .bf16 := ![iblk m c 2 t, iblk m c 3 t, iblk m c 4 t]

/-- The point's band of values. -/
def vs (c : Dev nD) (t : Fin cfg0.N) : Fin 3 → Vec Ideal S128x128 .bf16 := ![iblk m c 5 t, iblk m c 6 t, iblk m c 7 t]

/-- A vector of one entry has one. -/
theorem one : 0 < S1.numel := by decide

/-- The point's sinks, one per head of the group. -/
def ss (c : Dev nD) (t : Fin cfg0.N) : Fin 4 → EReal :=
  ![View.ld (iblk m c 0 t) (Rect.unit (k0_off1 (grid0.coords t) 0#32) ![1] (k0_off1_inb (grid0.coords t) 0)) (Shape.Idx.first (s := S1) one),
    View.ld (iblk m c 0 t) (Rect.unit (k0_off1 (grid0.coords t) 1#32) ![1] (k0_off1_inb (grid0.coords t) 1)) (Shape.Idx.first (s := S1) one),
    View.ld (iblk m c 0 t) (Rect.unit (k0_off1 (grid0.coords t) 2#32) ![1] (k0_off1_inb (grid0.coords t) 2)) (Shape.Idx.first (s := S1) one),
    View.ld (iblk m c 0 t) (Rect.unit (k0_off1 (grid0.coords t) 3#32) ![1] (k0_off1_inb (grid0.coords t) 3)) (Shape.Idx.first (s := S1) one)]

/-- The point's local logits before the mask. -/
def lg (c : Dev nD) (t : Fin cfg0.N) : FVec Ideal S512x384 .f32 :=
  k0_pay3 (qs m c t 0) (qs m c t 1) (qs m c t 2) (qs m c t 3) (ks m c t 0) (ks m c t 1) (ks m c t 2)

/-- What a point computes, the heads of the group one after another. -/
def body (c : Dev nD) (t : Fin cfg0.N) : FVec Ideal S512x128 .f32 :=
  k0_pay10 (k0_pay2 (vs m c t 0) (vs m c t 1) (vs m c t 2))
    (k0_pay6 (lg m c t) (k0_pay4 (grid0.coords t)) (k0_pay5 (grid0.coords t)))
    (k0_pay7 (k0_pay1 (qs m c t 0) (qs m c t 1) (qs m c t 2) (qs m c t 3)) (iblk m c 8 t))
    (k0_pay8 (ss m c t 0) (ss m c t 1) (ss m c t 2) (ss m c t 3))
    (k0_pay9 (lg m c t) (k0_pay4 (grid0.coords t)) (k0_pay5 (grid0.coords t))) (iblk m c 9 t)

/-- The fourth head's part of the group's rows. -/
theorem part3 (a : FVec Ideal S384x128 .bf16) (b : FVec Ideal S512x384 .f32) (c : FVec Ideal S512x256 .f32)
    (d e : FVec Ideal S512x1 .f32) (f : FVec Ideal S1x1x256x128 .bf16) (x : S128x128.Idx) (r : Fin 512) (k : Fin 128)
    (hr : r.val = 384 + (x 0).val) (hk : k.val = (x 1).val) : k0_pay14 a b c d e f x = k0_pay10 a b c d e f (ix2 r k) := by
  pointwise [k0_pay14]
  exact congrArg (k0_pay10 a b c d e f) (by funext q; fin_cases q <;> exact Fin.ext (by first | exact hr.symm | exact hk.symm))

/-- The third head's part of the group's rows. -/
theorem part2 (a : FVec Ideal S384x128 .bf16) (b : FVec Ideal S512x384 .f32) (c : FVec Ideal S512x256 .f32)
    (d e : FVec Ideal S512x1 .f32) (f : FVec Ideal S1x1x256x128 .bf16) (x : S128x128.Idx) (r : Fin 512) (k : Fin 128)
    (hr : r.val = 256 + (x 0).val) (hk : k.val = (x 1).val) : k0_pay13 a b c d e f x = k0_pay10 a b c d e f (ix2 r k) := by
  pointwise [k0_pay13]
  exact congrArg (k0_pay10 a b c d e f) (by funext q; fin_cases q <;> exact Fin.ext (by first | exact hr.symm | exact hk.symm))

/-- The second head's part of the group's rows. -/
theorem part1 (a : FVec Ideal S384x128 .bf16) (b : FVec Ideal S512x384 .f32) (c : FVec Ideal S512x256 .f32)
    (d e : FVec Ideal S512x1 .f32) (f : FVec Ideal S1x1x256x128 .bf16) (x : S128x128.Idx) (r : Fin 512) (k : Fin 128)
    (hr : r.val = 128 + (x 0).val) (hk : k.val = (x 1).val) : k0_pay12 a b c d e f x = k0_pay10 a b c d e f (ix2 r k) := by
  pointwise [k0_pay12]
  exact congrArg (k0_pay10 a b c d e f) (by funext q; fin_cases q <;> exact Fin.ext (by first | exact hr.symm | exact hk.symm))

/-- The first head's part of the group's rows. -/
theorem part0 (a : FVec Ideal S384x128 .bf16) (b : FVec Ideal S512x384 .f32) (c : FVec Ideal S512x256 .f32)
    (d e : FVec Ideal S512x1 .f32) (f : FVec Ideal S1x1x256x128 .bf16) (x : S128x128.Idx) (r : Fin 512) (k : Fin 128)
    (hr : r.val = (x 0).val) (hk : k.val = (x 1).val) : k0_pay11 a b c d e f x = k0_pay10 a b c d e f (ix2 r k) := by
  pointwise [k0_pay11]
  exact congrArg (k0_pay10 a b c d e f) (by funext q; fin_cases q <;> exact Fin.ext (by first | exact hr.symm | exact hk.symm))

set_option maxHeartbeats 2000000 in
/-- What a point leaves in the result's block: its heads side by side. -/
theorem out_eq (c : Dev nD) (t : Fin cfg0.N) (y : S128x512.Idx) (r : Fin 512) (d : Fin 128)
    (hr : r.val = (y 1).val / 128 * 128 + (y 0).val) (hd : d.val = (y 1).val % 128) :
    outsAt0 m c t y = body m c t (ix2 r d) := by
  unfold outsAt0
  frame_out
  canon_tiles x hx
  · exact part3 _ _ _ _ _ _ x r d (by omega) (by omega)
  · exact part2 _ _ _ _ _ _ x r d (by omega) (by omega)
  · exact part1 _ _ _ _ _ _ x r d (by omega) (by omega)
  · exact part0 _ _ _ _ _ _ x r d (by omega) (by omega)

/-- A row of the point is one query's attention. -/
theorem row_eq (c : Dev nD) (t : Fin cfg0.N) (r : Fin 512) (d : Fin 128) : body m c t (ix2 r d)
    = Cert.Softmax.attend
        (fun k : Fin 384 => k0_pay6 (lg m c t) (k0_pay4 (grid0.coords t)) (k0_pay5 (grid0.coords t)) (ix2 r k))
        (fun k => k0_pay2 (vs m c t 0) (vs m c t 1) (vs m c t 2) (ix2 k d))
        (fun p : Fin 256 => k0_pay7 (k0_pay1 (qs m c t 0) (qs m c t 1) (qs m c t 2) (qs m c t 3)) (iblk m c 8 t) (ix2 r p))
        (fun p => iblk m c 9 t (ix4 0 0 p d)) (k0_pay8 (F := Ideal) (ss m c t 0) (ss m c t 1) (ss m c t 2) (ss m c t 3) (ix2 r 0)) :=
  Cert.LatIdeal.Row.pay10_eq _ _ _ _ _ _ r d (Cert.LatIdeal.Row.pay9_eq _ _ _ r)

section reads

variable (c : Dev nD) (t : Fin cfg0.N) (b h : Fin 4) (n : Fin 16)
  (hb : b.val = t.val / 64) (hh : h.val = t.val / 16 % 4) (hn : n.val = t.val % 16)

include hb hh hn

/-- A query's component. -/
theorem q_read (g : Fin 4) (i : Fin 128) (d : Fin 128) (j : Fin 2048) (hj : j.val = n.val * 128 + i.val) :
    qs m c t g (ix2 i d) = Cert.LatRefIdeal.Spec.qry (m ((c : Thread nD τ).loc main_arg0)) b h g j d := by
  unfold Cert.LatRefIdeal.Spec.qry
  match g with
  | ⟨0, _⟩ =>
    show View.ld (iblk m c 1 t) _ _ = _
    blk_ext! [iblk, V, idx t]
  | ⟨1, _⟩ =>
    show View.ld (iblk m c 1 t) _ _ = _
    blk_ext! [iblk, V, idx t]
  | ⟨2, _⟩ =>
    show View.ld (iblk m c 1 t) _ _ = _
    blk_ext! [iblk, V, idx t]
  | ⟨3, _⟩ =>
    show View.ld (iblk m c 1 t) _ _ = _
    blk_ext! [iblk, V, idx t]

/-- A key's component, at a key of the request. -/
theorem k_read (s : Fin 3) (i : Fin 128) (d : Fin 128) (j : Fin 2048) (hj : j.val + 128 = n.val * 128 + s.val * 128 + i.val) :
    ks m c t s (ix2 i d) = Cert.LatRefIdeal.Spec.key (m ((c : Thread nD τ).loc main_arg0)) b h j d := by
  unfold Cert.LatRefIdeal.Spec.key
  match s, hj with
  | ⟨0, _⟩, hj =>
    have hj : j.val + 128 = n.val * 128 + 0 * 128 + i.val := hj
    show iblk m c 2 t _ = _
    blk_ext! [iblk, V, idx t]
  | ⟨1, _⟩, hj =>
    have hj : j.val + 128 = n.val * 128 + 1 * 128 + i.val := hj
    show iblk m c 3 t _ = _
    blk_ext! [iblk, V, idx t]
  | ⟨2, _⟩, hj =>
    have hj : j.val + 128 = n.val * 128 + 2 * 128 + i.val := hj
    show iblk m c 4 t _ = _
    blk_ext! [iblk, V, idx t]

/-- A value's component, at a key of the request. -/
theorem v_read (s : Fin 3) (i : Fin 128) (d : Fin 128) (j : Fin 2048) (hj : j.val + 128 = n.val * 128 + s.val * 128 + i.val) :
    vs m c t s (ix2 i d) = Cert.LatRefIdeal.Spec.val (m ((c : Thread nD τ).loc main_arg0)) b h j d := by
  unfold Cert.LatRefIdeal.Spec.val
  match s, hj with
  | ⟨0, _⟩, hj =>
    have hj : j.val + 128 = n.val * 128 + 0 * 128 + i.val := hj
    show iblk m c 5 t _ = _
    blk_ext! [iblk, V, idx t]
  | ⟨1, _⟩, hj =>
    have hj : j.val + 128 = n.val * 128 + 1 * 128 + i.val := hj
    show iblk m c 6 t _ = _
    blk_ext! [iblk, V, idx t]
  | ⟨2, _⟩, hj =>
    have hj : j.val + 128 = n.val * 128 + 2 * 128 + i.val := hj
    show iblk m c 7 t _ = _
    blk_ext! [iblk, V, idx t]

/-- A context key's component. -/
theorem kc_read (p : Fin 256) (d : Fin 128) :
    iblk m c 8 t (ix4 0 0 p d) = m ((c : Thread nD τ).loc main_arg1) (ix4 b p h d) := by
  blk_ext! [iblk, V, idx t]

/-- A context value's component. -/
theorem vc_read (p : Fin 256) (d : Fin 128) :
    iblk m c 9 t (ix4 0 0 p d) = m ((c : Thread nD τ).loc main_arg2) (ix4 b p h d) := by
  blk_ext! [iblk, V, idx t]

/-- A head's sink. -/
theorem s_read (g : Fin 4) : ss m c t g = Cert.LatRefIdeal.Spec.snk (m ((c : Thread nD τ).loc main_arg3)) h g := by
  unfold Cert.LatRefIdeal.Spec.snk
  match g with
  | ⟨0, _⟩ =>
    show View.ld (iblk m c 0 t) _ _ = _
    blk_ext! [iblk, V, idx t, off t]
  | ⟨1, _⟩ =>
    show View.ld (iblk m c 0 t) _ _ = _
    blk_ext! [iblk, V, idx t, off t]
  | ⟨2, _⟩ =>
    show View.ld (iblk m c 0 t) _ _ = _
    blk_ext! [iblk, V, idx t, off t]
  | ⟨3, _⟩ =>
    show View.ld (iblk m c 0 t) _ _ = _
    blk_ext! [iblk, V, idx t, off t]

end reads

/-- The scale is finite. -/
theorem fin_scale : Cert.Softmax.Fin' (FloatOps.ofBits (F := Ideal) .f32 0x3DB504F3#32) := by
  have h : FloatOps.ofBits (F := Ideal) .f32 0x3DB504F3#32 = ((Ideal.ofBits .f32 0x3DB504F3#32 : EReal)) := rfl
  rw [h]
  have f : ∀ x : ℝ, Cert.Softmax.Fin' (x : EReal) := fun x => ⟨EReal.coe_ne_bot x, EReal.coe_ne_top x⟩
  constructor <;> simp [Ideal.ofBits, Ideal.ieee]
  · exact (Cert.Softmax.fin_mul _ _ (f _) (f _)).1
  · exact (Cert.Softmax.fin_mul _ _ (f _) (f _)).2

section row

variable (c : Dev nD) (t : Fin cfg0.N) (b h g : Fin 4) (n : Fin 16)
  (hb : b.val = t.val / 64) (hh : h.val = t.val / 16 % 4) (hn : n.val = t.val % 16)
  (i : Fin 2048) (r : Fin 512) (hg : g.val = r.val / 128) (hi : i.val = n.val * 128 + r.val % 128)

include hb hh hn hg hi

/-- A stacked query is the request's. -/
theorem q_row (d : Fin 128) : k0_pay1 (qs m c t 0) (qs m c t 1) (qs m c t 2) (qs m c t 3) (ix2 r d)
    = Cert.LatRefIdeal.Spec.qry (m ((c : Thread nD τ).loc main_arg0)) b h g i d := by
  rw [Cert.LatIdeal.Row.pay1_eq, ← show g = ⟨r.val / 128, by omega⟩ from Fin.ext hg]
  exact q_read m c t b h n hb hh hn g _ d i hi

omit hg hi in
/-- A band's key is the request's. -/
theorem k_row (k : Fin 384) (j : Fin 2048) (hj : j.val + 128 = n.val * 128 + k.val) (d : Fin 128) :
    k0_pay2 (ks m c t 0) (ks m c t 1) (ks m c t 2) (ix2 k d)
      = Cert.LatRefIdeal.Spec.key (m ((c : Thread nD τ).loc main_arg0)) b h j d := by
  rw [Cert.LatIdeal.Row.pay2_eq]
  exact k_read m c t b h n hb hh hn _ _ d j (by show _ = _ + k.val / 128 * 128 + k.val % 128; omega)

omit hg hi in
/-- A band's value is the request's. -/
theorem v_row (k : Fin 384) (j : Fin 2048) (hj : j.val + 128 = n.val * 128 + k.val) (d : Fin 128) :
    k0_pay2 (vs m c t 0) (vs m c t 1) (vs m c t 2) (ix2 k d)
      = Cert.LatRefIdeal.Spec.val (m ((c : Thread nD τ).loc main_arg0)) b h j d := by
  rw [Cert.LatIdeal.Row.pay2_eq]
  exact v_read m c t b h n hb hh hn _ _ d j (by show _ = _ + k.val / 128 * 128 + k.val % 128; omega)

/-- A band's logit is the request's. -/
theorem lg_row (k : Fin 384) (j : Fin 2048) (hj : j.val + 128 = n.val * 128 + k.val) :
    lg m c t (ix2 r k) = Cert.LatRefIdeal.Spec.logit (m ((c : Thread nD τ).loc main_arg0)) b h g i j := by
  unfold lg Cert.LatRefIdeal.Spec.logit
  rw [Cert.LatIdeal.Row.pay3_eq]
  refine congrArg (fun a : EReal => a * _) (Finset.sum_congr rfl fun d _ => ?_)
  rw [q_row m c t b h g n hb hh hn i r hg hi d, k_row m c t b h n hb hh hn k j hj d]
  exact mul_comm _ _

/-- The masked logit is the request's: the band's keys outside the window or the request take no part. -/
theorem local_row (k : Fin 384) (j : Fin 2048) (hj : j.val + 128 = n.val * 128 + k.val) :
    k0_pay6 (lg m c t) (k0_pay4 (grid0.coords t)) (k0_pay5 (grid0.coords t)) (ix2 r k)
      = Cert.LatRefIdeal.Spec.local' (m ((c : Thread nD τ).loc main_arg0)) b h g i j := by
  unfold Cert.LatRefIdeal.Spec.local'
  rw [Cert.LatIdeal.Row.pay6_eq, lg_row m c t b h g n hb hh hn i r hg hi k j hj, (crd t).2.2]
  exact if_congr (by omega) rfl rfl

/-- A row's context logit is the request's. -/
theorem ctx_row (p : Fin 256) :
    k0_pay7 (k0_pay1 (qs m c t 0) (qs m c t 1) (qs m c t 2) (qs m c t 3)) (iblk m c 8 t) (ix2 r p)
      = Cert.LatRefIdeal.Spec.ctx (m ((c : Thread nD τ).loc main_arg0)) (m ((c : Thread nD τ).loc main_arg1)) b h g i p := by
  unfold Cert.LatRefIdeal.Spec.ctx
  rw [Cert.LatIdeal.Row.pay7_eq]
  refine congrArg (fun a : EReal => a * _) (Finset.sum_congr rfl fun d _ => ?_)
  rw [q_row m c t b h g n hb hh hn i r hg hi d, kc_read m c t b h n hb hh hn p d]
  exact mul_comm _ _

/-- A stacked sink is the head's. -/
theorem snk_row : k0_pay8 (F := Ideal) (ss m c t 0) (ss m c t 1) (ss m c t 2) (ss m c t 3) (ix2 r 0)
    = Cert.LatRefIdeal.Spec.snk (m ((c : Thread nD τ).loc main_arg3)) h g := by
  rw [Cert.LatIdeal.Row.pay8_eq, ← show g = ⟨r.val / 128, by omega⟩ from Fin.ext hg]
  exact s_read m c t b h n hb hh hn g

/-- One element of the point is the request's attention. -/
theorem body_eq (d : Fin 128)
    (f0 : ∀ a, Cert.Softmax.Fin' (m ((c : Thread nD τ).loc main_arg0) a)) (f1 : ∀ a, Cert.Softmax.Fin' (m ((c : Thread nD τ).loc main_arg1) a))
    (f3 : ∀ a, Cert.Softmax.Fin' (m ((c : Thread nD τ).loc main_arg3) a)) : body m c t (ix2 r d)
    = Cert.LatRefIdeal.Spec.out (m ((c : Thread nD τ).loc main_arg0)) (m ((c : Thread nD τ).loc main_arg1))
        (m ((c : Thread nD τ).loc main_arg2)) (m ((c : Thread nD τ).loc main_arg3)) b h g i d := by
  rw [row_eq, snk_row m c t b h g n hb hh hn i r hg hi]
  rw [show (fun p : Fin 256 => k0_pay7 (k0_pay1 (qs m c t 0) (qs m c t 1) (qs m c t 2) (qs m c t 3)) (iblk m c 8 t) (ix2 r p))
      = Cert.LatRefIdeal.Spec.ctx (m ((c : Thread nD τ).loc main_arg0)) (m ((c : Thread nD τ).loc main_arg1)) b h g i
    from funext (ctx_row m c t b h g n hb hh hn i r hg hi)]
  rw [show (fun p : Fin 256 => iblk m c 9 t (ix4 0 0 p d)) = fun p => m ((c : Thread nD τ).loc main_arg2) (ix4 b p h d)
    from funext fun p => vc_read m c t b h n hb hh hn p d]
  refine (Cert.Softmax.attend_match _ _ _ _ _ _ _ (fun (j : Fin 2048) (k : Fin 384) => j.val + 128 = n.val * 128 + k.val)
    (fun j k k' e e' => Fin.ext (by omega)) (fun j j' k e e' => Fin.ext (by omega))
    (fun j k e => (local_row m c t b h g n hb hh hn i r hg hi k j e).symm)
    (fun j k e => (v_row m c t b h n hb hh hn k j e d).symm)
    (fun j e => ?_) (fun k e => ?_) (fun j => ?_) (fun p => ?_) (f3 _)).symm
  · unfold Cert.LatRefIdeal.Spec.local'
    refine if_neg fun w => ?_
    exact e ⟨j.val + 128 - n.val * 128, by omega⟩ (by show _ = _ + (j.val + 128 - n.val * 128); omega)
  · rw [Cert.LatIdeal.Row.pay6_eq, (crd t).2.2]
    refine if_neg fun w => ?_
    exact e ⟨n.val * 128 + k.val - 128, by omega⟩ (by show (n.val * 128 + k.val - 128) + 128 = _; omega)
  · unfold Cert.LatRefIdeal.Spec.local'
    split_ifs
    · exact (Cert.Softmax.fin_mul _ _ (Cert.Softmax.fin_sum_mul _ _ (fun _ => f0 _) (fun _ => f0 _)) fin_scale).2
    · exact bot_ne_top
  · exact (Cert.Softmax.fin_mul _ _ (Cert.Softmax.fin_sum_mul _ _ (fun _ => f1 _) (fun _ => f0 _)) fin_scale).2

end row

/-- The rows of the result no point writes are the given ones. -/
theorem rest (c : Dev nD) (i : S12288x2048.Idx) : V m c main_v4 i = m ((c : Thread nD τ).loc main_arg4) i := by
  blk_ext! [V]

/-- The region leaves the reference's result: the sample's rows are the attention, the prompt's are the given ones. -/
theorem final (c : Dev nD)
    (f0 : ∀ a, Cert.Softmax.Fin' (m ((c : Thread nD τ).loc main_arg0) a)) (f1 : ∀ a, Cert.Softmax.Fin' (m ((c : Thread nD τ).loc main_arg1) a))
    (f3 : ∀ a, Cert.Softmax.Fin' (m ((c : Thread nD τ).loc main_arg3) a)) : (dats m 0 c).arrAt 10 cfg0.N
    = val_main_v52 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  have part : (dats m 0 c).arrAt 10 cfg0.N = fun j => if 32 ≤ (j 0 : ℕ) / 128
      then val_main_v52 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) j
      else V m c main_v4 j := by
    refine (dats m 0 c).arrAt_eq_of_coversWhere 10 _ (fun β => 32 ≤ β (0 : Fin 2)) (by decide +kernel)
      (fun t hf y => ?_) (fun j => Iff.rfl)
    have ht : t.val < 256 := t.isLt
    have hy0 : (y 0).val < 128 := (y 0).isLt
    have hy1 : (y 1).val < 512 := (y 1).isLt
    blk_simp
    rw [after0_10, out_eq m c t y ⟨(y 1).val / 128 * 128 + (y 0).val, by omega⟩ ⟨(y 1).val % 128, by omega⟩ rfl rfl]
    rw [body_eq m c t ⟨t.val / 64, by omega⟩ ⟨t.val / 16 % 4, by omega⟩ ⟨(y 1).val / 128, by omega⟩ ⟨t.val % 16, by omega⟩ rfl rfl rfl
      ⟨t.val % 16 * 128 + (y 0).val, by omega⟩ _ (by show (y 1).val / 128 = ((y 1).val / 128 * 128 + (y 0).val) / 128; omega)
      (by show t.val % 16 * 128 + (y 0).val = t.val % 16 * 128 + ((y 1).val / 128 * 128 + (y 0).val) % 128; omega) _ f0 f1 f3]
    refine (Cert.LatRefIdeal.Spec.latent_rows _ _ _ _ _ _ _ _ _ _ _ ?_ ?_).symm
    · simp [idx t]; omega
    · simp [idx t]; omega
  rw [part]
  funext j
  have hj : (j 0).val < 12288 := (j 0).isLt
  by_cases hr : 32 ≤ (j 0 : ℕ) / 128
  · exact if_pos hr
  · rw [if_neg hr, rest]
    exact (Cert.LatRefIdeal.Spec.prompt_rows _ _ _ _ _ j (by omega)).symm

end Cert.LatIdeal.Final

end
-- ==== Proof.Val.Up.lean ====
module

public import proofs.«01_k».proof.Proof.Gen.UpIdeal.Value
public import proofs.«01_k».proof.Proof.Gen.UpRefIdeal.Run
public import proofs.«01_k».proof.Proof.Gen.UpRefIdeal.Read
public import Idealize.ShloMosaic.Lib.Pipeline.ValueKit

@[expose] public section

set_option maxRecDepth 16384

noncomputable section

namespace Cert.UpIdeal.Final

open Cert.UpIdeal Cert.UpIdeal.Gen Idealize.ShloMosaic Idealize.ShloMosaic.TcCoe Idealize.SL.Sem
open Idealize.ShloMosaic.Pipeline (Dat)
open Cert.UpRefIdeal.Read

variable (m : (ℓ : Loc nD τ sig) → Buf (Elt Ideal) ℓ)

/-- Where each window's block stands at a grid point: the expert is the first coordinate, the hidden columns' block the second. -/
theorem idx : ∀ t : Fin grid0.N,
    win0_0.index t = ![win0_3.index t 0, 0, 0]
    ∧ win0_1.index t = ![0, win0_3.index t 0, 0, win0_3.index t 2]
    ∧ win0_2.index t = ![0, win0_3.index t 0, 0, win0_3.index t 2]
    ∧ win0_3.index t 1 = 0 := by decide +kernel

/-- The up kernel's output array is the reference's gated hidden array: the plain matrix product of each expert's slots, through the same gate. -/
theorem final (c : Dev nD) : (dats m 0 c).arrAt 3 cfg0.N
    = val_main_v9 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  frame_out
  pointwise [Ideal.logistic, k0_pay1, val_main_v9, val_main_v8, val_main_v7, val_main_v6, val_main_v5, val_main_v4, val_main_v3,
    val_main_v2, val_main_v1, val_main_v0, val_main_call0_v0, val_main_call0_v1, val_main_call0_v2, val_main_call0_v3,
    val_main_call0_v4, val_main_call0_v5, val_main_call0_cst, val_main_call0_cst_0]

  blk_point [iblk, V, idx t]

end Cert.UpIdeal.Final

end
-- ==== Proof.Val.Down.lean ====
module

public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit

@[expose] public section

set_option maxRecDepth 16384

noncomputable section

namespace Cert.DownIdeal.Final

open Cert.DownIdeal Cert.DownIdeal.Gen Idealize.ShloMosaic Idealize.ShloMosaic.TcCoe Idealize.SL.Sem
open Idealize.ShloMosaic.Pipeline (Dat)
open Cert.DownRefIdeal.Read

variable (m : (ℓ : Loc nD τ sig) → Buf (Elt Ideal) ℓ)

/-- Where each window's block stands at a grid point: the expert is the first coordinate, the output columns' block the second. -/
theorem idx : ∀ t : Fin grid0.N,
    win0_0.index t = ![win0_3.index t 0, 0, 0]
    ∧ win0_1.index t = ![0, win0_3.index t 0, 0, win0_3.index t 2]
    ∧ win0_2.index t = ![win0_3.index t 0, 0, 0]
    ∧ win0_3.index t 1 = 0 := by decide +kernel

/-- The result array after the launch is the reference's value: each expert's down projection of its rows, every row scaled by its gate. -/
theorem final (c : Dev nD) : (dats m 0 c).arrAt 3 cfg0.N
    = val_main_v6 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  frame_out
  pointwise [k0_pay1, val_main_v6, val_main_v5, val_main_v4, val_main_v3, val_main_v2, val_main_v1, val_main_v0]
  blk_point [iblk, V, idx t]

end Cert.DownIdeal.Final

end
-- ==== Proof.Val.Qkv.lean ====
module

public import proofs.«01_k».proof.Proof.Gen.QkvIdeal.Value
public import proofs.«01_k».proof.Proof.Gen.QkvRefIdeal.Run
public import proofs.«01_k».proof.Proof.Gen.QkvRefIdeal.Read
public import Idealize.ShloMosaic.Lib.Pipeline.ValueKit

@[expose] public section

set_option maxRecDepth 16384

noncomputable section

namespace Cert.QkvIdeal.Final

open Cert.QkvIdeal Cert.QkvIdeal.Gen Idealize.ShloMosaic Idealize.ShloMosaic.TcCoe Idealize.SL.Sem
open Idealize.ShloMosaic.Pipeline (Dat)
open Cert.QkvRefIdeal.Read

variable (m : (ℓ : Loc nD τ sig) → Buf (Elt Ideal) ℓ)

/-- Where the blocks stand: point `t` takes row block `t % 12` against column block `t / 12`. -/
theorem idx : ∀ t : Fin grid0.N,
    win0_0.index t = ![t.val % 12, 0] ∧ win0_1.index t = ![0, 0, t.val / 12]
    ∧ win0_2.index t = ![t.val % 12, t.val / 12] := by decide +kernel

/-- The scratch after point `n` holds the weights' columns of block `n / 12`: written at the block's first point, kept at the others. -/
theorem held (c : Dev nD) (n : ℕ) (hn : n < cfg0.N) (y : S1x2048x512.Idx) (j : S1x2048x3072.Idx)
    (h1 : (j 1).val = (y 1).val) (h2 : (j 2).val = n / 12 * 512 + (y 2).val) :
    (outsAt0 m c n hn).2 y = m ((c : Thread nD τ).loc main_arg1) j := by
  induction n using Nat.strong_induction_on with
  | _ n ih =>
    by_cases h0 : n % 12 = 0
    · rw [outsAt0_A m c ⟨n, hn⟩ h0]
      frame_out
      pointwise [k0_pay1]
      blk_ext [iblk, V, idx ⟨n, hn⟩]
    · rw [outsAt0_B m c ⟨n, hn⟩ h0]
      have hl : n - 1 < cfg0.N := Nat.lt_of_le_of_lt (Nat.sub_le _ _) hn
      have hlt : n - 1 < n := by omega
      have hd : (j 2).val = (n - 1) / 12 * 512 + (y 2).val := by omega
      exact ih (n - 1) hlt hl hd

/-- What a point computes: its rows against the weights that the scratch holds after it. -/
theorem out_eq (c : Dev nD) (t : Fin cfg0.N) :
    (outsAt0 m c t.val t.isLt).1 = k0_pay2 (iblk m c 0 t) (outsAt0 m c t.val t.isLt).2 := by
  by_cases h0 : t.val % 12 = 0
  · rw [outsAt0_A m c t h0]; frame_out
  · rw [outsAt0_B m c t h0]
    frame_out
    dsimp only [sout0_B_0]
    exact congrArg (k0_pay2 _) (Memref.IsWhole.read_unread _ _)

/-- The result array after the launch is the reference's projection. -/
theorem final (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq]
  pointwise [k0_pay2, val_main_v2, val_main_v1, val_main_v0]
  refine @Finset.sum_congr _ EReal _ _ _ _ _ rfl fun k _ => ?_
  refine congrArg₂ (fun a b : EReal => a * b) ?_ ?_
  · blk_ext [iblk, V, idx t]
  · apply held
    all_goals blk_simp [idx t]

end Cert.QkvIdeal.Final

end
-- ==== Proof.Val.DnIn.lean ====
module

public import proofs.«01_k».proof.Proof.Gen.DnInIdeal.Value
public import proofs.«01_k».proof.Proof.Gen.DnInRefIdeal.Run
public import proofs.«01_k».proof.Proof.Gen.DnInRefIdeal.Read
public import Idealize.ShloMosaic.Lib.Pipeline.ValueKit

@[expose] public section

set_option maxRecDepth 16384

noncomputable section

namespace Cert.DnInIdeal.Final

open Cert.DnInIdeal Cert.DnInIdeal.Gen Idealize.ShloMosaic Idealize.ShloMosaic.TcCoe Idealize.SL.Sem
open Idealize.ShloMosaic.Pipeline (Dat)
open Cert.DnInRefIdeal.Read

variable (m : (ℓ : Loc nD τ sig) → Buf (Elt Ideal) ℓ)

/-- Where the blocks stand: point `t` takes row block `t % 12` against column block `t / 12`. -/
theorem idx : ∀ t : Fin grid0.N,
    win0_0.index t = ![t.val % 12, 0] ∧ win0_1.index t = ![0, 0, t.val / 12]
    ∧ win0_2.index t = ![t.val % 12, t.val / 12] := by decide +kernel

/-- The scratch after point `n` holds the weights' columns of block `n / 12`: written at the block's first point, kept at the others. -/
theorem held (c : Dev nD) (n : ℕ) (hn : n < cfg0.N) (y : S1x2048x512.Idx) (j : S1x2048x12416.Idx)
    (h1 : (j 1).val = (y 1).val) (h2 : (j 2).val = n / 12 * 512 + (y 2).val) :
    (outsAt0 m c n hn).2 y = m ((c : Thread nD τ).loc main_arg1) j := by
  induction n using Nat.strong_induction_on with
  | _ n ih =>
    by_cases h0 : n % 12 = 0
    · rw [outsAt0_A m c ⟨n, hn⟩ h0]
      frame_out
      pointwise [k0_pay1]
      unfold X0_1 Pipeline.Window.fill
      rw [dif_pos (moved0_1 ⟨n, hn⟩ y)]
      blk_ext [iblk, V, idx ⟨n, hn⟩]
    · rw [outsAt0_B m c ⟨n, hn⟩ h0]
      have hl : n - 1 < cfg0.N := Nat.lt_of_le_of_lt (Nat.sub_le _ _) hn
      have hlt : n - 1 < n := by omega
      have hd : (j 2).val = (n - 1) / 12 * 512 + (y 2).val := by omega
      exact ih (n - 1) hlt hl hd

/-- What a point computes: its rows against the weights that the scratch holds after it. -/
theorem out_eq (c : Dev nD) (t : Fin cfg0.N) :
    (outsAt0 m c t.val t.isLt).1 = k0_pay2 (iblk m c 0 t) (outsAt0 m c t.val t.isLt).2 := by
  by_cases h0 : t.val % 12 = 0
  · rw [outsAt0_A m c t h0]; frame_out
  · rw [outsAt0_B m c t h0]
    frame_out
    dsimp only [sout0_B_0]
    exact congrArg (k0_pay2 _) (Memref.IsWhole.read_unread _ _)

/-- The result array after the launch is the reference's projection. -/
theorem final (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq]
  pointwise [k0_pay2, val_main_v3, val_main_v2, val_main_v1, val_main_v0]
  refine @Finset.sum_congr _ EReal _ _ _ _ _ rfl fun k _ => ?_
  refine congrArg₂ (fun a b : EReal => a * b) ?_ ?_
  · blk_ext [iblk, V, idx t]
  · apply held
    all_goals blk_simp [idx t]

end Cert.DnInIdeal.Final

end
-- ==== Proof.Val.DnAb.lean ====
module

public import proofs.«01_k».proof.Proof.Gen.DnAbIdeal.Value
public import proofs.«01_k».proof.Proof.Gen.DnAbRefIdeal.Run
public import proofs.«01_k».proof.Proof.Gen.DnAbRefIdeal.Read
public import Idealize.ShloMosaic.Lib.Pipeline.ValueKit

@[expose] public section

set_option maxRecDepth 16384

noncomputable section

namespace Cert.DnAbIdeal.Final

open Cert.DnAbIdeal Cert.DnAbIdeal.Gen Idealize.ShloMosaic Idealize.ShloMosaic.TcCoe Idealize.SL.Sem
open Idealize.ShloMosaic.Pipeline (Dat)
open Cert.DnAbRefIdeal.Read

variable (m : (ℓ : Loc nD τ sig) → Buf (Elt Ideal) ℓ)

/-- Where the blocks stand: point `t` takes row block `t % 12` against the last 128 columns. -/
theorem idx : ∀ t : Fin grid0.N,
    win0_0.index t = ![t.val % 12, 0] ∧ win0_1.index t = ![0, 0, 96]
    ∧ win0_2.index t = ![t.val % 12, 0] := by decide +kernel

/-- The scratch after point `n` holds the weights' last 128 columns: written at the first point, kept at the others. -/
theorem held (c : Dev nD) (n : ℕ) (hn : n < cfg0.N) (y : S1x2048x128.Idx) (j : S1x2048x12416.Idx)
    (h1 : (j 1).val = (y 1).val) (h2 : (j 2).val = 12288 + (y 2).val) :
    (outsAt0 m c n hn).2 y = m ((c : Thread nD τ).loc main_arg1) j := by
  induction n using Nat.strong_induction_on with
  | _ n ih =>
    by_cases h0 : n % 12 = 0
    · rw [outsAt0_A m c ⟨n, hn⟩ h0]
      frame_out
      pointwise [k0_pay1]
      blk_ext [iblk, V, idx ⟨n, hn⟩]
    · rw [outsAt0_B m c ⟨n, hn⟩ h0]
      have hl : n - 1 < cfg0.N := Nat.lt_of_le_of_lt (Nat.sub_le _ _) hn
      have hlt : n - 1 < n := by omega
      exact ih (n - 1) hlt hl

/-- What a point computes: its rows against the weights that the scratch holds after it. -/
theorem out_eq (c : Dev nD) (t : Fin cfg0.N) :
    (outsAt0 m c t.val t.isLt).1 = k0_pay2 (iblk m c 0 t) (outsAt0 m c t.val t.isLt).2 := by
  by_cases h0 : t.val % 12 = 0
  · rw [outsAt0_A m c t h0]; frame_out
  · rw [outsAt0_B m c t h0]
    frame_out
    dsimp only [sout0_B_0]
    exact congrArg (k0_pay2 _) (Memref.IsWhole.read_unread _ _)

/-- The result array after the launch is the reference's projection. -/
theorem final (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq]
  pointwise [k0_pay2, val_main_v3, val_main_v2, val_main_v1, val_main_v0]
  refine @Finset.sum_congr _ EReal _ _ _ _ _ rfl fun k _ => ?_
  refine congrArg₂ (fun a b : EReal => a * b) ?_ ?_
  · blk_ext [iblk, V, idx t]
  · apply held
    all_goals blk_simp [idx t]

end Cert.DnAbIdeal.Final

end
-- ==== Proof.Val.Pw1.lean ====
module

public import proofs.«01_k».proof.Proof.Gen.Pw1Ideal.Value
public import proofs.«01_k».proof.Proof.Gen.Pw1RefIdeal.Run
public import proofs.«01_k».proof.Proof.Gen.Pw1RefIdeal.Read
public import Idealize.ShloMosaic.Lib.Pipeline.ValueKit
public import Idealize.ShloMosaic.Lib.Pipeline.ReadBack

@[expose] public section

set_option maxRecDepth 16384

noncomputable section

namespace Cert.Pw1Ideal.Final

open Cert.Pw1Ideal Cert.Pw1Ideal.Gen Idealize.ShloMosaic Idealize.ShloMosaic.TcCoe Idealize.SL.Sem
open Idealize.ShloMosaic.Pipeline (Dat)
open Cert.Pw1RefIdeal.Read

variable (m : (ℓ : Loc nD τ sig) → Buf (Elt Ideal) ℓ)

/-- Where the blocks stand: point `t` takes row block `t % 12` against column block `t / 12` of the values and of the gates. -/
theorem idx : ∀ t : Fin grid0.N,
    win0_0.index t = ![t.val % 12, 0] ∧ win0_1.index t = ![0, 0, t.val / 12] ∧ win0_2.index t = ![0, 0, 4 + t.val / 12]
    ∧ win0_3.index t = ![0, t.val / 12] ∧ win0_4.index t = ![0, 4 + t.val / 12]
    ∧ win0_5.index t = ![t.val % 12, t.val / 12] := by decide +kernel

/-- The scratch after point `n` holds two blocks of the weights' columns, the values' and the gates': written at the column block's first point, kept at the others. -/
theorem held (c : Dev nD) (n : ℕ) (hn : n < cfg0.N) (y : S2x2048x512.Idx) (j : S2x2048x4096.Idx)
    (h3 : (j 0).val = 0) (h1 : (j 1).val = (y 1).val) (h2 : (j 2).val = (y 0).val * 2048 + n / 12 * 512 + (y 2).val) :
    (outsAt0 m c n hn).2 y = m ((c : Thread nD τ).loc main_arg1) j := by
  induction n using Nat.strong_induction_on with
  | _ n ih =>
    by_cases h0 : n % 12 = 0
    · rw [outsAt0_A m c ⟨n, hn⟩ h0]
      frame_out
      canon_tiles x hx
      · pointwise [k0_pay2]
        blk_ext [iblk, V, idx ⟨n, hn⟩]
      · pointwise [k0_pay1]
        blk_ext [iblk, V, idx ⟨n, hn⟩]
    · rw [outsAt0_B m c ⟨n, hn⟩ h0]
      have hl : n - 1 < cfg0.N := Nat.lt_of_le_of_lt (Nat.sub_le _ _) hn
      have hlt : n - 1 < n := by omega
      have hd : (j 2).val = (y 0).val * 2048 + (n - 1) / 12 * 512 + (y 2).val := by omega
      exact ih (n - 1) hlt hl hd

/-- The load of the values' block reads row 0 of the pair. -/
theorem row0 (inb : ∀ a, (![0, 0, 0] : Fin 3 → ℕ) a + (![1, 2048, 512] : Fin 3 → ℕ) a ≤ S2x2048x512.size a)
    (y : S1x2048x512.Idx) :
    (Rect.unit (s := S2x2048x512) ![0, 0, 0] ![1, 2048, 512] inb).idx y = ix3 0 (y 1) (y 2) := by
  have h : (y 0).val < 1 := (y 0).isLt
  funext a
  refine Fin.ext ((Rect.idx_unit_val _ _ inb y a).trans ?_)
  match a with
  | ⟨0, _⟩ => show 0 + (y 0).val = 0; omega
  | ⟨1, _⟩ => exact Nat.zero_add _
  | ⟨2, _⟩ => exact Nat.zero_add _

/-- The load of the gates' block reads row 1 of the pair. -/
theorem row1 (inb : ∀ a, (![1, 0, 0] : Fin 3 → ℕ) a + (![1, 2048, 512] : Fin 3 → ℕ) a ≤ S2x2048x512.size a)
    (y : S1x2048x512.Idx) :
    (Rect.unit (s := S2x2048x512) ![1, 0, 0] ![1, 2048, 512] inb).idx y = ix3 1 (y 1) (y 2) := by
  have h : (y 0).val < 1 := (y 0).isLt
  funext a
  refine Fin.ext ((Rect.idx_unit_val _ _ inb y a).trans ?_)
  match a with
  | ⟨0, _⟩ => show 1 + (y 0).val = 1; omega
  | ⟨1, _⟩ => exact Nat.zero_add _
  | ⟨2, _⟩ => exact Nat.zero_add _

/-- What a point computes: its rows against the two weight blocks that the scratch holds after it. -/
theorem out_eq (c : Dev nD) (t : Fin cfg0.N) :
    (outsAt0 m c t.val t.isLt).1 = k0_pay3 (iblk m c 0 t) (fun y => (outsAt0 m c t.val t.isLt).2 (ix3 0 (y 1) (y 2)))
      (iblk m c 3 t) (fun y => (outsAt0 m c t.val t.isLt).2 (ix3 1 (y 1) (y 2))) (iblk m c 4 t) := by
  by_cases h0 : t.val % 12 = 0
  · rw [outsAt0_A m c t h0]
    frame_out
    rw [View.readCov_eq_canon', View.readCov_eq_canon']
    exact congrArg₂ (fun a b => k0_pay3 _ a _ b _) (funext fun y => congrArg (View.canon _) (row0 _ y))
      (funext fun y => congrArg (View.canon _) (row1 _ y))
  · rw [outsAt0_B m c t h0]
    frame_out
    dsimp only [sout0_B_0]
    rw [read_unread_whole]
    exact congrArg₂ (fun a b => k0_pay3 _ a _ b _)
      (funext fun y => congrArg (outsAt0 m c (t.val - 1) _).2 (row0 _ y))
      (funext fun y => congrArg (outsAt0 m c (t.val - 1) _).2 (row1 _ y))

/-- The bias of the values at a point's column. -/
theorem bias_lo (c : Dev nD) (t : Fin cfg0.N) (q : Fin 512) (l : Fin 4096) (hl : l.val = t.val / 12 * 512 + q.val) :
    iblk m c 3 t (ix2 0 q) = m ((c : Thread nD τ).loc main_arg2) (ix1 l) := by
  blk_ext! [iblk, V, idx t]

/-- The bias of the gates at a point's column. -/
theorem bias_hi (c : Dev nD) (t : Fin cfg0.N) (q : Fin 512) (l : Fin 4096) (hl : l.val = 2048 + t.val / 12 * 512 + q.val) :
    iblk m c 4 t (ix2 0 q) = m ((c : Thread nD τ).loc main_arg2) (ix1 l) := by
  blk_ext! [iblk, V, idx t]

/-- A pre-activation at a point: the scratch's row `s` of the pair against the rows, and the bias, are the reference's. -/
theorem pre_eq (c : Dev nD) (t : Fin cfg0.N) (r : Fin 1024) (q : Fin 512) (s : Fin 2) (k : Fin 12288) (l : Fin 4096)
    (b : Fin 4096 → EReal) (bk : EReal) (hk : k.val = t.val % 12 * 1024 + r.val)
    (hl : l.val = s.val * 2048 + t.val / 12 * 512 + q.val) (hb : bk = b l) :
    (∑ x : Fin 2048, (fun a b : EReal => a * b) (iblk m c 0 t (ix2 r x)) ((outsAt0 m c t.val t.isLt).2 (ix3 s x q))) + bk
      = (∑ x : Fin 2048, (fun a b : EReal => a * b) (m ((c : Thread nD τ).loc main_arg0) (ix2 k x))
          (m ((c : Thread nD τ).loc main_arg1) (ix3 0 x l))) + b l := by
  refine congrArg₂ (fun a b : EReal => a + b) (Finset.sum_congr rfl fun x _ => congrArg₂ (fun a b : EReal => a * b) ?_ ?_) hb
  · blk_ext [iblk, V, idx t]
  · exact held m c t.val t.isLt _ _ rfl rfl hl

/-- The result array after the launch is the reference's value. -/
theorem final (c : Dev nD) : (dats m 0 c).arrAt 5 cfg0.N
    = val_main_v15 (F := Ideal) (m ((c : Thread nD τ).loc main_arg0)) (m ((c : Thread nD τ).loc main_arg1))
        (m ((c : Thread nD τ).loc main_arg2)) := by
  refine (dats m 0 c).arrAt_eq_of_covers 5 _ (by decide +kernel) fun t hf y => ?_
  blk_simp
  rw [after0_5, out_eq]
  pointwise [Ideal.logistic, k0_pay3, val_main_v15, val_main_v14, val_main_v13, val_main_v12, val_main_v11, val_main_v10, val_main_v9, val_main_v8, val_main_v7, val_main_v6, val_main_v5, val_main_v4, val_main_v3, val_main_v2, val_main_v1, val_main_v0]
  have one : (val_main_cst (F := Ideal) ix0 : EReal) = 1 := by pointwise [val_main_cst]
  have one' : (val_main_cst_0 (F := Ideal) ix0 : EReal) = 1 := by pointwise [val_main_cst_0]
  rw [one, one']
  have hc : (((View.whole main_v1).slice (win0_5.rect t)).emb y 1).val = t.val / 12 * 512 + (y 1).val := by blk_simp [idx t]
  refine congrArg₂ (fun a b : EReal => a * Ideal.div 1 (1 + Ideal.exp (-b))) ?_ ?_
  · refine pre_eq m c t _ _ 0 _ _ (fun l => m ((c : Thread nD τ).loc main_arg2) (ix1 l)) _ ?_ ?_ (bias_lo m c t _ _ hc)
    · blk_simp [idx t]
    · exact hc.trans (by show _ = 0 * 2048 + _ + _; omega)
  · refine pre_eq m c t _ _ 1 _ _ (fun l => m ((c : Thread nD τ).loc main_arg2) (ix1 l)) _ ?_ ?_ (bias_hi m c t _ _ ?_)
    · blk_simp [idx t]
    · exact (congrArg (2048 + ·) hc).trans (by show _ = 1 * 2048 + _ + _; omega)
    · exact (congrArg (2048 + ·) hc).trans (by omega)

end Cert.Pw1Ideal.Final

end
-- ==== Proof.Val.Pw2.lean ====
module

public import proofs.«01_k».proof.Proof.Gen.Pw2Ideal.Frame
public import proofs.«01_k».proof.Proof.Gen.Pw2RefIdeal.Run
public import proofs.«01_k».proof.Proof.Gen.Pw2RefIdeal.Read
public import Idealize.ShloMosaic.Lib.Pipeline.ValueKit

@[expose] public section

set_option maxRecDepth 16384

noncomputable section

namespace Cert.Pw2Ideal.Final

open Cert.Pw2Ideal Cert.Pw2Ideal.Gen Idealize.ShloMosaic Idealize.ShloMosaic.TcCoe Idealize.SL.Sem
open Idealize.ShloMosaic.Pipeline (Dat)
open Cert.Pw2RefIdeal.Read

variable (m : (ℓ : Loc nD τ sig) → Buf (Elt Ideal) ℓ)

/-- Where the blocks stand: point `t` takes row block `t % 12` against column block `t / 12`. -/
theorem idx : ∀ t : Fin grid0.N,
    win0_0.index t = ![t.val % 12, 0] ∧ win0_1.index t = ![0, 0, t.val / 12] ∧ win0_2.index t = ![0, t.val / 12]
    ∧ win0_3.index t = ![t.val % 12, t.val / 12]
    ∧ win0_5.index t = ![t.val % 12, t.val / 12] := by decide +kernel

/-- The context rows' gate. -/
theorem gate_lo : ∀ t : Fin grid0.N, t.val % 12 < 4 → win0_4.index t = ![2, 0, t.val / 12] := by decide +kernel

/-- A request's gate. -/
theorem gate_hi : ∀ t : Fin grid0.N, ¬t.val % 12 < 4 →
    win0_4.index t = ![8 + 6 * ((t.val % 12 - 4) / 2), 0, t.val / 12] := by decide +kernel

/-- The scratch after point `n` holds the weights' columns of block `n / 12`: written at the block's first point, kept at the others. -/
theorem held (c : Dev nD) (n : ℕ) (hn : n < cfg0.N) (y : S1x2048x512.Idx) (j : S2x2048x2048.Idx)
    (h3 : (j 0).val = 0) (h1 : (j 1).val = (y 1).val) (h2 : (j 2).val = n / 12 * 512 + (y 2).val) :
    (outsAt0 m c n hn).2 y = m ((c : Thread nD τ).loc main_arg1) j := by
  induction n using Nat.strong_induction_on with
  | _ n ih =>
    by_cases h0 : n % 12 = 0
    · rw [outsAt0_A m c ⟨n, hn⟩ h0]
      frame_out
      pointwise [k0_pay1]
      blk_ext [iblk, V, idx ⟨n, hn⟩]
    · rw [outsAt0_B m c ⟨n, hn⟩ h0]
      have hl : n - 1 < cfg0.N := Nat.lt_of_le_of_lt (Nat.sub_le _ _) hn
      have hlt : n - 1 < n := by omega
      have hd : (j 2).val = (n - 1) / 12 * 512 + (y 2).val := by omega
      exact ih (n - 1) hlt hl hd

/-- What a point computes: its rows against the weights that the scratch holds after it, gated and added to the stream's rows. -/
theorem out_eq (c : Dev nD) (t : Fin cfg0.N) :
    (outsAt0 m c t.val t.isLt).1 = k0_pay2 (iblk m c 0 t) (outsAt0 m c t.val t.isLt).2 (iblk m c 2 t) (iblk m c 3 t) (iblk m c 4 t) := by
  by_cases h0 : t.val % 12 = 0
  · rw [outsAt0_A m c t h0]; frame_out
  · rw [outsAt0_B m c t h0]
    frame_out
    dsimp only [sout0_B_0]
    exact congrArg (k0_pay2 _ · _ _ _) (Memref.IsWhole.read_unread _ _)

set_option maxHeartbeats 1000000 in
/-- The result array after the launch is the reference's value. -/
theorem final (c : Dev nD) : (dats m 0 c).arrAt 5 cfg0.N
    = val_main_v17 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t hf y => ?_
  blk_simp
  rw [after0_5, out_eq]
  pointwise [k0_pay2, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  refine congrArg₂ (fun a b : EReal => a + b) ?_ (congrArg₂ (fun a b : EReal => a * b) ?_ ?_)
  · blk_ext [iblk, V, idx t]
  · have hy : (y 0).val < 1024 := (y 0).isLt
    by_cases hg : t.val % 12 < 4
    · rw [dif_pos (by blk_simp [idx t]; omega)]
      blk_ext [iblk, V, idx t, gate_lo t hg]
    · rw [dif_neg (by blk_simp [idx t]; omega)]
      blk_ext [iblk, V, idx t, gate_hi t hg]
  · refine congrArg₂ (fun a b : EReal => a + b) ?_ ?_
    · refine @Finset.sum_congr _ EReal _ _ _ _ _ rfl fun k _ => ?_
      refine congrArg₂ (fun a b : EReal => a * b) ?_ ?_
      · blk_ext [iblk, V, idx t]
      · apply held
        case h3 => rfl
        all_goals blk_simp [idx t]
    · blk_ext! [iblk, V, idx t]

/-- Every run ends with the result array at what the launch computes and the arguments as they were. -/
theorem named (ρ : Dev nD → PrngReg) : θ_run defs (onTc (τ := τ) (main (F := Ideal))) ⟨m, fun _ => 0, ρ⟩ fun r => ∀ c : Dev nD,
      r.2.mem ((c : Thread nD τ).loc main_v1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.Pw2Ideal.Final

end
-- ==== Proof.Val.AttnOut.lean ====
module

public import proofs.«01_k».proof.Proof.Gen.AttnOutIdeal.Frame
public import proofs.«01_k».proof.Proof.Gen.AttnOutRefIdeal.Run
public import proofs.«01_k».proof.Proof.Gen.AttnOutRefIdeal.Read
public import Idealize.ShloMosaic.Lib.Pipeline.ValueKit

@[expose] public section

set_option maxRecDepth 16384

noncomputable section

namespace Cert.AttnOutIdeal.Final

open Cert.AttnOutIdeal Cert.AttnOutIdeal.Gen Idealize.ShloMosaic Idealize.ShloMosaic.TcCoe Idealize.SL.Sem
open Idealize.ShloMosaic.Pipeline (Dat)
open Cert.AttnOutRefIdeal.Read

variable (m : (ℓ : Loc nD τ sig) → Buf (Elt Ideal) ℓ)

/-- Where the blocks stand: point `t` takes row block `t % 12` against column block `t / 12`. -/
theorem idx : ∀ t : Fin grid0.N,
    win0_0.index t = ![t.val % 12, 0] ∧ win0_1.index t = ![0, 0, t.val / 12]
    ∧ win0_2.index t = ![t.val % 12, t.val / 12]
    ∧ win0_4.index t = ![t.val % 12, t.val / 12] := by decide +kernel

/-- The context rows' gate. -/
theorem gate_lo : ∀ t : Fin grid0.N, t.val % 12 < 4 → win0_3.index t = ![50, 0, t.val / 12] := by decide +kernel

/-- A request's gate. -/
theorem gate_hi : ∀ t : Fin grid0.N, ¬t.val % 12 < 4 →
    win0_3.index t = ![56 + 6 * ((t.val % 12 - 4) / 2), 0, t.val / 12] := by decide +kernel

/-- The scratch after point `n` holds the weights' columns of block `n / 12`: written at the block's first point, kept at the others. -/
theorem held (c : Dev nD) (n : ℕ) (hn : n < cfg0.N) (y : S1x2048x512.Idx) (j : S1x2048x2048.Idx)
    (h1 : (j 1).val = (y 1).val) (h2 : (j 2).val = n / 12 * 512 + (y 2).val) :
    (outsAt0 m c n hn).2 y = m ((c : Thread nD τ).loc main_arg1) j := by
  induction n using Nat.strong_induction_on with
  | _ n ih =>
    by_cases h0 : n % 12 = 0
    · rw [outsAt0_A m c ⟨n, hn⟩ h0]
      frame_out
      pointwise [k0_pay1]
      blk_ext [iblk, V, idx ⟨n, hn⟩]
    · rw [outsAt0_B m c ⟨n, hn⟩ h0]
      have hl : n - 1 < cfg0.N := Nat.lt_of_le_of_lt (Nat.sub_le _ _) hn
      have hlt : n - 1 < n := by omega
      have hd : (j 2).val = (n - 1) / 12 * 512 + (y 2).val := by omega
      exact ih (n - 1) hlt hl hd

/-- What a point computes: its rows against the weights that the scratch holds after it, gated and added to the stream's rows. -/
theorem out_eq (c : Dev nD) (t : Fin cfg0.N) :
    (outsAt0 m c t.val t.isLt).1 = k0_pay2 (iblk m c 0 t) (outsAt0 m c t.val t.isLt).2 (iblk m c 2 t) (iblk m c 3 t) := by
  by_cases h0 : t.val % 12 = 0
  · rw [outsAt0_A m c t h0]; frame_out
  · rw [outsAt0_B m c t h0]
    frame_out
    dsimp only [sout0_B_0]
    exact congrArg (k0_pay2 _ · _ _) (Memref.IsWhole.read_unread _ _)

/-- The result array after the launch is the reference's value. -/
theorem final (c : Dev nD) : (dats m 0 c).arrAt 4 cfg0.N
    = val_main_v13 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4, out_eq]
  pointwise [k0_pay2, val_main_v13, val_main_v12, val_main_v11, val_main_v10, val_main_v9, val_main_v8, val_main_v7, val_main_v6, val_main_v5, val_main_v4, val_main_v3, val_main_v2, val_main_v1, val_main_v0]
  refine congrArg₂ (fun a b : EReal => a + b) ?_ (congrArg₂ (fun a b : EReal => a * b) ?_ ?_)
  · blk_ext [iblk, V, idx t]
  · have hy : (y 0).val < 1024 := (y 0).isLt
    by_cases hg : t.val % 12 < 4
    · rw [dif_pos (by blk_simp [idx t]; omega)]
      blk_ext [iblk, V, idx t, gate_lo t hg]
    · rw [dif_neg (by blk_simp [idx t]; omega)]
      blk_ext [iblk, V, idx t, gate_hi t hg]
  · refine @Finset.sum_congr _ EReal _ _ _ _ _ rfl fun k _ => ?_
    refine congrArg₂ (fun a b : EReal => a * b) ?_ ?_
    · blk_ext [iblk, V, idx t]
    · apply held
      all_goals blk_simp [idx t]

/-- Every run ends with the result array at what the launch computes and the arguments as they were. -/
theorem named (ρ : Dev nD → PrngReg) : θ_run defs (onTc (τ := τ) (main (F := Ideal))) ⟨m, fun _ => 0, ρ⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.AttnOutIdeal.Final

end
-- ==== Proof.Val.DnOut.lean ====
module

public import proofs.«01_k».proof.Proof.Gen.DnOutIdeal.Frame
public import proofs.«01_k».proof.Proof.Gen.DnOutRefIdeal.Run
public import proofs.«01_k».proof.Proof.Gen.DnOutRefIdeal.Read
public import Idealize.ShloMosaic.Lib.Pipeline.ValueKit

@[expose] public section

set_option maxRecDepth 16384

noncomputable section

namespace Cert.DnOutIdeal.Final

open Cert.DnOutIdeal Cert.DnOutIdeal.Gen Idealize.ShloMosaic Idealize.ShloMosaic.TcCoe Idealize.SL.Sem
open Idealize.ShloMosaic.Pipeline (Dat)
open Cert.DnOutRefIdeal.Read

variable (m : (ℓ : Loc nD τ sig) → Buf (Elt Ideal) ℓ)

/-- Where the blocks stand: point `t` takes row block `t % 24` against column block `t / 24`. -/
theorem idx : ∀ t : Fin grid0.N,
    win0_0.index t = ![t.val % 24, 0] ∧ win0_1.index t = ![0, 0, t.val / 24]
    ∧ win0_2.index t = ![t.val % 24, t.val / 24]
    ∧ win0_4.index t = ![t.val % 24, t.val / 24] := by decide +kernel

/-- The context rows' gate. -/
theorem gate_lo : ∀ t : Fin grid0.N, t.val % 24 < 8 → win0_3.index t = ![98, 0, t.val / 24] := by decide +kernel

/-- A request's gate. -/
theorem gate_hi : ∀ t : Fin grid0.N, ¬t.val % 24 < 8 →
    win0_3.index t = ![104 + 6 * ((t.val % 24 - 8) / 4), 0, t.val / 24] := by decide +kernel

/-- The scratch after point `n` holds the weights' columns of block `n / 24`: written at the block's first point, kept at the others. -/
theorem held (c : Dev nD) (n : ℕ) (hn : n < cfg0.N) (y : S1x4096x512.Idx) (j : S1x4096x2048.Idx)
    (h1 : (j 1).val = (y 1).val) (h2 : (j 2).val = n / 24 * 512 + (y 2).val) :
    (outsAt0 m c n hn).2 y = m ((c : Thread nD τ).loc main_arg1) j := by
  induction n using Nat.strong_induction_on with
  | _ n ih =>
    by_cases h0 : n % 24 = 0
    · rw [outsAt0_A m c ⟨n, hn⟩ h0]
      frame_out
      pointwise [k0_pay1]
      blk_ext [iblk, V, idx ⟨n, hn⟩]
    · rw [outsAt0_B m c ⟨n, hn⟩ h0]
      have hl : n - 1 < cfg0.N := Nat.lt_of_le_of_lt (Nat.sub_le _ _) hn
      have hlt : n - 1 < n := by omega
      have hd : (j 2).val = (n - 1) / 24 * 512 + (y 2).val := by omega
      exact ih (n - 1) hlt hl hd

/-- What a point computes: its rows against the weights that the scratch holds after it, gated and added to the stream's rows. -/
theorem out_eq (c : Dev nD) (t : Fin cfg0.N) :
    (outsAt0 m c t.val t.isLt).1 = k0_pay2 (iblk m c 0 t) (outsAt0 m c t.val t.isLt).2 (iblk m c 2 t) (iblk m c 3 t) := by
  by_cases h0 : t.val % 24 = 0
  · rw [outsAt0_A m c t h0]; frame_out
  · rw [outsAt0_B m c t h0]
    frame_out
    dsimp only [sout0_B_0]
    exact congrArg (k0_pay2 _ · _ _) (Memref.IsWhole.read_unread _ _)

/-- The result array after the launch is the reference's value. -/
theorem final (c : Dev nD) : (dats m 0 c).arrAt 4 cfg0.N
    = val_main_v13 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4, out_eq]
  pointwise [k0_pay2, val_main_v13, val_main_v12, val_main_v11, val_main_v10, val_main_v9, val_main_v8, val_main_v7, val_main_v6, val_main_v5, val_main_v4, val_main_v3, val_main_v2, val_main_v1, val_main_v0]
  refine congrArg₂ (fun a b : EReal => a + b) ?_ (congrArg₂ (fun a b : EReal => a * b) ?_ ?_)
  · blk_ext [iblk, V, idx t]
  · have hy : (y 0).val < 512 := (y 0).isLt
    by_cases hg : t.val % 24 < 8
    · rw [dif_pos (by blk_simp [idx t]; omega)]
      blk_ext [iblk, V, idx t, gate_lo t hg]
    · rw [dif_neg (by blk_simp [idx t]; omega)]
      blk_ext [iblk, V, idx t, gate_hi t hg]
  · refine @Finset.sum_congr _ EReal _ _ _ _ _ rfl fun k _ => ?_
    refine congrArg₂ (fun a b : EReal => a * b) ?_ ?_
    · blk_ext [iblk, V, idx t]
    · apply held
      all_goals blk_simp [idx t]

/-- Every run ends with the result array at what the launch computes and the arguments as they were. -/
theorem named (ρ : Dev nD → PrngReg) : θ_run defs (onTc (τ := τ) (main (F := Ideal))) ⟨m, fun _ => 0, ρ⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.DnOutIdeal.Final

end
-- ==== Proof.Val.Fin.lean ====
module

public import proofs.«01_k».proof.Proof.Gen.FinIdeal.Value
public import proofs.«01_k».proof.Proof.Gen.FinRefIdeal.Run
public import proofs.«01_k».proof.Proof.Gen.FinRefIdeal.Read
public import Idealize.ShloMosaic.Lib.Pipeline.ValueKit

@[expose] public section

set_option maxRecDepth 16384

noncomputable section

namespace Cert.FinIdeal.Final

open Cert.FinIdeal Cert.FinIdeal.Gen Idealize.ShloMosaic Idealize.ShloMosaic.TcCoe Idealize.SL.Sem
open Idealize.ShloMosaic.Pipeline (Dat)
open Cert.FinRefIdeal.Read

variable (m : (ℓ : Loc nD τ sig) → Buf (Elt Ideal) ℓ)

/-- Where the blocks stand: point `t` takes row block `t` of the context rows. -/
theorem idx : ∀ t : Fin grid0.N,
    win0_0.index t = ![t.val, 0] ∧ win0_1.index t = ![0, 0] ∧ win0_2.index t = ![t.val, 0] := by decide +kernel

/-- The result array after the launch is the reference's value: every row over the root of its mean square, times the weight. -/
theorem final (c : Dev nD) : (dats m 0 c).arrAt 2 cfg0.N
    = val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

end Cert.FinIdeal.Final

end
-- ==== Proof.Val.FinS.lean ====
module

public import proofs.«01_k».proof.Proof.Gen.FinSIdeal.Value
public import proofs.«01_k».proof.Proof.Gen.FinSRefIdeal.Run
public import proofs.«01_k».proof.Proof.Gen.FinSRefIdeal.Read
public import Idealize.ShloMosaic.Lib.Pipeline.ValueKit

@[expose] public section

set_option maxRecDepth 16384

noncomputable section

namespace Cert.FinSIdeal.Final

open Cert.FinSIdeal Cert.FinSIdeal.Gen Idealize.ShloMosaic Idealize.ShloMosaic.TcCoe Idealize.SL.Sem
open Idealize.ShloMosaic.Pipeline (Dat)
open Cert.FinSRefIdeal.Read

variable (m : (ℓ : Loc nD τ sig) → Buf (Elt Ideal) ℓ)

/-- Where the blocks stand: point `t` takes the requests' row block `t`, which follows the 16 blocks of the context rows. -/
theorem idx : ∀ t : Fin grid0.N,
    win0_0.index t = ![16 + t.val, 0] ∧ win0_1.index t = ![0, 0] ∧ win0_2.index t = ![t.val, 0] := by decide +kernel

/-- The result array after the launch is the reference's value: every row over the root of its mean square, times the weight. -/
theorem final (c : Dev nD) : (dats m 0 c).arrAt 2 cfg0.N
    = val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

end Cert.FinSIdeal.Final

end
-- ==== Proof.Val.Ada.lean ====
module

public import proofs.«01_k».proof.Proof.Gen.AdaIdeal.Value
public import proofs.«01_k».proof.Proof.Gen.AdaRefIdeal.Run
public import proofs.«01_k».proof.Proof.Gen.AdaRefIdeal.Read
public import Idealize.ShloMosaic.Lib.Pipeline.ValueKit

@[expose] public section

set_option maxRecDepth 16384

noncomputable section

namespace Cert.AdaIdeal.Final

open Cert.AdaIdeal Cert.AdaIdeal.Gen Idealize.ShloMosaic Idealize.ShloMosaic.TcCoe Idealize.SL.Sem
open Idealize.ShloMosaic.Pipeline (Dat)
open Cert.AdaRefIdeal.Read

variable (m : (ℓ : Loc nD τ sig) → Buf (Elt Ideal) ℓ)

/-- Where the blocks stand: point `t` is layer `t / 12` and column block `t % 12`. -/
theorem idx : ∀ t : Fin grid0.N,
    win0_0.index t = ![0, 0] ∧ win0_1.index t = ![t.val / 12, 0, t.val % 12]
    ∧ win0_2.index t = ![t.val / 12, 0, t.val % 12] ∧ win0_3.index t = ![t.val / 12, 0, t.val % 12] := by decide +kernel

/-- The result array is the reference's modulation of every layer: the gated conditioning vectors against the layer's weights, plus its bias. -/
theorem final (c : Dev nD) : (dats m 0 c).arrAt 3 cfg0.N
    = val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [Ideal.logistic, k0_pay1,
    val_main_v5, val_main_v4, val_main_v3, val_main_v2, val_main_v1, val_main_v0, val_main_call0_v5, val_main_call0_v4, val_main_call0_cst_0,
    val_main_call0_v3, val_main_call0_v2, val_main_call0_cst, val_main_call0_v1, val_main_call0_v0]
  refine congrArg₂ (fun a b : EReal => a + b) (Finset.sum_congr rfl fun k _ => ?_) ?_
  · refine Eq.trans ?_ (mul_comm _ _)
    blk_point [iblk, V, idx t]
  · blk_ext! [iblk, V, idx t]

end Cert.AdaIdeal.Final

end
-- ==== Proof.Val.Router.lean ====
module

public import proofs.«01_k».proof.Proof.Gen.RouterIdeal.Value
public import proofs.«01_k».proof.Proof.Gen.RouterRefIdeal.Run
public import proofs.«01_k».proof.Proof.Gen.RouterRefIdeal.Read
public import Idealize.ShloMosaic.Lib.Pipeline.ValueKit

@[expose] public section

set_option maxRecDepth 16384

noncomputable section

namespace Cert.RouterIdeal.Final

open Cert.RouterIdeal Cert.RouterIdeal.Gen Idealize.ShloMosaic Idealize.ShloMosaic.TcCoe Idealize.SL.Sem
open Idealize.ShloMosaic.Pipeline (Dat)
open Cert.RouterRefIdeal.Read

variable (m : (ℓ : Loc nD τ sig) → Buf (Elt Ideal) ℓ)

/-- Where the blocks stand: point `t` takes row block `t`. -/
theorem idx : ∀ t : Fin grid0.N,
    win0_0.index t = ![t.val, 0] ∧ win0_1.index t = ![0, 0] ∧ win0_4.index t = ![0, 0]
    ∧ win0_5.index t = ![t.val, 0] ∧ win0_6.index t = ![t.val, 0] := by decide +kernel

/-- The context rows' shift and scale. -/
theorem mod_lo : ∀ t : Fin grid0.N, t.val < 16 → win0_2.index t = ![3, 0, 0] ∧ win0_3.index t = ![4, 0, 0] := by decide +kernel

/-- A request's shift and scale. -/
theorem mod_hi : ∀ t : Fin grid0.N, ¬t.val < 16 →
    win0_2.index t = ![9 + 6 * ((t.val - 16) / 8), 0, 0] ∧ win0_3.index t = ![10 + 6 * ((t.val - 16) / 8), 0, 0] := by decide +kernel

/-- The modulated row is the reference's. -/
theorem rows (c : Dev nD) (t : Fin cfg0.N) (y : S256x2048.Idx) (j : S12288x2048.Idx) (h0 : (j 0).val = t.val * 256 + (y 0).val)
    (h1 : (j 1).val = (y 1).val) :
    k0_pay2 (iblk m c 0 t) (iblk m c 1 t) (iblk m c 3 t) (iblk m c 2 t) y
      = val_main_v34 (F := Ideal) (m ((c : Thread nD τ).loc main_arg0)) (m ((c : Thread nD τ).loc main_arg1)) (m ((c : Thread nD τ).loc main_arg2)) j := by
  have hy : (y 0).val < 256 := (y 0).isLt
  pointwise [k0_pay2,
    val_main_cst_5, val_main_cst_4, val_main_cst_3, val_main_v34, val_main_v33, val_main_v32, val_main_v31, val_main_v30, val_main_v29, val_main_v28,
    val_main_v27, val_main_v26, val_main_v25, val_main_v24, val_main_v23, val_main_v22, val_main_cst_2, val_main_v21, val_main_v20, val_main_v19,
    val_main_v18, val_main_v17, val_main_v16, val_main_v15, val_main_v14, val_main_v13, val_main_v12, val_main_v11, val_main_v10, val_main_v9,
    val_main_v8, val_main_v7, val_main_v6, val_main_v5, val_main_cst_1, val_main_v4, val_main_v3, val_main_cst_0, val_main_v2, val_main_v1,
    val_main_cst, val_main_v0]
  refine congrArg₂ (fun a b : EReal => a + b) (congrArg₂ (fun a b : EReal => a * b) (congrArg₂ (fun a b : EReal => a * b)
    (congrArg₂ (fun a b : EReal => a * b) ?_ ?_) ?_) (congrArg (fun a : EReal => 1 + a) ?_)) ?_
  · blk_ext [iblk, V, idx t]
  · refine congrArg (fun a : EReal => Ideal.rsqrt (Ideal.div a _ + _)) (Finset.sum_congr rfl fun k _ => ?_)
    refine congrArg (fun a : EReal => a * a) ?_
    blk_ext [iblk, V, idx t]
  · blk_ext! [iblk, V, idx t]
  · by_cases hg : t.val < 16
    · rw [dif_pos (by omega)]
      blk_ext [iblk, V, mod_lo t hg]
    · rw [dif_neg (by omega)]
      blk_ext [iblk, V, mod_hi t hg]
  · by_cases hg : t.val < 16
    · rw [dif_pos (by omega)]
      blk_ext [iblk, V, mod_lo t hg]
    · rw [dif_neg (by omega)]
      blk_ext [iblk, V, mod_hi t hg]

/-- The rows handed to the experts are the reference's. -/
theorem final (c : Dev nD) : (dats m 0 c).arrAt 5 cfg0.N
    = val_main_v35 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, val_main_v35]
  apply rows
  all_goals blk_simp [idx t]

/-- The printed −∞. -/
theorem neg_inf : Ideal.ofBits FTy.f32 4286578688#32 = ⊥ := by
  simp [Ideal.ofBits, Ideal.ieee]

/-- The routing scores are the reference's. -/
theorem scores (c : Dev nD) : (dats m 0 c).arrAt 6 cfg0.N
    = val_main_v47 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay3,
    val_main_v47, val_main_v46, val_main_v45, val_main_v44, val_main_cst_5, val_main_v43, val_main_v42, val_main_v41, val_main_v40, val_main_v39,
    val_main_v38, val_main_cst_4, val_main_v37, val_main_cst_3, val_main_v36]
  rw [neg_inf]
  simp only [max_eq_right bot_le]
  have dot : ∀ (e e' : Fin 16), e.val = e'.val →
      ∑ k : Fin 2048, (fun a b : EReal => a * b) (k0_pay2 (iblk m c 0 t) (iblk m c 1 t) (iblk m c 3 t) (iblk m c 2 t) (ValueIdx.ix2 (y 0) k))
          (iblk m c 4 t (ValueIdx.ix2 k e))
        = ∑ k : Fin 2048, (fun a b : EReal => a * b) (val_main_v34 (F := Ideal) (m ((c : Thread nD τ).loc main_arg0)) (m ((c : Thread nD τ).loc main_arg1)) (m ((c : Thread nD τ).loc main_arg2))
            (ValueIdx.ix2 (((View.whole main_v1_1).slice (win0_6.rect t)).emb y 0) k)) (m ((c : Thread nD τ).loc main_arg3) (ValueIdx.ix2 k e')) := by
    intro e e' he
    refine Finset.sum_congr rfl fun k _ => congrArg₂ (fun a b : EReal => a * b) ?_ ?_
    · apply rows
      · show ((win0_6.blk t).view.emb y 0).val = t.val * 256 + (y 0).val
        blk_simp [idx t]
      · rfl
    · blk_ext [iblk, V, idx t]
  have top : (Finset.univ : Finset (Fin 16)).fold max (⊥ : EReal) (fun e => ∑ k : Fin 2048, (fun a b : EReal => a * b) (k0_pay2 (iblk m c 0 t) (iblk m c 1 t)
          (iblk m c 3 t) (iblk m c 2 t) (ValueIdx.ix2 (y 0) k)) (iblk m c 4 t (ValueIdx.ix2 k e)))
      = (Finset.univ : Finset (Fin 16)).fold max (⊥ : EReal) (fun e => ∑ k : Fin 2048, (fun a b : EReal => a * b) (val_main_v34 (F := Ideal) (m ((c : Thread nD τ).loc main_arg0))
          (m ((c : Thread nD τ).loc main_arg1)) (m ((c : Thread nD τ).loc main_arg2))
          (ValueIdx.ix2 (((View.whole main_v1_1).slice (win0_6.rect t)).emb y 0) k)) (m ((c : Thread nD τ).loc main_arg3) (ValueIdx.ix2 k e))) :=
    congrArg (fun f => (Finset.univ : Finset (Fin 16)).fold max (⊥ : EReal) f) (funext fun e => dot e e rfl)
  refine congrArg₂ Ideal.div (congrArg Ideal.exp (congrArg₂ (fun a b : EReal => a - b) (dot _ _ ?_) top))
    (Finset.sum_congr rfl fun e _ => congrArg Ideal.exp (congrArg₂ (fun a b : EReal => a - b) (dot e e rfl) top))
  blk_simp [idx t]

end Cert.RouterIdeal.Final

end
-- ==== Proof.Val.Rope.lean ====
module

public import proofs.«01_k».proof.Proof.Gen.RopeIdeal.Value
public import proofs.«01_k».proof.Proof.Gen.RopeRefIdeal.Run
public import proofs.«01_k».proof.Proof.Gen.RopeRefIdeal.Read
public import Idealize.ShloMosaic.Lib.Pipeline.ValueKit

@[expose] public section

set_option maxRecDepth 16384

noncomputable section

namespace Cert.RopeIdeal.Final

open Cert.RopeIdeal Cert.RopeIdeal.Gen Idealize.ShloMosaic Idealize.ShloMosaic.TcCoe Idealize.SL.Sem
open Idealize.ShloMosaic.Pipeline (Dat)
open Cert.RopeRefIdeal.Read

variable (m : (ℓ : Loc nD τ sig) → Buf (Elt Ideal) ℓ)

/-- Where the blocks stand: point `t` takes row block `t` of the sample rows, and the tables' rows of the block's place in its request. -/
theorem idx : ∀ t : Fin grid0.N,
    win0_0.index t = ![16 + t.val, 0] ∧ win0_1.index t = ![t.val % 8, 0] ∧ win0_2.index t = ![t.val % 8, 0] ∧ win0_3.index t = ![t.val, 0] := by
  decide +kernel

/-- The projection's entry that a point reads: the sample rows begin at row 4096. -/
theorem in_x (c : Dev nD) (t : Fin cfg0.N) (r : Fin 256) (q : Fin 3072) (j : S12288x3072.Idx) (R Q : ℕ) (hR : r.val = R) (hQ : q.val = Q)
    (h0 : (j 0).val = 4096 + (t.val * 256 + R)) (h1 : (j 1).val = Q) :
    iblk m c 0 t (ix2 r q) = m ((c : Thread nD τ).loc main_arg0) j := by
  blk_ext [iblk, V, idx t]

/-- The cosine that a point reads: both halves of a head's components read the same 64 columns. -/
theorem in_cos (c : Dev nD) (t : Fin cfg0.N) (x : S256x128.Idx) (j : S2048x64.Idx) (h0 : (j 0).val = t.val % 8 * 256 + (x 0).val)
    (h1 : (j 1).val = (x 1).val % 64) : iblk m c 1 t x = m ((c : Thread nD τ).loc main_arg1) j := by
  have hx : (x 1).val < 128 := (x 1).isLt
  have e0 : (((View.whole main_v0).slice (win0_1.rect t)).emb x 0).val = t.val % 8 * 256 + (x 0).val := by blk_simp [idx t]
  have e1 : (((View.whole main_v0).slice (win0_1.rect t)).emb x 1).val = (x 1).val := by blk_simp [idx t]
  blk_simp [iblk, idx t]
  entry_read
  pointwise
  by_cases h : (x 1).val < 64
  · refine (dif_pos (by rw [e1]; exact h)).trans (congrArg (m _) (funext fun a => Fin.ext ?_))
    match a with
    | ⟨0, _⟩ => exact e0.trans h0.symm
    | ⟨1, _⟩ => exact e1.trans ((Nat.mod_eq_of_lt h).symm.trans h1.symm)
  · refine (dif_neg (by rw [e1]; exact h)).trans (congrArg (m _) (funext fun a => Fin.ext ?_))
    match a with
    | ⟨0, _⟩ => exact e0.trans h0.symm
    | ⟨1, _⟩ => show _ - 64 = (j 1).val; rw [e1]; omega

/-- The sine that a point reads in the first half of a head's components, with the sign changed. -/
theorem in_sin_lo (c : Dev nD) (t : Fin cfg0.N) (x : S256x128.Idx) (j : S2048x64.Idx) (h0 : (j 0).val = t.val % 8 * 256 + (x 0).val)
    (h1 : (j 1).val = (x 1).val) (h : (x 1).val < 64) : iblk m c 2 t x = (fun a : EReal => -a) (m ((c : Thread nD τ).loc main_arg2) j) := by
  have e0 : (((View.whole main_v2).slice (win0_2.rect t)).emb x 0).val = t.val % 8 * 256 + (x 0).val := by blk_simp [idx t]
  have e1 : (((View.whole main_v2).slice (win0_2.rect t)).emb x 1).val = (x 1).val := by blk_simp [idx t]
  blk_simp [iblk, idx t]
  entry_read
  pointwise
  refine (dif_pos (by rw [e1]; omega)).trans (congrArg (fun q => (fun a : EReal => -a) (m ((c : Thread nD τ).loc main_arg2) q)) (funext fun a => Fin.ext ?_))
  match a with
  | ⟨0, _⟩ => exact e0.trans h0.symm
  | ⟨1, _⟩ => exact e1.trans h1.symm

/-- The sine that a point reads in the second half. -/
theorem in_sin_hi (c : Dev nD) (t : Fin cfg0.N) (x : S256x128.Idx) (j : S2048x64.Idx) (h0 : (j 0).val = t.val % 8 * 256 + (x 0).val)
    (h1 : (j 1).val + 64 = (x 1).val) : iblk m c 2 t x = m ((c : Thread nD τ).loc main_arg2) j := by
  have e0 : (((View.whole main_v2).slice (win0_2.rect t)).emb x 0).val = t.val % 8 * 256 + (x 0).val := by blk_simp [idx t]
  have e1 : (((View.whole main_v2).slice (win0_2.rect t)).emb x 1).val = (x 1).val := by blk_simp [idx t]
  blk_simp [iblk, idx t]
  entry_read
  pointwise
  refine (dif_neg (by rw [e1]; omega)).trans (congrArg (m _) (funext fun a => Fin.ext ?_))
  match a with
  | ⟨0, _⟩ => exact e0.trans h0.symm
  | ⟨1, _⟩ => show _ - 64 = (j 1).val; rw [e1]; omega

/-- A rotated head's component at a point is the reference's. -/
theorem rot (c : Dev nD) (t : Fin cfg0.N) (o : ℕ) (x : S256x128.Idx) (a b : Fin 3072) (y : S8192x3072.Idx) (ho : o % 128 = 0) (hl : o < 2560)
    (ha : a.val = o + (x 1).val) (hb : b.val = o + ((x 1).val + 128 - 64) % 128) (h0 : (y 0).val = t.val * 256 + (x 0).val) (h1 : (y 1).val = o + (x 1).val) :
    (fun p q r s : EReal => p * q + r * s) (iblk m c 0 t (ix2 (x 0) a)) (iblk m c 1 t x) (iblk m c 0 t (ix2 (x 0) b)) (iblk m c 2 t x)
      = val_main_v21 (F := Ideal) (m ((c : Thread nD τ).loc main_arg0)) (m ((c : Thread nD τ).loc main_arg1)) (m ((c : Thread nD τ).loc main_arg2)) y := by
  have hx : (x 1).val < 128 := (x 1).isLt
  have hr : (y 0).val % 2048 = t.val % 8 * 256 + (x 0).val := by
    have : (x 0).val < 256 := (x 0).isLt
    omega
  pointwise [val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3,
    val_main_v2, val_main_v1, val_main_v0]
  refine Eq.trans ?_ (dif_pos (by omega)).symm
  by_cases h : (x 1).val < 64
  · refine Eq.trans ?_ (dif_pos (by omega)).symm
    refine Eq.trans (congrArg₂ (fun p q : EReal => p + q) (congrArg₂ (fun p q : EReal => p * q) (in_x m c t _ _ _ _ _ rfl rfl ?_ ?_) (in_cos m c t _ _ ?_ ?_))
      ((congrArg₂ (fun p q : EReal => p * q) (in_x m c t _ _ _ _ _ rfl rfl ?_ ?_) (in_sin_lo m c t _ _ ?_ ?_ h)).trans (mul_neg _ _)))
      (sub_eq_add_neg _ _).symm
    · exact congrArg (4096 + ·) h0
    · exact h1.trans ha.symm
    · exact hr
    · show _ % 128 = _
      omega
    · exact congrArg (4096 + ·) h0
    · show _ / 128 * 128 + (64 + _ % 128) = _
      omega
    · exact hr
    · show _ % 128 = _
      omega
  · refine Eq.trans ?_ (dif_neg (by omega)).symm
    refine Eq.trans (congrArg₂ (fun p q : EReal => p + q) (congrArg₂ (fun p q : EReal => p * q) (in_x m c t _ _ _ _ _ rfl rfl ?_ ?_) (in_cos m c t _ _ ?_ ?_))
      (congrArg₂ (fun p q : EReal => p * q) (in_x m c t _ _ _ _ _ rfl rfl ?_ ?_) (in_sin_hi m c t _ _ ?_ ?_))) (add_comm _ _)
    · exact congrArg (4096 + ·) h0
    · show _ / 128 * 128 + (64 + (_ % 128 - 64)) = _
      omega
    · exact hr
    · show _ % 128 - 64 = _
      omega
    · exact congrArg (4096 + ·) h0
    · show _ / 128 * 128 + (_ % 128 - 64) = _
      omega
    · exact hr
    · show _ % 128 - 64 + 64 = _
      omega

/-- A value head's component passes as it is. -/
theorem pass (c : Dev nD) (t : Fin cfg0.N) (x : S256x128.Idx) (a : Fin 3072) (y : S8192x3072.Idx) (hl : 2560 ≤ a.val)
    (h0 : (y 0).val = t.val * 256 + (x 0).val) (h1 : (y 1).val = a.val) :
    iblk m c 0 t (ix2 (x 0) a)
      = val_main_v21 (F := Ideal) (m ((c : Thread nD τ).loc main_arg0)) (m ((c : Thread nD τ).loc main_arg1)) (m ((c : Thread nD τ).loc main_arg2)) y := by
  pointwise [val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3,
    val_main_v2, val_main_v1, val_main_v0]
  refine Eq.trans ?_ (dif_neg (by omega)).symm
  refine in_x m c t _ _ _ _ _ rfl rfl (congrArg (4096 + ·) h0) ?_
  show (20 + (_ / 128 - 20)) * 128 + _ % 128 = _
  omega

/-- The result array is the reference's rotated rows. -/
theorem final (c : Dev nD) : (dats m 0 c).arrAt 3 cfg0.N
    = val_main_v21 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  have hr : (((View.whole main_v3).slice (win0_3.rect t)).emb y 0).val = t.val * 256 + (y 0).val := by blk_simp [idx t]
  have hc : (((View.whole main_v3).slice (win0_3.rect t)).emb y 1).val = (y 1).val := by blk_simp [idx t]
  generalize hR : val_main_v21 (F := Ideal) (m ((c : Thread nD τ).loc main_arg0)) (m ((c : Thread nD τ).loc main_arg1)) (m ((c : Thread nD τ).loc main_arg2)) = R
  canon_tiles x hx
  all_goals pointwise [k0_pay29, k0_pay30, k0_pay1, k0_pay2, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20, k0_pay21, k0_pay22, k0_pay23, k0_pay24, k0_pay25,
    k0_pay26, k0_pay27, k0_pay28]
  all_goals subst hR
  iterate 4 (next => exact pass m c t _ _ _ (by show 2560 ≤ _ + _; omega) (hr.trans (congrArg _ hx0)) (hc.trans hx1))
  all_goals first
    | exact rot m c t _ x _ _ _ (by decide) (by decide) rfl rfl (hr.trans (congrArg _ hx0)) (hc.trans hx1)
    | exact rot m c t 0 x _ _ _ (by decide) (by decide) (Nat.zero_add _).symm (Nat.zero_add _).symm (hr.trans (congrArg _ hx0))
        ((hc.trans hx1).trans (Nat.zero_add _).symm)

end Cert.RopeIdeal.Final

end
-- ==== Proof.Val.Gates.lean ====
module

public import proofs.«01_k».proof.Proof.Gen.GatesIdeal.Value
public import proofs.«01_k».proof.Proof.Gen.GatesRefIdeal.Run
public import proofs.«01_k».proof.Proof.Gen.GatesRefIdeal.Read
public import Idealize.ShloMosaic.Lib.Pipeline.ValueKit

@[expose] public section

set_option maxRecDepth 16384

noncomputable section

namespace Cert.GatesIdeal.Final

open Cert.GatesIdeal Cert.GatesIdeal.Gen Idealize.ShloMosaic Idealize.ShloMosaic.TcCoe Idealize.SL.Sem
open Idealize.ShloMosaic.Pipeline (Dat)
open Cert.GatesRefIdeal.Read

variable (m : (ℓ : Loc nD τ sig) → Buf (Elt Ideal) ℓ)

/-- Where the blocks stand: point `t` takes row block `t`. -/
theorem idx : ∀ t : Fin grid0.N,
    win0_0.index t = ![t.val, 0] ∧ win0_1.index t = ![0, 0] ∧ win0_2.index t = ![0, 0] ∧ win0_3.index t = ![t.val, 0] := by decide +kernel

/-- The kernel's choice of columns: the first 64 are decays. -/
theorem col : ∀ n : Fin 128, IntOp.cmpi .slt (BitVec.ofNat 32 n.val) 64#32 = if n.val < 64 then 1#1 else 0#1 := by decide +kernel

/-- The kernel's choice of columns on two values. -/
theorem pick (n : Fin 128) (p q : EReal) :
    Scalar.select (IntOp.cmpi .slt (BitVec.ofNat 32 n.val) 64#32) p q = if n.val < 64 then p else q := by
  rw [col]
  by_cases h : n.val < 64
  · rw [if_pos h, if_pos h, ValueIdx.select_one]
  · rw [if_neg h, if_neg h, ValueIdx.select_zero]

/-- The kernel's softplus is the reference's, whose guard against a number other than itself never holds. -/
theorem soft (a b : EReal) (h : a = b) :
    max a 0 + Ideal.log1p (Ideal.exp (0 - FloatOps.absf (F := Ideal) (φ := .f32) a))
      = if b ≠ b then b else max b 0 + Ideal.log1p (Ideal.exp (-FloatOps.absf (F := Ideal) (φ := .f32) b)) := by
  subst h
  rw [if_neg (not_not.2 rfl), zero_sub]

/-- The projection's entry that a point reads. -/
theorem in_ab (c : Dev nD) (t : Fin cfg0.N) (x : S1024x128.Idx) (j : S12288x128.Idx)
    (h0 : (j 0).val = t.val * 1024 + (x 0).val) (h1 : (j 1).val = (x 1).val) :
    iblk m c 0 t x = m ((c : Thread nD τ).loc main_arg0) j := by
  blk_ext [iblk, V, idx t]

/-- The decay rate that a point reads: the rates stand in the first 64 columns. -/
theorem in_rate (c : Dev nD) (t : Fin cfg0.N) (x : S1x128.Idx) (j : S2x32.Idx) (h : (j 0).val * 32 + (j 1).val = (x 1).val) :
    iblk m c 1 t x = m ((c : Thread nD τ).loc main_arg1) j := by
  have h0 : (j 0).val < 2 := (j 0).isLt
  have h1 : (j 1).val < 32 := (j 1).isLt
  have e : (((View.whole main_v1).slice (win0_1.rect t)).emb x 1).val = (x 1).val := by blk_simp [idx t]
  dsimp only [iblk, V]
  simp only [StableHlo.after_cons, StableHlo.after_nil, hostOps0, hostOps0_1, hostOps0_2, hostOps0_3, List.flatten_cons, List.flatten_nil,
    List.append_nil, List.cons_append, List.nil_append, StableHlo.TRef.unary, StableHlo.TRef.binary, StableHlo.TRef.of]
  after_results_simp
  simp -implicitDefEqProofs only [StableHlo.TRef.toBuf, StableHlo.TRef.ofBuf, cast_eq]
  blk_simp [idx t]
  pointwise
  refine (dif_pos (by rw [e]; omega)).trans (congrArg (m _) (funext fun a => Fin.ext ?_))
  match a with
  | ⟨0, _⟩ => show _ / 32 = (j 0).val; rw [e]; omega
  | ⟨1, _⟩ => show _ % 32 = (j 1).val; rw [e]; omega

/-- The decay offset that a point reads: the offsets stand in the first 64 columns. -/
theorem in_off (c : Dev nD) (t : Fin cfg0.N) (x : S1x128.Idx) (j : S2x32.Idx) (h : (j 0).val * 32 + (j 1).val = (x 1).val) :
    iblk m c 2 t x = m ((c : Thread nD τ).loc main_arg2) j := by
  have h0 : (j 0).val < 2 := (j 0).isLt
  have h1 : (j 1).val < 32 := (j 1).isLt
  have e : (((View.whole main_v3).slice (win0_2.rect t)).emb x 1).val = (x 1).val := by blk_simp [idx t]
  dsimp only [iblk, V]
  simp only [StableHlo.after_cons, StableHlo.after_nil, hostOps0, hostOps0_1, hostOps0_2, hostOps0_3, List.flatten_cons, List.flatten_nil,
    List.append_nil, List.cons_append, List.nil_append, StableHlo.TRef.unary, StableHlo.TRef.binary, StableHlo.TRef.of]
  after_results_simp
  simp -implicitDefEqProofs only [StableHlo.TRef.toBuf, StableHlo.TRef.ofBuf, cast_eq]
  blk_simp [idx t]
  pointwise
  refine (dif_pos (by rw [e]; omega)).trans (congrArg (m _) (funext fun a => Fin.ext ?_))
  match a with
  | ⟨0, _⟩ => show _ / 32 = (j 0).val; rw [e]; omega
  | ⟨1, _⟩ => show _ % 32 = (j 1).val; rw [e]; omega

/-- The result array is the reference's: log-decays in the first 64 columns, write strengths in the last 64. -/
theorem final (c : Dev nD) : (dats m 0 c).arrAt 3 cfg0.N
    = val_main_v19 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [Ideal.logistic, k0_pay1,
    val_main_v19, val_main_v18, val_main_v17, val_main_v16, val_main_cst_0, val_main_v15, val_main_v14, val_main_cst, val_main_v13, val_main_v12,
    val_main_v11, val_main_v10, val_main_v9, val_main_v8, val_main_v7, val_main_call0_v11, val_main_call0_v10, val_main_call0_v9, val_main_call0_v8,
    val_main_call0_v7, val_main_call0_v6, val_main_call0_v5, val_main_call0_v4, val_main_call0_v3, val_main_call0_v2, val_main_call0_v1,
    val_main_call0_v0, val_main_call0_cst, val_main_v6, val_main_v5, val_main_v4, val_main_v3, val_main_v2, val_main_v1, val_main_v0]
  have hr : (((View.whole main_v4).slice (win0_3.rect t)).emb y 0).val = t.val * 1024 + (y 0).val := by blk_simp [idx t]
  have hc : (((View.whole main_v4).slice (win0_3.rect t)).emb y 1).val = (y 1).val := by blk_simp [idx t]
  refine (pick ⟨(y 1).val, (y 1).isLt⟩ _ _).trans ?_
  by_cases h : (y 1).val < 64
  · refine (if_pos h).trans (Eq.trans ?_ (dif_pos ?_).symm)
    · refine congrArg₂ (fun a b : EReal => a * b) ((zero_sub _).trans (congrArg (fun a : EReal => -Ideal.exp a) ?_))
        (soft _ _ (congrArg₂ (fun a b : EReal => a + b) ?_ ?_))
      · refine in_rate m c t _ _ ?_
        show _ / 32 * 32 + _ % 32 = _
        rw [hc]
        exact Nat.div_add_mod' _ _
      · exact in_ab m c t _ _ hr hc
      · refine in_off m c t _ _ ?_
        show _ / 32 * 32 + _ % 32 = _
        rw [hc]
        exact Nat.div_add_mod' _ _
    · rw [hc]
      omega
  · refine (if_neg h).trans (Eq.trans ?_ (dif_neg ?_).symm)
    · refine congrArg (fun a : EReal => Ideal.div 1 (1 + Ideal.exp (-a))) ?_
      refine in_ab m c t _ _ hr ?_
      show (2 + (_ / 32 - 2)) * 32 + _ % 32 = _
      rw [hc]
      omega
    · rw [hc]
      omega

end Cert.GatesIdeal.Final

end
-- ==== Proof.Val.DnNorm.lean ====
module

public import proofs.«01_k».proof.Proof.Gen.DnNormIdeal.Value
public import proofs.«01_k».proof.Proof.Gen.DnNormRefIdeal.Run
public import proofs.«01_k».proof.Proof.Gen.DnNormRefIdeal.Read
public import Idealize.ShloMosaic.Lib.Pipeline.ValueKit

@[expose] public section

set_option maxRecDepth 16384
set_option maxHeartbeats 4000000

noncomputable section

namespace Cert.DnNormIdeal.Final

open Cert.DnNormIdeal Cert.DnNormIdeal.Gen Idealize.ShloMosaic Idealize.ShloMosaic.TcCoe Idealize.SL.Sem
open Idealize.ShloMosaic.Pipeline (Dat)
open Cert.DnNormRefIdeal.Read

variable (m : (ℓ : Loc nD τ sig) → Buf (Elt Ideal) ℓ)

/-- Where the blocks stand: point `t` is row block `t / 4` and column block `t % 4`; the gate's columns begin at 8192. -/
theorem idx : ∀ t : Fin grid0.N,
    win0_0.index t = ![t.val / 4, t.val % 4] ∧ win0_1.index t = ![t.val / 4, t.val % 4]
    ∧ win0_2.index t = ![t.val / 4, 8 + t.val % 4] ∧ win0_3.index t = ![0, 0] ∧ win0_4.index t = ![t.val / 4, t.val % 4] := by decide +kernel

/-- A norm's scale depends only on the components. -/
theorem norm (f g : Fin 128 → EReal) (c d : EReal) (h : ∀ k, f k = g k) :
    Ideal.rsqrt (Ideal.div (∑ k : Fin 128, f k * f k) c + d) = Ideal.rsqrt (Ideal.div (∑ k : Fin 128, g k * g k) c + d) := by
  rw [funext h]

/-- The first direction's entry that a point reads. -/
theorem in_f (c : Dev nD) (t : Fin cfg0.N) (r : Fin 256) (q : Fin 1024) (j : S12288x4096.Idx)
    (R Q : ℕ) (hR : r.val = R) (hQ : q.val = Q) (h0 : (j 0).val = t.val / 4 * 256 + R) (h1 : (j 1).val = t.val % 4 * 1024 + Q) :
    iblk m c 0 t (ix2 r q) = m ((c : Thread nD τ).loc main_arg0) j := by
  blk_ext [iblk, V, idx t]

/-- The second direction's entry that a point reads. -/
theorem in_b (c : Dev nD) (t : Fin cfg0.N) (r : Fin 256) (q : Fin 1024) (j : S12288x4096.Idx)
    (R Q : ℕ) (hR : r.val = R) (hQ : q.val = Q) (h0 : (j 0).val = t.val / 4 * 256 + R) (h1 : (j 1).val = t.val % 4 * 1024 + Q) :
    iblk m c 1 t (ix2 r q) = m ((c : Thread nD τ).loc main_arg1) j := by
  blk_ext [iblk, V, idx t]

/-- The gate's entry that a point reads. -/
theorem in_gate (c : Dev nD) (t : Fin cfg0.N) (r : Fin 256) (q : Fin 1024) (j : S12288x12288.Idx)
    (R Q : ℕ) (hR : r.val = R) (hQ : q.val = Q) (h0 : (j 0).val = t.val / 4 * 256 + R) (h1 : (j 1).val = 8192 + t.val % 4 * 1024 + Q) :
    iblk m c 2 t (ix2 r q) = m ((c : Thread nD τ).loc main_arg2) j := by
  blk_ext [iblk, V, idx t]

/-- The weight that a point reads at a head's component. -/
theorem in_w (c : Dev nD) (t : Fin cfg0.N) (q : Fin 128) (j : S128.Idx) (h : (j 0).val = q.val) :
    iblk m c 3 t (ix2 0 q) = m ((c : Thread nD τ).loc main_arg3) j := by
  blk_ext! [iblk, V, idx t]

/-- The result array is the reference's: both directions' sum normed over each head's components, weighted and gated. -/
theorem final (c : Dev nD) : (dats m 0 c).arrAt 4 cfg0.N
    = val_main_v20 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  have hr : (((View.whole main_v1).slice (win0_4.rect t)).emb y 0).val = t.val / 4 * 256 + (y 0).val := by blk_simp [idx t]
  have hc : (((View.whole main_v1).slice (win0_4.rect t)).emb y 1).val = t.val % 4 * 1024 + (y 1).val := by blk_simp [idx t]
  canon_tiles x hx
  all_goals pointwise [Ideal.logistic, k0_pay15, k0_pay1, k0_pay2, k0_pay3, k0_pay4, k0_pay5, k0_pay6, k0_pay7, k0_pay8, k0_pay9, k0_pay10, k0_pay11, k0_pay12, k0_pay13, k0_pay14,
    val_main_v20, val_main_v19, val_main_v18, val_main_v17, val_main_call0_v5, val_main_call0_v4, val_main_call0_cst_0, val_main_call0_v3,
    val_main_call0_v2, val_main_call0_cst, val_main_call0_v1, val_main_call0_v0, val_main_v16, val_main_v15, val_main_v14, val_main_v13, val_main_v12,
    val_main_v11, val_main_v10, val_main_v9, val_main_cst_1, val_main_v8, val_main_v7, val_main_cst_0, val_main_v6, val_main_v5, val_main_cst,
    val_main_v4, val_main_v3, val_main_v2, val_main_v1, val_main_v0]
  all_goals
    refine congrArg₂ (fun a b : EReal => a * b) (congrArg₂ (fun a b : EReal => a * b) (congrArg₂ (fun a b : EReal => a * b)
      (congrArg₂ (fun a b : EReal => a + b) ?_ ?_) (norm _ _ _ _ fun k => congrArg₂ (fun a b : EReal => a + b) ?_ ?_)) ?_)
      (congrArg (fun a : EReal => a * Ideal.div 1 (1 + Ideal.exp (-a))) ?_)
    · exact in_f m c t _ _ _ _ _ rfl rfl (hr.trans (congrArg _ hx0)) (hc.trans (congrArg _ hx1))
    · exact in_b m c t _ _ _ _ _ rfl rfl (hr.trans (congrArg _ hx0)) (hc.trans (congrArg _ hx1))
    · refine in_f m c t _ _ _ _ _ rfl rfl (hr.trans (congrArg _ hx0)) ?_
      first | show _ / 128 * 128 + k.val = _ + (_ + k.val) | show _ / 128 * 128 + k.val = _ + k.val
      rw [hc, hx1]
      omega
    · refine in_b m c t _ _ _ _ _ rfl rfl (hr.trans (congrArg _ hx0)) ?_
      first | show _ / 128 * 128 + k.val = _ + (_ + k.val) | show _ / 128 * 128 + k.val = _ + k.val
      rw [hc, hx1]
      omega
    · refine in_w m c t _ _ ?_
      show _ % 128 = _
      rw [hc, hx1]
      omega
    · refine in_gate m c t _ _ _ _ _ rfl rfl (hr.trans (congrArg _ hx0)) ?_
      first | show 8192 + _ = 8192 + _ + (_ + (x 1).val) | show 8192 + _ = 8192 + _ + (x 1).val
      rw [hc, hx1]
      omega

end Cert.DnNormIdeal.Final

end
-- ==== Proof.Val.Norm.lean ====
module

public import proofs.«01_k».proof.Proof.Gen.NormIdeal.Value
public import proofs.«01_k».proof.Proof.Gen.NormRefIdeal.Run
public import proofs.«01_k».proof.Proof.Gen.NormRefIdeal.Read
public import Idealize.ShloMosaic.Lib.Pipeline.ValueKit

@[expose] public section

set_option maxRecDepth 16384

noncomputable section

namespace Cert.NormIdeal.Final

open Cert.NormIdeal Cert.NormIdeal.Gen Idealize.ShloMosaic Idealize.ShloMosaic.TcCoe Idealize.SL.Sem
open Idealize.ShloMosaic.Pipeline (Dat)
open Cert.NormRefIdeal.Read

variable (m : (ℓ : Loc nD τ sig) → Buf (Elt Ideal) ℓ)

/-- Where the blocks stand: point `t` takes row block `t`. -/
theorem idx : ∀ t : Fin grid0.N, win0_0.index t = ![t.val, 0] ∧ win0_1.index t = ![0, 0] ∧ win0_4.index t = ![t.val, 0] := by decide +kernel

/-- The context rows' shift and scale. -/
theorem mod_lo : ∀ t : Fin grid0.N, t.val < 16 → win0_2.index t = ![0, 0, 0] ∧ win0_3.index t = ![1, 0, 0] := by decide +kernel

/-- A request's shift and scale. -/
theorem mod_hi : ∀ t : Fin grid0.N, ¬t.val < 16 →
    win0_2.index t = ![6 + 6 * ((t.val - 16) / 8), 0, 0] ∧ win0_3.index t = ![7 + 6 * ((t.val - 16) / 8), 0, 0] := by decide +kernel

/-- The modulated row is the reference's. -/
theorem rows (c : Dev nD) (t : Fin cfg0.N) (y : S256x2048.Idx) (j : S12288x2048.Idx) (h0 : (j 0).val = t.val * 256 + (y 0).val)
    (h1 : (j 1).val = (y 1).val) :
    k0_pay1 (iblk m c 0 t) (iblk m c 1 t) (iblk m c 3 t) (iblk m c 2 t) y
      = val_main_v35 (F := Ideal) (m ((c : Thread nD τ).loc main_arg0)) (m ((c : Thread nD τ).loc main_arg1)) (m ((c : Thread nD τ).loc main_arg2)) j := by
  have hy : (y 0).val < 256 := (y 0).isLt
  pointwise [k0_pay1,
    val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  refine congrArg₂ (fun a b : EReal => a + b) (congrArg₂ (fun a b : EReal => a * b) (congrArg₂ (fun a b : EReal => a * b)
    (congrArg₂ (fun a b : EReal => a * b) ?_ ?_) ?_) (congrArg (fun a : EReal => 1 + a) ?_)) ?_
  · blk_ext [iblk, V, idx t]
  · refine congrArg (fun a : EReal => Ideal.rsqrt (Ideal.div a _ + _)) (Finset.sum_congr rfl fun k _ => ?_)
    refine congrArg (fun a : EReal => a * a) ?_
    blk_ext [iblk, V, idx t]
  · blk_ext! [iblk, V, idx t]
  · by_cases hg : t.val < 16
    · rw [dif_pos (by omega)]
      blk_ext [iblk, V, mod_lo t hg]
    · rw [dif_neg (by omega)]
      blk_ext [iblk, V, mod_hi t hg]
  · by_cases hg : t.val < 16
    · rw [dif_pos (by omega)]
      blk_ext [iblk, V, mod_lo t hg]
    · rw [dif_neg (by omega)]
      blk_ext [iblk, V, mod_hi t hg]

/-- The modulated norm of every row is the reference's. -/
theorem final (c : Dev nD) : (dats m 0 c).arrAt 4 cfg0.N
    = val_main_v35 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  apply rows
  all_goals blk_simp [idx t]

end Cert.NormIdeal.Final

end
-- ==== Proof.Val.SoftmaxOne.lean ====
module

public import proofs.«01_k».proof.Proof.Val.Softmax

@[expose] public section

set_option maxRecDepth 16384

noncomputable section

/-! One query's attention with a sink, over one group of keys. -/

namespace Cert.SoftmaxOne

open Idealize.ShloMosaic
open Cert.Softmax (top le_top' top_le)

variable {n : ℕ}

/-- The shift: the greatest of the logits and the sink. -/
def shift (L : Fin n → EReal) (s : EReal) : EReal := max (top L) s

/-- The denominator: every key's exponential and the sink's. -/
def mass (L : Fin n → EReal) (s : EReal) : EReal := ∑ j, Ideal.exp (L j - shift L s) + Ideal.exp (s - shift L s)

/-- The attention: the values weighted by the softmax of the logits. -/
def attend (L V : Fin n → EReal) (s : EReal) : EReal := ∑ j, Ideal.div (Ideal.exp (L j - shift L s)) (mass L s) * V j

/-- A sum over the keys and the sink. -/
theorem sum_keys (F : Fin (n + 1) → EReal) (L : Fin n → EReal) (s : EReal)
    (hL : ∀ j : Fin n, F ⟨j.val, by omega⟩ = L j) (hs : F ⟨n, by omega⟩ = s) : ∑ j, F j = ∑ j, L j + s := by
  rw [Fin.sum_univ_castSucc]
  exact congrArg₂ (fun a b : EReal => a + b) (Finset.sum_congr rfl fun j _ => hL j) hs

/-- The greatest over the keys and the sink is the shift. -/
theorem top_keys (F : Fin (n + 1) → EReal) (L : Fin n → EReal) (s : EReal)
    (hL : ∀ j : Fin n, F ⟨j.val, by omega⟩ = L j) (hs : F ⟨n, by omega⟩ = s) : top F = shift L s := by
  refine le_antisymm (top_le _ _ fun j => ?_) (max_le (top_le _ _ fun j => ?_) ?_)
  · by_cases h : j.val < n
    · exact le_trans (le_of_eq (hL ⟨j.val, h⟩)) (le_trans (le_top' L _) (le_max_left _ _))
    · have e : j = ⟨n, by omega⟩ := Fin.ext (by show j.val = n; omega)
      rw [e, hs]
      exact le_max_right _ _
  · rw [← hL j]; exact le_top' F _
  · rw [← hs]; exact le_top' F _

end Cert.SoftmaxOne

end
-- ==== Proof.Val.CtxRow.lean ====
module

public import proofs.«01_k».proof.Proof.Val.SoftmaxOne
public import proofs.«01_k».proof.Proof.Gen.CtxIdeal.Frame
public import Idealize.ShloMosaic.Lib.Pipeline.ValueKit

@[expose] public section

set_option maxRecDepth 16384

noncomputable section

/-! The kernel's payloads at one element: one prompt query's attention over its prompt's keys. -/

namespace Cert.CtxIdeal.Row

open Cert.CtxIdeal Cert.CtxIdeal.Gen Idealize.ShloMosaic Idealize.ShloMosaic.TcCoe
open Cert.Softmax (top)
open Cert.SoftmaxOne

/-- The printed −∞. -/
theorem neg_inf : Ideal.ofBits FTy.f32 0xFF800000#32 = ⊥ := by
  simp [Ideal.ofBits, Ideal.ieee]

/-- One element of the stacked result: the attention of the row's logits. -/
theorem pay1_eq (v13 : FVec Ideal S1024x256 .f32) (v34 v36 : FVec Ideal S1024x1 .f32) (v49 : Vec Ideal S256x128 .f32)
    (r : Fin 1024) (d : Fin 128) (h36 : v36 (ix2 r 0) = top (fun k : Fin 256 => v13 (ix2 r k))) :
    k0_pay1 v13 v34 v36 v49 (ix2 r d) = attend (fun k : Fin 256 => v13 (ix2 r k)) (fun k => v49 (ix2 k d)) (v34 (ix2 r 0)) := by
  pointwise [k0_pay1]
  rw [h36]
  rfl

/-- The greatest of a row's logits. -/
theorem pay8_eq (v0 v2 v4 v6 v9 : Vec Ideal S256x128 .f32) (r : Fin 1024) :
    k0_pay8 v0 v2 v4 v6 v9 (ix2 r 0) = top (fun k : Fin 256 => k0_pay6 v0 v2 v4 v6 v9 (ix2 r k)) := by
  pointwise [k0_pay8]
  rw [neg_inf]
  rfl

/-- A row's logit: its head's query and the key, scaled. -/
theorem pay6_eq (v : Fin 4 → Vec Ideal S256x128 .f32) (v9 : Vec Ideal S256x128 .f32) (r : Fin 1024) (k : Fin 256) :
    k0_pay6 (v 0) (v 1) (v 2) (v 3) v9 (ix2 r k)
      = (∑ d : Fin 128, (fun a b : EReal => a * b) (v ⟨r.val / 256, by omega⟩ (ix2 ⟨r.val % 256, by omega⟩ d)) (v9 (ix2 k d)))
        * FloatOps.ofBits (F := Ideal) .f32 0x3DB504F3#32 := by
  pointwise [k0_pay6]
  refine congrArg (fun a : EReal => a * _) (Finset.sum_congr rfl fun d _ => ?_)
  refine congrArg (fun a : EReal => a * _) ?_
  have pick : ∀ (a : Fin 4) (b : Fin 256) (a' : Fin 4) (b' : Fin 256), a = a' → b = b' → v a (ix2 b d) = v a' (ix2 b' d) := by
    rintro a b _ _ rfl rfl; rfl
  split_ifs <;> exact pick _ _ _ _ (Fin.ext (by show _ = r.val / 256; simp; omega)) (Fin.ext (by show _ = r.val % 256; simp; omega))

/-- A stacked sink. -/
theorem pay7_eq (v : Fin 4 → EReal) (r : Fin 1024) :
    k0_pay7 (F := Ideal) (v 0) (v 1) (v 2) (v 3) (ix2 r 0) = v ⟨r.val / 256, by omega⟩ := by
  pointwise [k0_pay7]
  split_ifs <;> exact congrArg v (Fin.ext (by show _ = r.val / 256; simp; omega))

end Cert.CtxIdeal.Row

end
-- ==== Proof.Val.CtxSpec.lean ====
module

public import proofs.«01_k».proof.Proof.Val.SoftmaxOne
public import proofs.«01_k».proof.Proof.Gen.CtxRefIdeal.Read
public import Idealize.ShloMosaic.Lib.Pipeline.ValueKit

@[expose] public section

set_option maxRecDepth 16384

noncomputable section

/-! The reference's prompt attention read at one element: one query's attention over its prompt's keys. -/

namespace Cert.CtxRefIdeal.Spec

open Cert.CtxRefIdeal Idealize.ShloMosaic Idealize.ShloMosaic.ValueIdx
open Cert.CtxRefIdeal.Read
open Cert.Softmax (top)
open Cert.SoftmaxOne

variable (x0 : (⟨S12288x3072, .f32⟩ : BufTy).Contents (Elt Ideal)) (x1 : (⟨S16, .f32⟩ : BufTy).Contents (Elt Ideal))

/-- A query's component. -/
def qry (b : Fin 16) (h g : Fin 4) (i : Fin 256) (d : Fin 128) : EReal :=
  x0 (ValueIdx.ix2 ⟨b.val * 256 + i.val, by omega⟩ ⟨h.val * 512 + g.val * 128 + d.val, by omega⟩)

/-- A key's component. -/
def key (b : Fin 16) (h : Fin 4) (j : Fin 256) (d : Fin 128) : EReal :=
  x0 (ValueIdx.ix2 ⟨b.val * 256 + j.val, by omega⟩ ⟨2048 + h.val * 128 + d.val, by omega⟩)

/-- A value's component. -/
def val (b : Fin 16) (h : Fin 4) (j : Fin 256) (d : Fin 128) : EReal :=
  x0 (ValueIdx.ix2 ⟨b.val * 256 + j.val, by omega⟩ ⟨2560 + h.val * 128 + d.val, by omega⟩)

/-- The logits' scale, the printed literal. -/
def scale : EReal := FloatOps.ofBits (F := Ideal) .f32 0x3DB504F3#32

/-- The logit of a query and a key. -/
def logit (b : Fin 16) (h g : Fin 4) (i j : Fin 256) : EReal := (∑ d : Fin 128, key x0 b h j d * qry x0 b h g i d) * scale

/-- A head's sink. -/
def snk (h g : Fin 4) : EReal := x1 (ValueIdx.ix1 ⟨h.val * 4 + g.val, by omega⟩)

/-- One element of the attention's result. -/
def out (b : Fin 16) (h g : Fin 4) (i : Fin 256) (d : Fin 128) : EReal :=
  attend (logit x0 b h g i) (fun j => val x0 b h j d) (snk x1 h g)

/-- A query's component is the reference's. -/
theorem qry_read (b : Fin 16) (h g : Fin 4) (i : Fin 256) (d : Fin 128) :
    val_main_v2 (F := Ideal) x0 (ValueIdx.ix5 b i h g d) = qry x0 b h g i d := by
  rw [val_main_v2_apply, val_main_v1_apply, val_main_v0_apply]
  refine congrArg x0 ((ValueIdx.eq_ix2 (n0 := 12288) (n1 := 3072) _).trans (congrArg₂ ValueIdx.ix2 (Fin.ext ?_) (Fin.ext ?_)))
  · show ((((b.val * 256 + i.val) * 4 + h.val) * 4 + g.val) * 128 + d.val) / 2048 = b.val * 256 + i.val
    omega
  · show ((((b.val * 256 + i.val) * 4 + h.val) * 4 + g.val) * 128 + d.val) % 2048 = h.val * 512 + g.val * 128 + d.val
    omega

/-- A key's component is the reference's. -/
theorem key_read (b : Fin 16) (h : Fin 4) (j : Fin 256) (d : Fin 128) :
    val_main_v4 (F := Ideal) x0 (ValueIdx.ix4 b j h d) = key x0 b h j d := by
  rw [val_main_v4_apply, val_main_v3_apply, val_main_v0_apply]
  refine congrArg x0 ((ValueIdx.eq_ix2 (n0 := 12288) (n1 := 3072) _).trans (congrArg₂ ValueIdx.ix2 (Fin.ext ?_) (Fin.ext ?_)))
  · show (((b.val * 256 + j.val) * 4 + h.val) * 128 + d.val) / 512 = b.val * 256 + j.val
    omega
  · show 2048 + (((b.val * 256 + j.val) * 4 + h.val) * 128 + d.val) % 512 = 2048 + h.val * 128 + d.val
    omega

/-- A value's component is the reference's. -/
theorem val_read (b : Fin 16) (h : Fin 4) (j : Fin 256) (d : Fin 128) :
    val_main_v6 (F := Ideal) x0 (ValueIdx.ix4 b j h d) = val x0 b h j d := by
  rw [val_main_v6_apply, val_main_v5_apply, val_main_v0_apply]
  refine congrArg x0 ((ValueIdx.eq_ix2 (n0 := 12288) (n1 := 3072) _).trans (congrArg₂ ValueIdx.ix2 (Fin.ext ?_) (Fin.ext ?_)))
  · show (((b.val * 256 + j.val) * 4 + h.val) * 128 + d.val) / 512 = b.val * 256 + j.val
    omega
  · show 2560 + (((b.val * 256 + j.val) * 4 + h.val) * 128 + d.val) % 512 = 2560 + h.val * 128 + d.val
    omega

/-- A scaled logit is the reference's. -/
theorem logit_read (b : Fin 16) (h g : Fin 4) (i j : Fin 256) :
    val_main_v10 (F := Ideal) x0 (ValueIdx.ix5 b h g i j) = logit x0 b h g i j := by
  rw [val_main_v10_apply, val_main_v8_apply, val_main_v9_apply, val_main_cst_apply, val_main_v7_apply]
  refine congrArg (fun a : EReal => a * scale) (Finset.sum_congr rfl fun d _ => ?_)
  refine congrArg₂ (fun a b : EReal => a * b) ?_ ?_
  · exact (congrArg (val_main_v4 (F := Ideal) x0) (ValueIdx.eq_ix4 (n0 := 16) (n1 := 256) (n2 := 4) (n3 := 128) _)).trans (key_read x0 b h j d)
  · exact (congrArg (val_main_v2 (F := Ideal) x0) (ValueIdx.eq_ix5 (n0 := 16) (n1 := 256) (n2 := 4) (n3 := 4) (n4 := 128) _)).trans
      (qry_read x0 b h g i d)

/-- The printed −∞. -/
theorem neg_inf : (FloatOps.ofBits (F := Ideal) .f32 0xFF800000#32 : EReal) = ⊥ := by
  show Ideal.ofBits .f32 0xFF800000#32 = ⊥
  simp [Ideal.ofBits, Ideal.ieee]

/-- The printed zero. -/
theorem zero_word : (FloatOps.ofBits (F := Ideal) .f32 0x00000000#32 : EReal) = 0 := Ideal.ofBits_zero .f32

/-- The sink is the reference's. -/
theorem sink_read (b : Fin 16) (h g : Fin 4) (i : Fin 256) (o : Fin 1) :
    val_main_v12 (F := Ideal) x1 (ValueIdx.ix5 b h g i o) = snk x1 h g := by
  rw [val_main_v12_apply, val_main_v11_apply]
  refine congrArg x1 ((ValueIdx.eq_ix1 (n := 16) _).trans (congrArg ValueIdx.ix1 (Fin.ext ?_)))
  show ((h.val * 4 + g.val) * 1 + 0) * 1 + 0 = h.val * 4 + g.val
  omega

/-- The row of logits the softmax reads: the keys. -/
theorem row_key (b : Fin 16) (h g : Fin 4) (i j : Fin 256) :
    val_main_v13 (F := Ideal) x0 x1 (ValueIdx.ix5 b h g i ⟨j.val, by omega⟩) = logit x0 b h g i j := by
  unfold val_main_v13
  refine Eq.trans (concatenate_pair_apply_left (t := S16x4x4x256x257) (s₁ := S16x4x4x256x256) (s₂ := S16x4x4x256x1) 4
    (val_main_v10 (F := Ideal) x0) (val_main_v12 (F := Ideal) x1) _ _ rfl
    (ValueIdx.ix5 b h g i j : S16x4x4x256x256.Idx) ?_) (logit_read x0 b h g i j)
  intro a
  match a with
  | ⟨0, _⟩ => rfl
  | ⟨1, _⟩ => rfl
  | ⟨2, _⟩ => rfl
  | ⟨3, _⟩ => rfl
  | ⟨4, _⟩ => rfl

/-- The row of logits the softmax reads: the sink. -/
theorem row_sink (b : Fin 16) (h g : Fin 4) (i : Fin 256) :
    val_main_v13 (F := Ideal) x0 x1 (ValueIdx.ix5 b h g i ⟨256, by omega⟩) = snk x1 h g := by
  unfold val_main_v13
  refine Eq.trans (concatenate_pair_apply_right (t := S16x4x4x256x257) (s₁ := S16x4x4x256x256) (s₂ := S16x4x4x256x1) 4
    (val_main_v10 (F := Ideal) x0) (val_main_v12 (F := Ideal) x1) _ _ rfl rfl
    (ValueIdx.ix5 b h g i (0 : Fin 1) : S16x4x4x256x1.Idx) ?_ ?_) (sink_read x1 b h g i 0)
  · intro a ha
    match a with
    | ⟨0, _⟩ => rfl
    | ⟨1, _⟩ => rfl
    | ⟨2, _⟩ => rfl
    | ⟨3, _⟩ => rfl
    | ⟨4, _⟩ => exact absurd rfl ha
  · rfl

/-- The shift of a query's softmax. -/
def shf (b : Fin 16) (h g : Fin 4) (i : Fin 256) : EReal := shift (logit x0 b h g i) (snk x1 h g)

/-- The denominator of a query's softmax. -/
def den (b : Fin 16) (h g : Fin 4) (i : Fin 256) : EReal := mass (logit x0 b h g i) (snk x1 h g)

/-- The greatest of the row is the softmax's shift. -/
theorem top_read (b : Fin 16) (h g : Fin 4) (i : Fin 256) :
    val_main_v14 (F := Ideal) x0 x1 (ValueIdx.ix4 b h g i) = shf x0 x1 b h g i := by
  unfold val_main_v14
  rw [Host.reduce_eq_fold_single (a := 4) FloatOps.maximumf _ _ _
    (show S16x4x4x256x257.Reduces [4] S16x4x4x256 by decide)]
  have e := top_keys (n := 256) (fun k => val_main_v13 (F := Ideal) x0 x1 (ValueIdx.ix5 b h g i k))
    _ _ (row_key x0 x1 b h g i) (row_sink x0 x1 b h g i)
  refine Eq.trans ?_ e
  rw [val_main_cst_0_apply, neg_inf]
  refine congrArg (fun f => Finset.univ.fold max (⊥ : EReal) f) (funext fun k => ?_)
  refine congrArg (val_main_v13 (F := Ideal) x0 x1) (funext fun a => Fin.ext ?_)
  match a with
  | ⟨0, _⟩ => rfl
  | ⟨1, _⟩ => rfl
  | ⟨2, _⟩ => rfl
  | ⟨3, _⟩ => rfl
  | ⟨4, _⟩ => rfl

/-- An exponential of the softmax, from its logit. -/
theorem exp_read (b : Fin 16) (h g : Fin 4) (i : Fin 256) (k : Fin 257) : val_main_v20 (F := Ideal) x0 x1 (ValueIdx.ix5 b h g i k)
    = Ideal.exp (val_main_v13 (F := Ideal) x0 x1 (ValueIdx.ix5 b h g i k) - shf x0 x1 b h g i) := by
  rw [val_main_v20_apply, val_main_v19_apply, val_main_v18_apply, val_main_v17_apply, val_main_v16_apply, val_main_v15_apply,
    val_main_cst_1_apply, neg_inf]
  have e : idx_main_v17 (idx_main_v18 (ValueIdx.ix5 b h g i k)) = ValueIdx.ix4 b h g i :=
    ValueIdx.eq_ix4 (n0 := 16) (n1 := 4) (n2 := 4) (n3 := 256) _
  rw [e, top_read]
  show Ideal.exp (_ - max ⊥ _) = _
  rw [max_eq_right bot_le]

/-- The denominator of the softmax. -/
theorem den_read (b : Fin 16) (h g : Fin 4) (i : Fin 256) :
    val_main_v21 (F := Ideal) x0 x1 (ValueIdx.ix4 b h g i) = den x0 x1 b h g i := by
  rw [val_main_v21_apply, val_main_cst_2_apply, zero_word, zero_add]
  refine Eq.trans ?_ (sum_keys (n := 256)
    (fun k => val_main_v20 (F := Ideal) x0 x1 (ValueIdx.ix5 b h g i k))
    (fun j => Ideal.exp (logit x0 b h g i j - shf x0 x1 b h g i)) (Ideal.exp (snk x1 h g - shf x0 x1 b h g i))
    (fun j => (exp_read x0 x1 b h g i _).trans (congrArg (fun a : EReal => Ideal.exp (a - _)) (row_key x0 x1 b h g i j)))
    ((exp_read x0 x1 b h g i _).trans (congrArg (fun a : EReal => Ideal.exp (a - _)) (row_sink x0 x1 b h g i))))
  exact Finset.sum_congr rfl fun k _ => congrArg (val_main_v20 (F := Ideal) x0 x1)
    (ValueIdx.eq_ix5 (n0 := 16) (n1 := 4) (n2 := 4) (n3 := 256) (n4 := 257) _)

/-- A weight of the softmax, from its logit. -/
theorem weight_read (b : Fin 16) (h g : Fin 4) (i : Fin 256) (k : Fin 257) : val_main_v24 (F := Ideal) x0 x1 (ValueIdx.ix5 b h g i k)
    = Ideal.div (Ideal.exp (val_main_v13 (F := Ideal) x0 x1 (ValueIdx.ix5 b h g i k) - shf x0 x1 b h g i)) (den x0 x1 b h g i) := by
  rw [val_main_v24_apply, val_main_v23_apply, val_main_v22_apply, exp_read]
  have e : idx_main_v22 (idx_main_v23 (ValueIdx.ix5 b h g i k)) = ValueIdx.ix4 b h g i :=
    ValueIdx.eq_ix4 (n0 := 16) (n1 := 4) (n2 := 4) (n3 := 256) _
  rw [e, den_read]
  rfl

/-- One element of the reference's attention. -/
theorem out_read (b : Fin 16) (h g : Fin 4) (i : Fin 256) (d : Fin 128) :
    val_main_v27 (F := Ideal) x0 x1 (ValueIdx.ix5 b i h g d) = out x0 x1 b h g i d := by
  unfold out attend
  rw [val_main_v27_apply, val_main_v26_apply]
  refine Finset.sum_congr rfl fun j _ => ?_
  rw [mul_comm]
  refine congrArg₂ (fun a b : EReal => a * b) ?_ ?_
  · rw [val_main_v25_apply]
    refine (congrArg (val_main_v24 (F := Ideal) x0 x1)
      (ValueIdx.eq_ix5 (n0 := 16) (n1 := 4) (n2 := 4) (n3 := 256) (n4 := 257) _)).trans ?_
    exact (weight_read x0 x1 b h g i _).trans
      (congrArg (fun a : EReal => Ideal.div (Ideal.exp (a - _)) _) (row_key x0 x1 b h g i j))
  · exact (congrArg (val_main_v6 (F := Ideal) x0) (ValueIdx.eq_ix4 (n0 := 16) (n1 := 256) (n2 := 4) (n3 := 128) _)).trans
      (val_read x0 b h j d)

/-- The reference's result at an element. -/
theorem rows (b : Fin 16) (h g : Fin 4) (i : Fin 256) (d : Fin 128) (j : S4096x2048.Idx)
    (h0 : (j 0).val = b.val * 256 + i.val) (h1 : (j 1).val = h.val * 512 + g.val * 128 + d.val) :
    val_main_v29 (F := Ideal) x0 x1 j = out x0 x1 b h g i d := by
  rw [val_main_v29_apply, val_main_v28_apply]
  refine (congrArg (val_main_v27 (F := Ideal) x0 x1) (funext fun a => Fin.ext ?_)).trans (out_read x0 x1 b h g i d)
  match a with
  | ⟨0, _⟩ =>
    show ((j 0).val * 2048 + (j 1).val) / 524288 = b.val
    omega
  | ⟨1, _⟩ =>
    show ((j 0).val * 2048 + (j 1).val) / 2048 % 256 = i.val
    omega
  | ⟨2, _⟩ =>
    show ((j 0).val * 2048 + (j 1).val) / 512 % 4 = h.val
    omega
  | ⟨3, _⟩ =>
    show ((j 0).val * 2048 + (j 1).val) / 128 % 4 = g.val
    omega
  | ⟨4, _⟩ =>
    show ((j 0).val * 2048 + (j 1).val) % 128 = d.val
    omega

end Cert.CtxRefIdeal.Spec

end
-- ==== Proof.Val.Ctx.lean ====
module

public import proofs.«01_k».proof.Proof.Val.CtxRow
public import proofs.«01_k».proof.Proof.Val.CtxSpec
public import Idealize.ShloMosaic.Lib.Pipeline.ValueKit
public import Idealize.ShloMosaic.Lib.Pipeline.ReadBack

@[expose] public section

set_option maxRecDepth 16384

noncomputable section

/-! The prompt rows' attention: what the launch leaves in its first 4096 rows is the reference's result. -/

namespace Cert.CtxIdeal.Final

open Cert.CtxIdeal Cert.CtxIdeal.Gen Idealize.ShloMosaic Idealize.ShloMosaic.TcCoe Idealize.SL.Sem
open Idealize.ShloMosaic.Pipeline (Dat)
open Cert.CtxRefIdeal.Read

variable (m : (ℓ : Loc nD τ sig) → Buf (Elt Ideal) ℓ)

/-- Where the blocks stand: point `t` is prompt block `t / 4` and key head `t % 4`. -/
theorem idx : ∀ t : Fin grid0.N,
    win0_0.index t = ![0] ∧ win0_1.index t = ![t.val / 4, t.val % 4]
    ∧ win0_2.index t = ![t.val / 4, 16 + t.val % 4] ∧ win0_3.index t = ![t.val / 4, 20 + t.val % 4]
    ∧ win0_4.index t = ![t.val / 4, t.val % 4] := by decide +kernel

/-- Where a head's sink is read. -/
theorem off : ∀ t : Fin grid0.N, k0_off1 (grid0.coords t) 0#32 = ![t.val % 4 * 4] ∧ k0_off1 (grid0.coords t) 1#32 = ![t.val % 4 * 4 + 1]
    ∧ k0_off1 (grid0.coords t) 2#32 = ![t.val % 4 * 4 + 2] ∧ k0_off1 (grid0.coords t) 3#32 = ![t.val % 4 * 4 + 3] := by
  decide +kernel

/-- The point's queries, one block per head of the group. -/
def qs (c : Dev nD) (t : Fin cfg0.N) : Fin 4 → Vec Ideal S256x128 .f32 :=
  ![View.ld (iblk m c 1 t) (Rect.unit ![0, 0] ![256, 128] inb_S256x512_S256x128_0_0),
    View.ld (iblk m c 1 t) (Rect.unit ![0, 128] ![256, 128] inb_S256x512_S256x128_0_128),
    View.ld (iblk m c 1 t) (Rect.unit ![0, 256] ![256, 128] inb_S256x512_S256x128_0_256),
    View.ld (iblk m c 1 t) (Rect.unit ![0, 384] ![256, 128] inb_S256x512_S256x128_0_384)]

/-- A vector of one entry has one. -/
theorem one : 0 < S1.numel := by decide

/-- The point's sinks, one per head of the group. -/
def ss (c : Dev nD) (t : Fin cfg0.N) : Fin 4 → EReal :=
  ![View.ld (iblk m c 0 t) (Rect.unit (k0_off1 (grid0.coords t) 0#32) ![1] (k0_off1_inb (grid0.coords t) 0)) (Shape.Idx.first (s := S1) one),
    View.ld (iblk m c 0 t) (Rect.unit (k0_off1 (grid0.coords t) 1#32) ![1] (k0_off1_inb (grid0.coords t) 1)) (Shape.Idx.first (s := S1) one),
    View.ld (iblk m c 0 t) (Rect.unit (k0_off1 (grid0.coords t) 2#32) ![1] (k0_off1_inb (grid0.coords t) 2)) (Shape.Idx.first (s := S1) one),
    View.ld (iblk m c 0 t) (Rect.unit (k0_off1 (grid0.coords t) 3#32) ![1] (k0_off1_inb (grid0.coords t) 3)) (Shape.Idx.first (s := S1) one)]

/-- The point's logits, the heads of the group one after another. -/
def lg (c : Dev nD) (t : Fin cfg0.N) : FVec Ideal S1024x256 .f32 :=
  k0_pay6 (qs m c t 0) (qs m c t 1) (qs m c t 2) (qs m c t 3) (iblk m c 2 t)

/-- What a point computes, the heads of the group one after another. -/
def body (c : Dev nD) (t : Fin cfg0.N) : FVec Ideal S1024x128 .f32 :=
  k0_pay1 (lg m c t) (k0_pay7 (ss m c t 0) (ss m c t 1) (ss m c t 2) (ss m c t 3))
    (k0_pay8 (qs m c t 0) (qs m c t 1) (qs m c t 2) (qs m c t 3) (iblk m c 2 t)) (iblk m c 3 t)

/-- The fourth head's part of the group's rows. -/
theorem part3 (a : FVec Ideal S1024x256 .f32) (b e : FVec Ideal S1024x1 .f32) (f : Vec Ideal S256x128 .f32)
    (x : S256x128.Idx) (r : Fin 1024) (k : Fin 128)
    (hr : r.val = 768 + (x 0).val) (hk : k.val = (x 1).val) : k0_pay5 a b e f x = k0_pay1 a b e f (ix2 r k) := by
  pointwise [k0_pay5]
  exact congrArg (k0_pay1 a b e f) (by funext q; fin_cases q <;> exact Fin.ext (by first | exact hr.symm | exact hk.symm))

/-- The third head's part of the group's rows. -/
theorem part2 (a : FVec Ideal S1024x256 .f32) (b e : FVec Ideal S1024x1 .f32) (f : Vec Ideal S256x128 .f32)
    (x : S256x128.Idx) (r : Fin 1024) (k : Fin 128)
    (hr : r.val = 512 + (x 0).val) (hk : k.val = (x 1).val) : k0_pay4 a b e f x = k0_pay1 a b e f (ix2 r k) := by
  pointwise [k0_pay4]
  exact congrArg (k0_pay1 a b e f) (by funext q; fin_cases q <;> exact Fin.ext (by first | exact hr.symm | exact hk.symm))

/-- The second head's part of the group's rows. -/
theorem part1 (a : FVec Ideal S1024x256 .f32) (b e : FVec Ideal S1024x1 .f32) (f : Vec Ideal S256x128 .f32)
    (x : S256x128.Idx) (r : Fin 1024) (k : Fin 128)
    (hr : r.val = 256 + (x 0).val) (hk : k.val = (x 1).val) : k0_pay3 a b e f x = k0_pay1 a b e f (ix2 r k) := by
  pointwise [k0_pay3]
  exact congrArg (k0_pay1 a b e f) (by funext q; fin_cases q <;> exact Fin.ext (by first | exact hr.symm | exact hk.symm))

/-- The first head's part of the group's rows. -/
theorem part0 (a : FVec Ideal S1024x256 .f32) (b e : FVec Ideal S1024x1 .f32) (f : Vec Ideal S256x128 .f32)
    (x : S256x128.Idx) (r : Fin 1024) (k : Fin 128)
    (hr : r.val = (x 0).val) (hk : k.val = (x 1).val) : k0_pay2 a b e f x = k0_pay1 a b e f (ix2 r k) := by
  pointwise [k0_pay2]
  exact congrArg (k0_pay1 a b e f) (by funext q; fin_cases q <;> exact Fin.ext (by first | exact hr.symm | exact hk.symm))

set_option maxHeartbeats 2000000 in
/-- What a point leaves in the result's block: its heads side by side. -/
theorem out_eq (c : Dev nD) (t : Fin cfg0.N) (y : S256x512.Idx) (r : Fin 1024) (d : Fin 128)
    (hr : r.val = (y 1).val / 128 * 256 + (y 0).val) (hd : d.val = (y 1).val % 128) :
    outsAt0 m c t y = body m c t (ix2 r d) := by
  unfold outsAt0
  frame_out
  canon_tiles x hx
  · exact part3 _ _ _ _ x r d (by omega) (by omega)
  · exact part2 _ _ _ _ x r d (by omega) (by omega)
  · exact part1 _ _ _ _ x r d (by omega) (by omega)
  · exact part0 _ _ _ _ x r d (by omega) (by omega)

/-- A row of the point is one query's attention. -/
theorem row_eq (c : Dev nD) (t : Fin cfg0.N) (r : Fin 1024) (d : Fin 128) : body m c t (ix2 r d)
    = Cert.SoftmaxOne.attend (fun k : Fin 256 => lg m c t (ix2 r k)) (fun k => iblk m c 3 t (ix2 k d))
        (k0_pay7 (F := Ideal) (ss m c t 0) (ss m c t 1) (ss m c t 2) (ss m c t 3) (ix2 r 0)) :=
  Cert.CtxIdeal.Row.pay1_eq _ _ _ _ r d (Cert.CtxIdeal.Row.pay8_eq _ _ _ _ _ r)

section reads

variable (c : Dev nD) (t : Fin cfg0.N) (b : Fin 16) (h : Fin 4) (hb : b.val = t.val / 4) (hh : h.val = t.val % 4)

include hb hh

/-- A query's component. -/
theorem q_read (g : Fin 4) (i : Fin 256) (d : Fin 128) :
    qs m c t g (ix2 i d) = Cert.CtxRefIdeal.Spec.qry (m ((c : Thread nD τ).loc main_arg0)) b h g i d := by
  unfold Cert.CtxRefIdeal.Spec.qry
  match g with
  | ⟨0, _⟩ =>
    show View.ld (iblk m c 1 t) _ _ = _
    blk_ext! [iblk, V, idx t]
  | ⟨1, _⟩ =>
    show View.ld (iblk m c 1 t) _ _ = _
    blk_ext! [iblk, V, idx t]
  | ⟨2, _⟩ =>
    show View.ld (iblk m c 1 t) _ _ = _
    blk_ext! [iblk, V, idx t]
  | ⟨3, _⟩ =>
    show View.ld (iblk m c 1 t) _ _ = _
    blk_ext! [iblk, V, idx t]

/-- A key's component. -/
theorem k_read (j : Fin 256) (d : Fin 128) :
    iblk m c 2 t (ix2 j d) = Cert.CtxRefIdeal.Spec.key (m ((c : Thread nD τ).loc main_arg0)) b h j d := by
  unfold Cert.CtxRefIdeal.Spec.key
  blk_ext! [iblk, V, idx t]

/-- A value's component. -/
theorem v_read (j : Fin 256) (d : Fin 128) :
    iblk m c 3 t (ix2 j d) = Cert.CtxRefIdeal.Spec.val (m ((c : Thread nD τ).loc main_arg0)) b h j d := by
  unfold Cert.CtxRefIdeal.Spec.val
  blk_ext! [iblk, V, idx t]

/-- A head's sink. -/
theorem s_read (g : Fin 4) : ss m c t g = Cert.CtxRefIdeal.Spec.snk (m ((c : Thread nD τ).loc main_arg1)) h g := by
  unfold Cert.CtxRefIdeal.Spec.snk
  match g with
  | ⟨0, _⟩ =>
    show View.ld (iblk m c 0 t) _ _ = _
    blk_ext! [iblk, V, idx t, off t]
  | ⟨1, _⟩ =>
    show View.ld (iblk m c 0 t) _ _ = _
    blk_ext! [iblk, V, idx t, off t]
  | ⟨2, _⟩ =>
    show View.ld (iblk m c 0 t) _ _ = _
    blk_ext! [iblk, V, idx t, off t]
  | ⟨3, _⟩ =>
    show View.ld (iblk m c 0 t) _ _ = _
    blk_ext! [iblk, V, idx t, off t]

end reads

section row

variable (c : Dev nD) (t : Fin cfg0.N) (b : Fin 16) (h g : Fin 4) (hb : b.val = t.val / 4) (hh : h.val = t.val % 4)
  (i : Fin 256) (r : Fin 1024) (hg : g.val = r.val / 256) (hi : i.val = r.val % 256)

include hb hh hg hi

/-- A row's logit is the prompt's. -/
theorem lg_row (k : Fin 256) :
    lg m c t (ix2 r k) = Cert.CtxRefIdeal.Spec.logit (m ((c : Thread nD τ).loc main_arg0)) b h g i k := by
  unfold lg Cert.CtxRefIdeal.Spec.logit
  refine (Cert.CtxIdeal.Row.pay6_eq (qs m c t) (iblk m c 2 t) r k).trans ?_
  rw [← show g = ⟨r.val / 256, by omega⟩ from Fin.ext hg, ← show i = ⟨r.val % 256, by omega⟩ from Fin.ext hi]
  refine congrArg (fun a : EReal => a * Cert.CtxRefIdeal.Spec.scale) (Finset.sum_congr rfl fun d _ => ?_)
  refine Eq.trans ?_ (mul_comm _ _)
  exact congrArg₂ (fun a b : EReal => a * b) (q_read m c t b h hb hh g i d) (k_read m c t b h hb hh k d)

omit hi in
/-- A stacked sink is the head's. -/
theorem snk_row : k0_pay7 (F := Ideal) (ss m c t 0) (ss m c t 1) (ss m c t 2) (ss m c t 3) (ix2 r 0)
    = Cert.CtxRefIdeal.Spec.snk (m ((c : Thread nD τ).loc main_arg1)) h g := by
  refine (Cert.CtxIdeal.Row.pay7_eq (ss m c t) r).trans ?_
  rw [← show g = ⟨r.val / 256, by omega⟩ from Fin.ext hg]
  exact s_read m c t b h hb hh g

/-- One element of the point is the prompt's attention. -/
theorem body_eq (d : Fin 128) : body m c t (ix2 r d)
    = Cert.CtxRefIdeal.Spec.out (m ((c : Thread nD τ).loc main_arg0)) (m ((c : Thread nD τ).loc main_arg1)) b h g i d := by
  refine (row_eq m c t r d).trans ?_
  unfold Cert.CtxRefIdeal.Spec.out
  rw [snk_row m c t b h g hb hh r hg]
  rw [show (fun k : Fin 256 => lg m c t (ix2 r k)) = Cert.CtxRefIdeal.Spec.logit (m ((c : Thread nD τ).loc main_arg0)) b h g i
    from funext (lg_row m c t b h g hb hh i r hg hi)]
  rw [show (fun k : Fin 256 => iblk m c 3 t (ix2 k d)) = fun k => Cert.CtxRefIdeal.Spec.val (m ((c : Thread nD τ).loc main_arg0)) b h k d
    from funext fun k => v_read m c t b h hb hh k d]

end row

/-- The reference's result at the rows it has, and zero at the further ones. -/
def ext (x0 : (⟨S12288x3072, .f32⟩ : BufTy).Contents (Elt Ideal)) (x1 : (⟨S16, .f32⟩ : BufTy).Contents (Elt Ideal))
    (j : S12288x2048.Idx) : EReal :=
  if h : (j 0).val < 4096 then val_main_v29 (F := Ideal) x0 x1 (ix2 ⟨(j 0).val, h⟩ ⟨(j 1).val, (j 1).isLt⟩) else 0

/-- The rows the launch writes hold the reference's result. -/
theorem part (c : Dev nD) : (dats m 0 c).arrAt 4 cfg0.N = fun j => if (j 0 : ℕ) / 256 < 16
    then ext (m ((c : Thread nD τ).loc main_arg0)) (m ((c : Thread nD τ).loc main_arg1)) j else V m c main_v0 j := by
  refine (dats m 0 c).arrAt_eq_of_coversWhere 4 _ (fun β => β (0 : Fin 2) < 16) (by decide +kernel)
    (fun t hf y => ?_) (fun j => Iff.rfl)
  have ht : t.val < 64 := t.isLt
  have hy0 : (y 0).val < 256 := (y 0).isLt
  have hy1 : (y 1).val < 512 := (y 1).isLt
  blk_simp
  rw [after0_4, out_eq m c t y ⟨(y 1).val / 128 * 256 + (y 0).val, by omega⟩ ⟨(y 1).val % 128, by omega⟩ rfl rfl]
  rw [body_eq m c t ⟨t.val / 4, by omega⟩ ⟨t.val % 4, by omega⟩ ⟨(y 1).val / 128, by omega⟩ rfl rfl ⟨(y 0).val, by omega⟩ _
    (by show (y 1).val / 128 = ((y 1).val / 128 * 256 + (y 0).val) / 256; omega)
    (by show (y 0).val = ((y 1).val / 128 * 256 + (y 0).val) % 256; omega)]
  unfold ext
  rw [dif_pos (by simp [idx t]; omega)]
  refine (Cert.CtxRefIdeal.Spec.rows _ _ _ _ _ _ _ _ ?_ ?_).symm
  · show _ = t.val / 4 * 256 + (y 0).val
    simp [idx t]
  · show _ = t.val % 4 * 512 + (y 1).val / 128 * 128 + (y 1).val % 128
    simp [idx t]; omega

/-- The result, the launch's first 4096 rows, is the reference's. -/
theorem final (c : Dev nD) :
    extractStridedSlice S4096x2048 ![0, 0] ((dats m 0 c).arrAt 4 cfg0.N : (⟨S12288x2048, .bf16⟩ : BufTy).Contents (Elt Ideal))
        slices_S12288x2048_S4096x2048_0_0
      = val_main_v29 (F := Ideal) (m ((c : Thread nD τ).loc main_arg0)) (m ((c : Thread nD τ).loc main_arg1)) := by
  funext j
  have hj0 : (j 0).val < 4096 := (j 0).isLt
  have hj1 : (j 1).val < 2048 := (j 1).isLt
  refine (extractStridedSlice_apply _ _ _ j (ix2 (⟨(j 0).val, by omega⟩ : Fin 12288) (⟨(j 1).val, by omega⟩ : Fin 2048)) ?_).trans ?_
  · intro a
    match a with
    | ⟨0, _⟩ => show (j 0).val = 0 + (j 0).val; omega
    | ⟨1, _⟩ => show (j 1).val = 0 + (j 1).val; omega
  · rw [part]
    refine (if_pos (show (j 0).val / 256 < 16 by omega)).trans ?_
    refine (dif_pos (show (j 0).val < 4096 from hj0)).trans ?_
    refine congrArg (val_main_v29 (F := Ideal) _ _) (funext fun a => ?_)
    match a with
    | ⟨0, _⟩ => rfl
    | ⟨1, _⟩ => rfl

/-- The line after the launch takes the launch's first 4096 rows. -/
theorem after_tail (c : Dev nD) : Pipeline.afterTail₀ cfgs (dats m) 0 (V0 m) [hostOps1] c main_v1
    = extractStridedSlice S4096x2048 ![0, 0] ((dats m 0 c).arrAt 4 cfg0.N : (⟨S12288x2048, .bf16⟩ : BufTy).Contents (Elt Ideal))
        slices_S12288x2048_S4096x2048_0_0 := by
  unfold Pipeline.afterTail₀
  have e := (dats m 0 c).withArrays_arrAt sharedIn0 (V0 m c) (A_eq m c) 4
  refine Eq.trans ?_ (congrArg (fun a : (⟨S12288x2048, .bf16⟩ : BufTy).Contents (Elt Ideal) =>
    extractStridedSlice S4096x2048 ![0, 0] a slices_S12288x2048_S4096x2048_0_0) e)
  exact StableHlo.unary_result main_v0 main_v1 ((extractStridedSlice S4096x2048 ![0, 0] · slices_S12288x2048_S4096x2048_0_0) :
    (⟨S12288x2048, .bf16⟩ : BufTy).Contents (Elt Ideal) → (⟨S4096x2048, .bf16⟩ : BufTy).Contents (Elt Ideal)) (by decide) (by decide)
    (Pipeline.withArrays cfg0.spec c (V0 m c) fun w => (dats m 0 c).arrAt w cfg0.N)

/-- Every run ends with the result at the launch's first rows and the arguments as they were. -/
theorem named (ρ : Dev nD → PrngReg) : θ_run defs (onTc (τ := τ) (main (F := Ideal))) ⟨m, fun _ => 0, ρ⟩ fun r => ∀ c : Dev nD,
      r.2.mem ((c : Thread nD τ).loc main_v1)
        = extractStridedSlice S4096x2048 ![0, 0] ((dats m 0 c).arrAt 4 cfg0.N : (⟨S12288x2048, .bf16⟩ : BufTy).Contents (Elt Ideal))
            slices_S12288x2048_S4096x2048_0_0
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v1 (Pipeline.mem_restRefs_of main_v1 (by decide) (by decide))).trans (after_tail m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c)))⟩) (run_main m ρ)

end Cert.CtxIdeal.Final

end
-- ==== Proof.Val.DnConvRow.lean ====
module

public import proofs.«01_k».proof.Proof.Gen.DnConvIdeal.Value
public import Idealize.ShloMosaic.Lib.Pipeline.ValueKit
public import Idealize.ShloMosaic.Lib.Pipeline.ReadBack

@[expose] public section

set_option maxRecDepth 16384

noncomputable section

/-! One store of the delta layer's convolution: five taps, SiLU, and the unit norm of a head's channels. -/

namespace Cert.DnConvIdeal.Row

open Cert.DnConvIdeal Cert.DnConvIdeal.Gen Idealize.ShloMosaic Idealize.ShloMosaic.TcCoe Idealize.SL.Sem

/-- Five taps of a channel, summed in order. -/
def taps (b w : Fin 5 → EReal) : EReal :=
  b 0 * w 0 + b 1 * w 1 + b 2 * w 2 + b 3 * w 3 + b 4 * w 4

/-- A value by its own logistic. -/
def sw (a : EReal) : EReal := a * Ideal.logistic a

/-- One channel of a head: the SiLU, by its head's inverse norm and a scale where the head is normed. -/
def cell (is : BitVec 1) (post : EReal) (a : Fin 128 → EReal) (d : Fin 128) : EReal :=
  Scalar.select is (sw (a d) * Ideal.rsqrt ((∑ e : Fin 128, sw (a e) * sw (a e)) + FloatOps.ofBits (F := Ideal) .f32 0x358637BD#32) * post) (sw (a d))

/-- One store's payload at an element, from its five shifted reads and its five rows of weights. -/
theorem conv_apply (is : BitVec 1) (post : Ideal .f32) (b0 b1 b2 b3 b4 : Vec Ideal S64x128 .f32) (w0 w1 w2 w3 w4 : Vec Ideal S1x128 .f32)
    (b w : Fin 128 → Fin 5 → EReal) (r : Fin 64) (d : Fin 128)
    (hb0 : ∀ q, b q 0 = b0 (ix2 r q))    (hb1 : ∀ q, b q 1 = b1 (ix2 r q))
    (hb2 : ∀ q, b q 2 = b2 (ix2 r q))    (hb3 : ∀ q, b q 3 = b3 (ix2 r q))
    (hb4 : ∀ q, b q 4 = b4 (ix2 r q))
    (hw0 : ∀ q, w q 0 = w0 (ix2 0 q))    (hw1 : ∀ q, w q 1 = w1 (ix2 0 q))
    (hw2 : ∀ q, w q 2 = w2 (ix2 0 q))    (hw3 : ∀ q, w q 3 = w3 (ix2 0 q))
    (hw4 : ∀ q, w q 4 = w4 (ix2 0 q)) :
    k0_pay7 is post (k0_pay6 b0 w0 b1 w1 b2 w2) b3 w3 b4 w4 (ix2 r d) = cell is post (fun q => taps (b q) (w q)) d := by
  pointwise [k0_pay7, k0_pay6]
  unfold cell sw taps
  simp only [hb0, hb1, hb2, hb3, hb4, hw0, hw1, hw2, hw3, hw4]
  rfl

variable (m : (ℓ : Loc nD τ sig) → Buf (Elt Ideal) ℓ)

/-- A row tile's place in its sequence, as the kernel counts it. -/
def pos (i : ℕ) : BitVec 32 :=
  Scalar.select (Scalar.cmpi .slt (BitVec.ofNat 32 i) 16#32)
    (Scalar.select
      (Scalar.andi (Scalar.xori (Scalar.cmpi .slt (Scalar.remsi (BitVec.ofNat 32 i) 1#32) 0#32) 0#1)
        (Scalar.cmpi .ne (Scalar.remsi (BitVec.ofNat 32 i) 1#32) 0#32))
      (Scalar.addi (Scalar.remsi (BitVec.ofNat 32 i) 1#32) 1#32)
      (Scalar.remsi (BitVec.ofNat 32 i) 1#32))
    (Scalar.select
      (Scalar.andi (Scalar.xori (Scalar.cmpi .slt (Scalar.remsi (Scalar.subi (BitVec.ofNat 32 i) 16#32) 8#32) 0#32) 0#1)
        (Scalar.cmpi .ne (Scalar.remsi (Scalar.subi (BitVec.ofNat 32 i) 16#32) 8#32) 0#32))
      (Scalar.addi (Scalar.remsi (Scalar.subi (BitVec.ofNat 32 i) 16#32) 8#32) 8#32)
      (Scalar.remsi (Scalar.subi (BitVec.ofNat 32 i) 16#32) 8#32))

/-- The place of its sequence's last row tile. -/
def last (i : ℕ) : BitVec 32 := Scalar.select (Scalar.cmpi .slt (BitVec.ofNat 32 i) 16#32) 0#32 7#32

/-- What a point stores in the scratch: the rows before, its own, the rows after. -/
def pieces (c : Dev nD) (t : Fin cfg0.N) : List (View.Piece (Elt Ideal) S272x1024 .f32) :=
  [⟨Rect.unit ![264, 0] ![8, 1024] inb_S272x1024_S8x1024_264_0, k0_pay4 (pos (grid0.coords t 0).val) (last (grid0.coords t 0).val) (iblk m c 2 t)⟩,
    ⟨Rect.unit ![8, 0] ![256, 1024] inb_S272x1024_S256x1024_8_0, k0_pay3 (iblk m c 1 t)⟩,
    ⟨Rect.unit ![0, 0] ![8, 1024] inb_S272x1024_S8x1024_0_0, k0_pay2 (grid0.coords t) (iblk m c 0 t)⟩]

/-- The scratch of a point. -/
def held (c : Dev nD) (t : Fin cfg0.N) : Vec Ideal S272x1024 .f32 := View.canon (pieces m c t)

/-- A load from the scratch. -/
def rd (c : Dev nD) (t : Fin cfg0.N) (a b : ℕ) (inb : ∀ k, (![a, b] : Fin 2 → ℕ) k + (![64, 128] : Fin 2 → ℕ) k ≤ S272x1024.size k) :
    Vec Ideal S64x128 .f32 :=
  (View.whole cc0_scratch0).readCov (pieces m c t) (Rect.unit (s := S272x1024) ![a, b] ![64, 128] inb).toLoadRect

/-- A load from the weights. -/
def wd (c : Dev nD) (t : Fin cfg0.N) (a b : ℕ) (inb : ∀ k, (![a, b] : Fin 2 → ℕ) k + (![1, 128] : Fin 2 → ℕ) k ≤ S5x1024.size k) :
    Vec Ideal S1x128 .f32 :=
  View.ld (iblk m c 3 t) (Rect.unit (s := S5x1024) ![a, b] ![1, 128] inb)

/-- A load from the scratch reads it at the shifted place. -/
theorem rd_apply (c : Dev nD) (t : Fin cfg0.N) (a b : ℕ) (inb) (r : Fin 64) (q : Fin 128) (k : Fin 272) (l : Fin 1024)
    (hk : k.val = a + r.val) (hl : l.val = b + q.val) : rd m c t a b inb (ix2 r q) = held m c t (ix2 k l) := by
  unfold rd held
  rw [View.readCov_eq_canon']
  refine congrArg (View.canon _) ?_
  funext x
  refine Fin.ext ((Rect.idx_unit_val _ _ inb (ix2 r q) x).trans ?_)
  match x with
  | ⟨0, _⟩ => exact hk.symm
  | ⟨1, _⟩ => exact hl.symm

/-- A load from the weights reads them at the shifted place. -/
theorem wd_apply (c : Dev nD) (t : Fin cfg0.N) (a b : ℕ) (inb) (q : Fin 128) (k : Fin 5) (l : Fin 1024)
    (hk : k.val = a) (hl : l.val = b + q.val) : wd m c t a b inb (ix2 0 q) = iblk m c 3 t (ix2 k l) := by
  refine congrArg (iblk m c 3 t) ?_
  funext x
  refine Fin.ext ((Rect.idx_unit_val _ _ inb (ix2 0 q) x).trans ?_)
  match x with
  | ⟨0, _⟩ => exact hk.symm
  | ⟨1, _⟩ => exact hl.symm

/-- A point's element: its row and channel from the scratch and the weights. -/
def elt (c : Dev nD) (t : Fin cfg0.N) (y : S256x1024.Idx) : EReal :=
  cell (Scalar.cmpi .slt (BitVec.ofNat 32 (grid0.coords t 1).val) 4#32) (k0_pay5 (F := Ideal) (BitVec.ofNat 32 (grid0.coords t 1).val))
    (fun q => taps
      (fun k => held m c t (ix2 (⟨(y 0).val + 6 + k.val, by have : (y 0).val < 256 := (y 0).isLt; omega⟩ : Fin 272)
        (⟨(y 1).val / 128 * 128 + q.val, by have : (y 1).val < 1024 := (y 1).isLt; omega⟩ : Fin 1024)))
      (fun k => iblk m c 3 t (ix2 k (⟨(y 1).val / 128 * 128 + q.val, by have : (y 1).val < 1024 := (y 1).isLt; omega⟩ : Fin 1024))))
    ⟨(y 1).val % 128, by omega⟩

/-- One store's payload at an element, wherever the store stands. -/
theorem tile (c : Dev nD) (t : Fin cfg0.N) (a b : ℕ) (i0 i1 i2 i3 i4 j0 j1 j2 j3 j4) (x : S64x128.Idx) (y : S256x1024.Idx)
    (hx0 : (y 0).val = a + (x 0).val) (hx1 : (y 1).val = b + (x 1).val) (hb : b % 128 = 0) :
    k0_pay7 (Scalar.cmpi .slt (BitVec.ofNat 32 (grid0.coords t 1).val) 4#32) (k0_pay5 (F := Ideal) (BitVec.ofNat 32 (grid0.coords t 1).val))
      (k0_pay6 (rd m c t (a + 6) b i0) (wd m c t 0 b j0) (rd m c t (a + 7) b i1) (wd m c t 1 b j1)
        (rd m c t (a + 8) b i2) (wd m c t 2 b j2)) (rd m c t (a + 9) b i3) (wd m c t 3 b j3)
      (rd m c t (a + 10) b i4) (wd m c t 4 b j4) x = elt m c t y := by
  have h0 : (x 0).val < 64 := (x 0).isLt
  have h1 : (x 1).val < 128 := (x 1).isLt
  have e : x = ix2 (x 0) (x 1) := by funext k; match k with | ⟨0, _⟩ => rfl | ⟨1, _⟩ => rfl
  refine (congrArg _ e).trans ?_
  refine (conv_apply _ _ _ _ _ _ _ _ _ _ _ _
    (fun q k => held m c t (ix2 (⟨(y 0).val + 6 + k.val, by have : (y 0).val < 256 := (y 0).isLt; omega⟩ : Fin 272)
        (⟨(y 1).val / 128 * 128 + q.val, by have : (y 1).val < 1024 := (y 1).isLt; omega⟩ : Fin 1024)))
    (fun q k => iblk m c 3 t (ix2 k (⟨(y 1).val / 128 * 128 + q.val, by have : (y 1).val < 1024 := (y 1).isLt; omega⟩ : Fin 1024)))
    (x 0) (x 1) ?_ ?_ ?_ ?_ ?_ ?_ ?_ ?_ ?_ ?_).trans ?_
  · exact fun q => (rd_apply m c t (a + 6) b i0 (x 0) q _ _ (by show (y 0).val + 6 + 0 = a + 6 + (x 0).val; omega)
      (by show (y 1).val / 128 * 128 + q.val = b + q.val; omega)).symm
  · exact fun q => (rd_apply m c t (a + 7) b i1 (x 0) q _ _ (by show (y 0).val + 6 + 1 = a + 7 + (x 0).val; omega)
      (by show (y 1).val / 128 * 128 + q.val = b + q.val; omega)).symm
  · exact fun q => (rd_apply m c t (a + 8) b i2 (x 0) q _ _ (by show (y 0).val + 6 + 2 = a + 8 + (x 0).val; omega)
      (by show (y 1).val / 128 * 128 + q.val = b + q.val; omega)).symm
  · exact fun q => (rd_apply m c t (a + 9) b i3 (x 0) q _ _ (by show (y 0).val + 6 + 3 = a + 9 + (x 0).val; omega)
      (by show (y 1).val / 128 * 128 + q.val = b + q.val; omega)).symm
  · exact fun q => (rd_apply m c t (a + 10) b i4 (x 0) q _ _ (by show (y 0).val + 6 + 4 = a + 10 + (x 0).val; omega)
      (by show (y 1).val / 128 * 128 + q.val = b + q.val; omega)).symm
  · exact fun q => (wd_apply m c t 0 b j0 q 0 _ rfl (by show (y 1).val / 128 * 128 + q.val = b + q.val; omega)).symm
  · exact fun q => (wd_apply m c t 1 b j1 q 1 _ rfl (by show (y 1).val / 128 * 128 + q.val = b + q.val; omega)).symm
  · exact fun q => (wd_apply m c t 2 b j2 q 2 _ rfl (by show (y 1).val / 128 * 128 + q.val = b + q.val; omega)).symm
  · exact fun q => (wd_apply m c t 3 b j3 q 3 _ rfl (by show (y 1).val / 128 * 128 + q.val = b + q.val; omega)).symm
  · exact fun q => (wd_apply m c t 4 b j4 q 4 _ rfl (by show (y 1).val / 128 * 128 + q.val = b + q.val; omega)).symm
  · exact congrArg (cell _ _ _) (Fin.ext (by show (x 1).val = (y 1).val % 128; rw [hx1]; omega))

end Cert.DnConvIdeal.Row

end
-- ==== Proof.Val.DnConvOut.lean ====
module

public import proofs.«01_k».proof.Proof.Val.DnConvRow

@[expose] public section

set_option maxRecDepth 16384

noncomputable section

/-! A point of the delta layer's convolution: every store of its block holds the convolution's elements. -/

namespace Cert.DnConvIdeal.Row

open Cert.DnConvIdeal Cert.DnConvIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 4000000 in
/-- An element of a point's block. -/
theorem out_eq (c : Dev nD) (t : Fin cfg0.N) (y : S256x1024.Idx) : outsAt0 m c t y = elt m c t y := by
  unfold outsAt0
  frame_out
  canon_tiles x hx
  case piece0 => exact tile m c t 192 896 _ _ _ _ _ _ _ _ _ _ x y (by omega) (by omega) rfl
  case piece1 => exact tile m c t 128 896 _ _ _ _ _ _ _ _ _ _ x y (by omega) (by omega) rfl
  case piece2 => exact tile m c t 64 896 _ _ _ _ _ _ _ _ _ _ x y (by omega) (by omega) rfl
  case piece3 => exact tile m c t 0 896 _ _ _ _ _ _ _ _ _ _ x y (by omega) (by omega) rfl
  case piece4 => exact tile m c t 192 768 _ _ _ _ _ _ _ _ _ _ x y (by omega) (by omega) rfl
  case piece5 => exact tile m c t 128 768 _ _ _ _ _ _ _ _ _ _ x y (by omega) (by omega) rfl
  case piece6 => exact tile m c t 64 768 _ _ _ _ _ _ _ _ _ _ x y (by omega) (by omega) rfl
  case piece7 => exact tile m c t 0 768 _ _ _ _ _ _ _ _ _ _ x y (by omega) (by omega) rfl
  case piece8 => exact tile m c t 192 640 _ _ _ _ _ _ _ _ _ _ x y (by omega) (by omega) rfl
  case piece9 => exact tile m c t 128 640 _ _ _ _ _ _ _ _ _ _ x y (by omega) (by omega) rfl
  case piece10 => exact tile m c t 64 640 _ _ _ _ _ _ _ _ _ _ x y (by omega) (by omega) rfl
  case piece11 => exact tile m c t 0 640 _ _ _ _ _ _ _ _ _ _ x y (by omega) (by omega) rfl
  case piece12 => exact tile m c t 192 512 _ _ _ _ _ _ _ _ _ _ x y (by omega) (by omega) rfl
  case piece13 => exact tile m c t 128 512 _ _ _ _ _ _ _ _ _ _ x y (by omega) (by omega) rfl
  case piece14 => exact tile m c t 64 512 _ _ _ _ _ _ _ _ _ _ x y (by omega) (by omega) rfl
  case piece15 => exact tile m c t 0 512 _ _ _ _ _ _ _ _ _ _ x y (by omega) (by omega) rfl
  case piece16 => exact tile m c t 192 384 _ _ _ _ _ _ _ _ _ _ x y (by omega) (by omega) rfl
  case piece17 => exact tile m c t 128 384 _ _ _ _ _ _ _ _ _ _ x y (by omega) (by omega) rfl
  case piece18 => exact tile m c t 64 384 _ _ _ _ _ _ _ _ _ _ x y (by omega) (by omega) rfl
  case piece19 => exact tile m c t 0 384 _ _ _ _ _ _ _ _ _ _ x y (by omega) (by omega) rfl
  case piece20 => exact tile m c t 192 256 _ _ _ _ _ _ _ _ _ _ x y (by omega) (by omega) rfl
  case piece21 => exact tile m c t 128 256 _ _ _ _ _ _ _ _ _ _ x y (by omega) (by omega) rfl
  case piece22 => exact tile m c t 64 256 _ _ _ _ _ _ _ _ _ _ x y (by omega) (by omega) rfl
  case piece23 => exact tile m c t 0 256 _ _ _ _ _ _ _ _ _ _ x y (by omega) (by omega) rfl
  case piece24 => exact tile m c t 192 128 _ _ _ _ _ _ _ _ _ _ x y (by omega) (by omega) rfl
  case piece25 => exact tile m c t 128 128 _ _ _ _ _ _ _ _ _ _ x y (by omega) (by omega) rfl
  case piece26 => exact tile m c t 64 128 _ _ _ _ _ _ _ _ _ _ x y (by omega) (by omega) rfl
  case piece27 => exact tile m c t 0 128 _ _ _ _ _ _ _ _ _ _ x y (by omega) (by omega) rfl
  case piece28 => exact tile m c t 192 0 _ _ _ _ _ _ _ _ _ _ x y (by omega) (by omega) rfl
  case piece29 => exact tile m c t 128 0 _ _ _ _ _ _ _ _ _ _ x y (by omega) (by omega) rfl
  case piece30 => exact tile m c t 64 0 _ _ _ _ _ _ _ _ _ _ x y (by omega) (by omega) rfl
  case piece31 => exact tile m c t 0 0 _ _ _ _ _ _ _ _ _ _ x y (by omega) (by omega) rfl

end Cert.DnConvIdeal.Row

end
-- ==== Proof.Val.DnConvSpec.lean ====
module

public import proofs.«01_k».proof.Proof.Val.DnConvRow
public import proofs.«01_k».proof.Proof.Gen.DnConvRefIdeal.Read
public import Idealize.ShloMosaic.Lib.Pipeline.ValueKit

@[expose] public section

set_option maxRecDepth 16384

noncomputable section

/-! The reference's convolution read at one element: its sequence's five taps, SiLU, and its head's unit norm. -/

namespace Cert.DnConvRefIdeal.Spec

open Cert.DnConvRefIdeal Idealize.ShloMosaic
open Cert.DnConvRefIdeal.Read
open Cert.DnConvIdeal.Row (taps sw cell)

variable (x0 : (⟨S12288x12288, .f32⟩ : BufTy).Contents (Elt Ideal)) (x1 : (⟨S5x8192, .f32⟩ : BufTy).Contents (Elt Ideal))

/-- A tap's value in a sequence of `n` rows that starts at row `s`: zero outside the sequence. -/
def tap (s n : ℕ) (hs : s + n ≤ 12288) (p : ℕ) (C : Fin 8192) : EReal :=
  if h : 2 ≤ p ∧ p < n + 2 then x0 (ix2 ⟨s + (p - 2), by omega⟩ ⟨C.val, by omega⟩) else 0

/-- The word zero is the number zero. -/
theorem zero_word : (FloatOps.sitofp (F := Ideal) FTy.f32 (0#32) : EReal) = 0 := by
  show (((0#32 : BitVec 32).toInt : ℝ) : EReal) = 0
  simp

/-- The padded prompts. -/
theorem pad_prompt (j : S16x260x8192.Idx) (s p : ℕ) (C : Fin 8192) (hs : s + 256 ≤ 12288) (e0 : s = (j 0).val * 256)
    (e1 : p = (j 1).val) (e2 : C = j 2) : val_main_v3 (F := Ideal) x0 j = tap x0 s 256 hs p C := by
  subst e0 e1 e2
  pointwise [val_main_v3, val_main_v2, val_main_v1, val_main_v0, val_main_call0_v0, val_main_c]
  unfold tap
  exact dite_congr (propext (by omega)) (fun _ => rfl) fun _ => zero_word

/-- The padded samples. -/
theorem pad_sample (j : S4x2052x8192.Idx) (s p : ℕ) (C : Fin 8192) (hs : s + 2048 ≤ 12288) (e0 : s = 4096 + (j 0).val * 2048)
    (e1 : p = (j 1).val) (e2 : C = j 2) : val_main_v43 (F := Ideal) x0 j = tap x0 s 2048 hs p C := by
  subst e0 e1 e2
  pointwise [val_main_v43, val_main_v42, val_main_v41, val_main_v0, val_main_call1_v0, val_main_c_0]
  unfold tap
  refine dite_congr (propext (by omega)) (fun _ => ?_) fun _ => zero_word
  refine congrArg x0 (congrArg₂ ix2 (Fin.ext ?_) rfl)
  show 4096 + ((j 0).val * 2048 + ((j 1).val - 2)) = 4096 + (j 0).val * 2048 + ((j 1).val - 2)
  omega

/-- A sum of five products is the taps' sum of equal values. -/
theorem taps_of (a0 a1 a2 a3 a4 w0 w1 w2 w3 w4 : EReal) (b w : Fin 5 → EReal) (h0 : a0 = b 0) (h1 : a1 = b 1) (h2 : a2 = b 2)
    (h3 : a3 = b 3) (h4 : a4 = b 4) (g0 : w0 = w 0) (g1 : w1 = w 1) (g2 : w2 = w 2) (g3 : w3 = w 3) (g4 : w4 = w 4) :
    a0 * w0 + a1 * w1 + a2 * w2 + a3 * w3 + a4 * w4 = taps b w := by
  subst h0 h1 h2 h3 h4 g0 g1 g2 g3 g4
  rfl

/-- A tap of a row of the result: in its prompt or in its sample. -/
def tapAt (R : Fin 12288) (C : Fin 8192) (k : Fin 5) : EReal :=
  if h : R.val < 4096 then tap x0 (R.val / 256 * 256) 256 (by omega) (R.val % 256 + k.val) C
  else tap x0 (4096 + (R.val - 4096) / 2048 * 2048) 2048 (by omega) ((R.val - 4096) % 2048 + k.val) C

/-- The convolution's sum at a row and a channel. -/
def row (R : Fin 12288) (C : Fin 8192) : EReal := taps (tapAt x0 R C) (fun k => x1 (ix2 k C))

/-- The prompts' convolution. -/
theorem v39_apply (j : S16x256x8192.Idx) (h : (j 0).val * 256 + 256 ≤ 12288) : val_main_v39 (F := Ideal) x0 x1 j
    = taps (fun k => tap x0 ((j 0).val * 256) 256 h ((j 1).val + k.val) (j 2)) (fun k => x1 (ix2 k (j 2))) := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst]
  exact taps_of _ _ _ _ _ _ _ _ _ _ _ _
    (pad_prompt x0 _ _ _ _ h rfl rfl rfl)
    (pad_prompt x0 _ _ _ _ h rfl (Nat.add_comm _ 1) rfl)
    (pad_prompt x0 _ _ _ _ h rfl (Nat.add_comm _ 2) rfl)
    (pad_prompt x0 _ _ _ _ h rfl (Nat.add_comm _ 3) rfl)
    (pad_prompt x0 _ _ _ _ h rfl (Nat.add_comm _ 4) rfl) rfl rfl rfl rfl rfl

/-- The samples' convolution. -/
theorem v79_apply (j : S4x2048x8192.Idx) (h : 4096 + (j 0).val * 2048 + 2048 ≤ 12288) : val_main_v79 (F := Ideal) x0 x1 j
    = taps (fun k => tap x0 (4096 + (j 0).val * 2048) 2048 h ((j 1).val + k.val) (j 2)) (fun k => x1 (ix2 k (j 2))) := by
  pointwise [val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_cst_1]
  exact taps_of _ _ _ _ _ _ _ _ _ _ _ _
    (pad_sample x0 _ _ _ _ h rfl rfl rfl)
    (pad_sample x0 _ _ _ _ h rfl (Nat.add_comm _ 1) rfl)
    (pad_sample x0 _ _ _ _ h rfl (Nat.add_comm _ 2) rfl)
    (pad_sample x0 _ _ _ _ h rfl (Nat.add_comm _ 3) rfl)
    (pad_sample x0 _ _ _ _ h rfl (Nat.add_comm _ 4) rfl) rfl rfl rfl rfl rfl

/-- Prompts and samples together. -/
theorem v81_apply (j : S12288x8192.Idx) : val_main_v81 (F := Ideal) x0 x1 j = row x0 x1 (j 0) (j 1) := by
  pointwise [val_main_v81, val_main_v80, val_main_v40]
  unfold row tapAt
  by_cases h : (j 0).val < 4096
  · simp only [dif_pos h]
    exact v39_apply x0 x1 _ _
  · simp only [dif_neg h]
    exact v79_apply x0 x1 _ _

/-- The SiLU of the convolution. -/
theorem v82_apply (j : S12288x8192.Idx) : val_main_v82 (F := Ideal) x0 x1 j = sw (row x0 x1 (j 0) (j 1)) := by
  pointwise [val_main_v82, val_main_call2_v5, val_main_call2_v4, val_main_call2_v3, val_main_call2_v2, val_main_call2_v1, val_main_call2_v0]
  have one : (val_main_call2_cst (F := Ideal) ix0 : EReal) = 1 := by pointwise [val_main_call2_cst]
  have one' : (val_main_call2_cst_0 (F := Ideal) ix0 : EReal) = 1 := by pointwise [val_main_call2_cst_0]
  rw [one, one', v81_apply]
  rfl

/-- The words that say which column chunks are normed and scaled. -/
theorem words : ∀ c : Fin 8, Scalar.cmpi .slt (BitVec.ofNat 32 c.val) 4#32 = (if c.val < 4 then 1#1 else 0#1)
    ∧ Scalar.cmpi .slt (BitVec.ofNat 32 c.val) 2#32 = (if c.val < 2 then 1#1 else 0#1) := by decide +kernel

/-- The queries' scale. -/
theorem post_q (c : Fin 8) (h : c.val < 2) : Cert.DnConvIdeal.Gen.k0_pay5 (F := Ideal) (BitVec.ofNat 32 c.val)
    = FloatOps.ofBits (F := Ideal) .f32 0x3DB504F3#32 := by
  unfold Cert.DnConvIdeal.Gen.k0_pay5
  rw [(words c).2, if_pos h]
  rfl

/-- The keys' scale is one. -/
theorem post_k (c : Fin 8) (h : ¬ c.val < 2) : (Cert.DnConvIdeal.Gen.k0_pay5 (F := Ideal) (BitVec.ofNat 32 c.val) : EReal) = 1 := by
  unfold Cert.DnConvIdeal.Gen.k0_pay5
  rw [(words c).2, if_neg h]
  have one : (val_main_call2_cst (F := Ideal) ix0 : EReal) = 1 := by pointwise [val_main_call2_cst]
  exact one

/-- A head of the queries or keys is normed. -/
theorem cell_norm (c : Fin 8) (h : c.val < 4) (p : EReal) (a : Fin 128 → EReal) (d : Fin 128) :
    cell (Scalar.cmpi .slt (BitVec.ofNat 32 c.val) 4#32) p a d
      = sw (a d) * Ideal.rsqrt ((∑ e : Fin 128, sw (a e) * sw (a e)) + FloatOps.ofBits (F := Ideal) .f32 0x358637BD#32) * p := by
  unfold cell
  rw [(words c).1, if_pos h]
  rfl

/-- A head of the values is not. -/
theorem cell_plain (c : Fin 8) (h : ¬ c.val < 4) (p : EReal) (a : Fin 128 → EReal) (d : Fin 128) :
    cell (Scalar.cmpi .slt (BitVec.ofNat 32 c.val) 4#32) p a d = sw (a d) := by
  unfold cell
  rw [(words c).1, if_neg h]
  rfl

/-- A normed head from the same channels. -/
theorem normed (a : EReal) (s b : Fin 128 → EReal) (d : Fin 128) (e : EReal)
    (ha : a = b d) (hs : ∀ q, s q = b q) : sw a * Ideal.rsqrt ((∑ q : Fin 128, sw (s q) * sw (s q)) + e)
      = sw (b d) * Ideal.rsqrt ((∑ q : Fin 128, sw (b q) * sw (b q)) + e) := by
  rw [ha, funext hs]

/-- The result at a row and a channel. -/
theorem out_apply (R : Fin 12288) (K : Fin 8192) (c : Fin 8) (C : Fin 128 → Fin 8192) (d : Fin 128) (hc : c.val = K.val / 1024)
    (hC : ∀ q, (C q).val = K.val / 128 * 128 + q.val) (hd : d.val = K.val % 128) :
    val_main_v106 (F := Ideal) x0 x1 (ix2 R K)
      = cell (Scalar.cmpi .slt (BitVec.ofNat 32 c.val) 4#32) (Cert.DnConvIdeal.Gen.k0_pay5 (F := Ideal) (BitVec.ofNat 32 c.val))
          (fun q => row x0 x1 R (C q)) d := by
  have z2 : ∀ i, (val_main_cst_2 (F := Ideal) i : EReal) = 0 := fun i => by pointwise [val_main_cst_2]
  have z5 : ∀ i, (val_main_cst_5 (F := Ideal) i : EReal) = 0 := fun i => by pointwise [val_main_cst_5]
  pointwise [val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83]
  simp only [v82_apply, z2, z5, zero_add]
  by_cases h : K.val / 128 < 16
  · have h2 : c.val < 2 := by omega
    have h4 : c.val < 4 := by omega
    have e : ∀ q, (⟨K.val / 128 * 128 + q.val, by omega⟩ : Fin 8192) = C q := fun q => Fin.ext (hC q).symm
    have eK : K = C d := Fin.ext (by rw [hC d]; omega)
    refine (dif_pos h).trans (Eq.trans ?_ (cell_norm c h4 _ _ d).symm)
    rw [post_q c h2]
    refine congrArg (fun a : EReal => a * FloatOps.ofBits (F := Ideal) .f32 0x3DB504F3#32) ?_
    exact normed _ _ _ d _ (congrArg (row x0 x1 R) eK) fun q => congrArg (row x0 x1 R) (e q)
  · refine (dif_neg h).trans ?_
    by_cases h' : K.val / 128 - 16 < 16
    · have h2 : ¬ c.val < 2 := by omega
      have h4 : c.val < 4 := by omega
      have e : ∀ q, (⟨(16 + (K.val / 128 - 16)) * 128 + q.val, by omega⟩ : Fin 8192) = C q :=
        fun q => Fin.ext (by rw [hC q]; show (16 + (K.val / 128 - 16)) * 128 + q.val = _; omega)
      have eK : (⟨(16 + (K.val / 128 - 16)) * 128 + K.val % 128, by omega⟩ : Fin 8192) = C d :=
        Fin.ext (by rw [hC d]; show (16 + (K.val / 128 - 16)) * 128 + K.val % 128 = _; omega)
      refine (dif_pos h').trans (Eq.trans ?_ (cell_norm c h4 _ _ d).symm)
      refine Eq.trans ?_ ((congrArg (fun p : EReal => sw (row x0 x1 R (C d)) * Ideal.rsqrt ((∑ q : Fin 128, sw (row x0 x1 R (C q)) * sw (row x0 x1 R (C q)))
        + FloatOps.ofBits (F := Ideal) .f32 0x358637BD#32) * p) (post_k c h2)).trans (mul_one _)).symm
      exact normed _ _ _ d _ (congrArg (row x0 x1 R) eK) fun q => congrArg (row x0 x1 R) (e q)
    · have h4 : ¬ c.val < 4 := by omega
      have eK : (⟨(32 + (K.val / 128 - 16 - 16)) * 128 + K.val % 128, by omega⟩ : Fin 8192) = C d :=
        Fin.ext (by rw [hC d]; show (32 + (K.val / 128 - 16 - 16)) * 128 + K.val % 128 = _; omega)
      refine (dif_neg h').trans (Eq.trans ?_ (cell_plain c h4 _ _ d).symm)
      exact congrArg (fun x => sw (row x0 x1 R x)) eK

end Cert.DnConvRefIdeal.Spec

end
-- ==== Proof.Val.DnConv.lean ====
module

public import proofs.«01_k».proof.Proof.Val.DnConvOut
public import proofs.«01_k».proof.Proof.Val.DnConvSpec
public import proofs.«01_k».proof.Proof.Gen.DnConvRefIdeal.Run

@[expose] public section

set_option maxRecDepth 16384

noncomputable section

/-! The delta layer's convolution: the kernel's result is the reference's. -/

namespace Cert.DnConvIdeal.Final

open Cert.DnConvIdeal Cert.DnConvIdeal.Gen Idealize.ShloMosaic Idealize.ShloMosaic.TcCoe Idealize.SL.Sem
open Idealize.ShloMosaic.Pipeline (Dat)
open Cert.DnConvIdeal.Row
open Cert.DnConvRefIdeal.Spec (tap tapAt row out_apply)

variable (m : (ℓ : Loc nD τ sig) → Buf (Elt Ideal) ℓ)

/-- Where the blocks stand: point `t` takes row tile `t / 8` with its eight neighbours on both sides, and column chunk `t % 8`. -/
theorem idx : ∀ t : Fin grid0.N,
    win0_0.index t = ![t.val / 8 * 32 - 1, t.val % 8] ∧ win0_1.index t = ![t.val / 8, t.val % 8]
    ∧ win0_2.index t = ![min ((t.val / 8 + 1) * 32) 1535, t.val % 8] ∧ win0_3.index t = ![0, t.val % 8]
    ∧ win0_4.index t = ![t.val / 8, t.val % 8] := by decide +kernel

/-- A point's coordinates. -/
theorem coords : ∀ t : Fin grid0.N, (grid0.coords t 0).val = t.val / 8 ∧ (grid0.coords t 1).val = t.val % 8 := by decide +kernel

/-- Which row tiles have a row tile of their sequence before them, and which after. -/
theorem masks : ∀ i : Fin 48,
    Scalar.cmpi .sgt (pos i.val) 0#32 = (if i.val < 16 ∨ (i.val - 16) % 8 = 0 then 0#1 else 1#1)
    ∧ Scalar.cmpi .slt (pos i.val) (last i.val) = (if i.val < 16 ∨ (i.val - 16) % 8 = 7 then 0#1 else 1#1) := by decide +kernel

/-- The mask of a set bit is one, of a clear bit zero. -/
theorem bit : (FloatOps.sitofp (F := Ideal) FTy.f32 (Scalar.extui 0#1 : BitVec 32) : EReal) = 0
    ∧ (FloatOps.sitofp (F := Ideal) FTy.f32 (Scalar.extui 1#1 : BitVec 32) : EReal) = 1 := by
  constructor
  · show (((0#32 : BitVec 32).toInt : ℝ) : EReal) = 0
    simp
  · show (((1#32 : BitVec 32).toInt : ℝ) : EReal) = 1
    simp

/-- An index in a rectangle of rows of the scratch. -/
theorem mem_rows (a n : ℕ) (inb : ∀ k, (![a, 0] : Fin 2 → ℕ) k + (![n, 1024] : Fin 2 → ℕ) k ≤ S272x1024.size k) (y : S272x1024.Idx)
    (h : a ≤ (y 0).val) (h' : (y 0).val < a + n) : y ∈ (Rect.unit (s := S272x1024) ![a, 0] ![n, 1024] inb).set := by
  rw [← Rect.map_emb_univ]
  refine Finset.mem_map.2 ⟨(ix2 (⟨(y 0).val - a, by omega⟩ : Fin n) (y 1) : (⟨2, ![n, 1024]⟩ : Shape).Idx), Finset.mem_univ _, ?_⟩
  funext k
  refine Fin.ext ((Rect.idx_unit_val _ _ inb _ k).trans ?_)
  match k with
  | ⟨0, _⟩ => show a + ((y 0).val - a) = (y 0).val; omega
  | ⟨1, _⟩ => exact Nat.zero_add _

/-- The stores fill the scratch. -/
theorem cover (c : Dev nD) (t : Fin cfg0.N) (y : S272x1024.Idx) : ∃ p ∈ pieces m c t, y ∈ p.1.set := by
  have hy : (y 0).val < 272 := (y 0).isLt
  by_cases h : (y 0).val < 8
  · exact ⟨_, .tail _ (.tail _ (.head _)), mem_rows 0 8 inb_S272x1024_S8x1024_0_0 y (by omega) (by omega)⟩
  · by_cases h' : (y 0).val < 264
    · exact ⟨_, .tail _ (.head _), mem_rows 8 256 inb_S272x1024_S256x1024_8_0 y (by omega) (by omega)⟩
    · exact ⟨_, .head _, mem_rows 264 8 inb_S272x1024_S8x1024_264_0 y (by omega) (by omega)⟩

/-- The scratch at an index, by the store that holds it. -/
theorem held_eq (c : Dev nD) (t : Fin cfg0.N) (y : S272x1024.Idx) (v : EReal)
    (h0 : ∀ x : S8x1024.Idx, (y 0).val = (x 0).val → (y 1).val = (x 1).val → k0_pay2 (grid0.coords t) (iblk m c 0 t) x = v)
    (h1 : ∀ x : S256x1024.Idx, (y 0).val = 8 + (x 0).val → (y 1).val = (x 1).val → k0_pay3 (iblk m c 1 t) x = v)
    (h2 : ∀ x : S8x1024.Idx, (y 0).val = 264 + (x 0).val → (y 1).val = (x 1).val →
      k0_pay4 (pos (grid0.coords t 0).val) (last (grid0.coords t 0).val) (iblk m c 2 t) x = v) : held m c t y = v := by
  have hcover := cover m c t y
  unfold pieces at hcover
  unfold held pieces
  canon_tiles x hx using hcover
  case piece0 => exact h2 x (by omega) (by omega)
  case piece1 => exact h1 x (by omega) (by omega)
  case piece2 => exact h0 x (by omega) (by omega)

/-- The rows before a row tile, as stored. -/
theorem before (c : Dev nD) (t : Fin cfg0.N) (x : S8x1024.Idx) : k0_pay2 (grid0.coords t) (iblk m c 0 t) x
    = (fun a b : EReal => a * b) (iblk m c 0 t x)
      (FloatOps.sitofp (F := Ideal) FTy.f32 (Scalar.extui (Scalar.cmpi .sgt (pos (grid0.coords t 0).val) 0#32) : BitVec 32)) := by
  pointwise [k0_pay2]
  rfl

/-- The rows after a row tile, as stored. -/
theorem after (c : Dev nD) (t : Fin cfg0.N) (a b : BitVec 32) (x : S8x1024.Idx) : k0_pay4 a b (iblk m c 2 t) x
    = (fun a b : EReal => a * b) (iblk m c 2 t x)
      (FloatOps.sitofp (F := Ideal) FTy.f32 (Scalar.extui (Scalar.cmpi .slt a b) : BitVec 32)) := by
  pointwise [k0_pay4]
  rfl

/-- The scratch holds a row's taps: the neighbours of its sequence, zero past its ends. -/
theorem held_tap (c : Dev nD) (t : Fin cfg0.N) (k : Fin 5) (r : Fin 272) (l : Fin 1024) (R : Fin 12288) (C : Fin 8192)
    (a : ℕ) (ha : a < 256) (hr : r.val = a + 6 + k.val) (hR : R.val = t.val / 8 * 256 + a) (hC : C.val = t.val % 8 * 1024 + l.val) :
    held m c t (ix2 r l) = tapAt (m ((c : Thread nD τ).loc main_arg0)) R C k := by
  have ht : t.val < 384 := t.isLt
  have hk : k.val < 5 := k.isLt
  obtain ⟨e0, e1⟩ := coords t
  obtain ⟨m0, m1⟩ := masks ⟨t.val / 8, by omega⟩
  have out : ∀ C : Fin 8192, ((R.val < 4096 ∧ (R.val % 256 + k.val < 2 ∨ 258 ≤ R.val % 256 + k.val))
      ∨ (4096 ≤ R.val ∧ ((R.val - 4096) % 2048 + k.val < 2 ∨ 2050 ≤ (R.val - 4096) % 2048 + k.val))) →
      tapAt (m ((c : Thread nD τ).loc main_arg0)) R C k = 0 := by
    intro C h
    unfold tapAt tap
    split_ifs <;> first | rfl | (exfalso; omega)
  have ins : ∀ (C : Fin 8192) (v : EReal), ¬ ((R.val < 4096 ∧ (R.val % 256 + k.val < 2 ∨ 258 ≤ R.val % 256 + k.val))
      ∨ (4096 ≤ R.val ∧ ((R.val - 4096) % 2048 + k.val < 2 ∨ 2050 ≤ (R.val - 4096) % 2048 + k.val))) →
      (∀ (x : Fin 12288) (z : Fin 12288), x.val = R.val + k.val - 2 → z.val = C.val → v = m ((c : Thread nD τ).loc main_arg0) (ix2 x z)) →
      v = tapAt (m ((c : Thread nD τ).loc main_arg0)) R C k := by
    intro C v h hv
    unfold tapAt tap
    by_cases h1 : R.val < 4096
    · rw [dif_pos h1, dif_pos (by omega)]
      exact hv _ _ (by show R.val / 256 * 256 + (R.val % 256 + k.val - 2) = _; omega) rfl
    · rw [dif_neg h1, dif_pos (by omega)]
      exact hv _ _ (by show 4096 + (R.val - 4096) / 2048 * 2048 + ((R.val - 4096) % 2048 + k.val - 2) = _; omega) rfl
  refine held_eq m c t _ _ (fun x h0 h1 => ?_) (fun x h0 h1 => ?_) (fun x h0 h1 => ?_)
  · have h0 : r.val = (x 0).val := h0
    have h1 : l.val = (x 1).val := h1
    have hx : (x 0).val < 8 := (x 0).isLt
    refine (before m c t x).trans ?_
    rw [e0, m0]
    split_ifs with h
    · have h : t.val / 8 < 16 ∨ (t.val / 8 - 16) % 8 = 0 := h
      rw [bit.1]
      exact (mul_zero _).trans (out C (by omega)).symm
    · have h : ¬ (t.val / 8 < 16 ∨ (t.val / 8 - 16) % 8 = 0) := h
      rw [bit.2]
      refine (mul_one _).trans (ins C _ (by omega) fun X Z hX hZ => ?_)
      blk_ext! [iblk, V, idx t]
  · have h0 : r.val = 8 + (x 0).val := h0
    have h1 : l.val = (x 1).val := h1
    have hx : (x 0).val < 256 := (x 0).isLt
    refine ins C _ (by omega) fun X Z hX hZ => ?_
    pointwise [k0_pay3]
    blk_ext! [iblk, V, idx t]
  · have h0 : r.val = 264 + (x 0).val := h0
    have h1 : l.val = (x 1).val := h1
    have hx : (x 0).val < 8 := (x 0).isLt
    refine (after m c t _ _ x).trans ?_
    rw [e0, m1]
    split_ifs with h
    · have h : t.val / 8 < 16 ∨ (t.val / 8 - 16) % 8 = 7 := h
      rw [bit.1]
      exact (mul_zero _).trans (out C (by omega)).symm
    · have h : ¬ (t.val / 8 < 16 ∨ (t.val / 8 - 16) % 8 = 7) := h
      rw [bit.2]
      refine (mul_one _).trans (ins C _ (by omega) fun X Z hX hZ => ?_)
      blk_ext! [iblk, V, idx t]

/-- A point's weights are the array's, at its columns. -/
theorem weight (c : Dev nD) (t : Fin cfg0.N) (k : Fin 5) (l : Fin 1024) (C : Fin 8192) (hC : C.val = t.val % 8 * 1024 + l.val) :
    iblk m c 3 t (ix2 k l) = m ((c : Thread nD τ).loc main_arg1) (ix2 k C) := by
  blk_ext! [iblk, V, idx t]

/-- A point's element is the reference's result at its place. -/
theorem elt_eq (c : Dev nD) (t : Fin cfg0.N) (y : S256x1024.Idx) (R : Fin 12288) (K : Fin 8192)
    (hR : R.val = t.val / 8 * 256 + (y 0).val) (hK : K.val = t.val % 8 * 1024 + (y 1).val) :
    elt m c t y = Cert.DnConvRefIdeal.Read.val_main_v106 (F := Ideal) (m ((c : Thread nD τ).loc main_arg0))
      (m ((c : Thread nD τ).loc main_arg1)) (ix2 R K) := by
  have ht : t.val < 384 := t.isLt
  have hy0 : (y 0).val < 256 := (y 0).isLt
  have hy1 : (y 1).val < 1024 := (y 1).isLt
  refine Eq.trans ?_ (out_apply _ _ R K ⟨t.val % 8, by omega⟩ (fun q => ⟨t.val % 8 * 1024 + ((y 1).val / 128 * 128 + q.val), by omega⟩)
    ⟨(y 1).val % 128, by omega⟩ (by show t.val % 8 = _; omega)
    (fun q => by show t.val % 8 * 1024 + ((y 1).val / 128 * 128 + q.val) = _; omega) (by show (y 1).val % 128 = _; omega)).symm
  unfold elt
  rw [(coords t).2]
  refine congrFun (congrArg (cell _ _) (funext fun q => congrArg₂ taps (funext fun k => ?_) (funext fun k => ?_))) _
  · exact held_tap m c t k _ _ R _ (y 0).val hy0 rfl hR rfl
  · exact weight m c t k _ _ rfl

/-- The result array after the launch is the reference's value. -/
theorem final (c : Dev nD) : (dats m 0 c).arrAt 4 cfg0.N
    = Cert.DnConvRefIdeal.Read.val_main_v106 (F := Ideal) (m ((c : Thread nD τ).loc main_arg0)) (m ((c : Thread nD τ).loc main_arg1)) := by
  refine (dats m 0 c).arrAt_eq_of_covers 4 _ (by decide +kernel) fun t hf y => ?_
  have hr : (((View.whole main_v0).slice (win0_4.rect t)).emb y 0).val = t.val / 8 * 256 + (y 0).val := by blk_simp [idx t]
  have hc : (((View.whole main_v0).slice (win0_4.rect t)).emb y 1).val = t.val % 8 * 1024 + (y 1).val := by blk_simp [idx t]
  blk_simp
  rw [after0_4, out_eq]
  refine (elt_eq m c t y _ _ hr hc).trans (congrArg _ ?_)
  funext k
  match k with
  | ⟨0, _⟩ => rfl
  | ⟨1, _⟩ => rfl

end Cert.DnConvIdeal.Final

end
-- ==== Proof.Val.LatFinite.lean ====
module

public import proofs.«01_k».proof.Proof.Val.Softmax
public import proofs.«01_k».proof.Pre_latent_finite
public import Idealize.ShloMosaic.Lib.Pipeline.ValueKit

@[expose] public section

set_option maxRecDepth 16384

noncomputable section

/-! The precondition of the windowed attention read at one element: the element is a number. -/

namespace Cert.LatFinite

open Idealize.ShloMosaic Cert.Softmax

/-- The comparison's word says the absolute value lies below +∞, so the element is a number. -/
theorem fin_of_word (x : EReal) (h : BitVec.ofBool (decide (max x (-x) < ⊤)) = 1#1) : Fin' x := by
  have l : max x (-x) < ⊤ := by
    by_contra n
    rw [decide_eq_false n] at h
    exact absurd h (by decide)
  exact ⟨fun e => by subst e; simp at l, fun e => by subst e; simp at l⟩

/-- The bfloat16 +∞. -/
theorem inf_bf16 : Ideal.ofBits FTy.bf16 0x7F80#16 = ⊤ := by
  simp [Ideal.ofBits, Ideal.ieee]

/-- The float32 +∞. -/
theorem inf_f32 : Ideal.ofBits FTy.f32 0x7F800000#32 = ⊤ := by
  simp [Ideal.ofBits, Ideal.ieee]

variable (x0 : FVec Ideal Cert.Pre_latent_finite.S8192x3072 .bf16) (x1 x2 : FVec Ideal Cert.Pre_latent_finite.S4x256x4x128 .f32)
  (x3 : FVec Ideal Cert.Pre_latent_finite.S16 .f32) (x4 : FVec Ideal Cert.Pre_latent_finite.S12288x2048 .bf16)

/-- The predicate's shapes broadcast. -/
instance preFacts : Cert.Pre_latent_finite.Facts := ⟨by decide, by decide, by decide⟩

/-- The queries, keys and values are numbers. -/
theorem fin0 (h : (Cert.Pre_latent_finite.fn (F := Ideal) x0 x1 x2 x3 x4).1 = fun _ => 1#1) (a) : Fin' (x0 a) := by
  have e := congrFun h a
  revert e
  pointwise [Cert.Pre_latent_finite.fn]
  rw [inf_bf16]
  exact fin_of_word _

/-- The context keys are numbers. -/
theorem fin1 (h : (Cert.Pre_latent_finite.fn (F := Ideal) x0 x1 x2 x3 x4).2.1 = fun _ => 1#1) (a) : Fin' (x1 a) := by
  have e := congrFun h a
  revert e
  pointwise [Cert.Pre_latent_finite.fn]
  rw [inf_f32]
  exact fin_of_word _

/-- The sinks are numbers. -/
theorem fin3 (h : (Cert.Pre_latent_finite.fn (F := Ideal) x0 x1 x2 x3 x4).2.2 = fun _ => 1#1) (a) : Fin' (x3 a) := by
  have e := congrFun h a
  revert e
  pointwise [Cert.Pre_latent_finite.fn]
  rw [inf_f32]
  exact fin_of_word _

end Cert.LatFinite

end
-- ==== Proof.lean ====
module

public import proofs.«01_k».proof.Defs
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.DnIn
public import proofs.«01_k».proof.Proof.Gen.DnIn.Skeleton
public import proofs.«01_k».proof.Proof.Gen.DnIn.Launch
public import proofs.«01_k».proof.Proof.Gen.DnIn.Points
public import proofs.«01_k».proof.Proof.Gen.DnIn.Frame
public import proofs.«01_k».proof.Proof.Gen.DnInIdeal
public import proofs.«01_k».proof.Proof.Gen.DnInIdeal.Skeleton
public import proofs.«01_k».proof.Proof.Gen.DnInIdeal.Launch
public import proofs.«01_k».proof.Proof.Gen.DnInIdeal.Points
public import proofs.«01_k».proof.Proof.Gen.DnInIdeal.Frame
public import proofs.«01_k».proof.Proof.Gen.DnInRefIdeal
public import proofs.«01_k».proof.Proof.Gen.DnAb
public import proofs.«01_k».proof.Proof.Gen.DnAb.Skeleton
public import proofs.«01_k».proof.Proof.Gen.DnAb.Launch
public import proofs.«01_k».proof.Proof.Gen.DnAb.Points
public import proofs.«01_k».proof.Proof.Gen.DnAb.Frame
public import proofs.«01_k».proof.Proof.Gen.DnAbIdeal
public import proofs.«01_k».proof.Proof.Gen.DnAbIdeal.Skeleton
public import proofs.«01_k».proof.Proof.Gen.DnAbIdeal.Launch
public import proofs.«01_k».proof.Proof.Gen.DnAbIdeal.Points
public import proofs.«01_k».proof.Proof.Gen.DnAbIdeal.Frame
public import proofs.«01_k».proof.Proof.Gen.DnAbRefIdeal
public import proofs.«01_k».proof.Proof.Gen.Pw1
public import proofs.«01_k».proof.Proof.Gen.Pw1.Skeleton
public import proofs.«01_k».proof.Proof.Gen.Pw1.Launch
public import proofs.«01_k».proof.Proof.Gen.Pw1.Points
public import proofs.«01_k».proof.Proof.Gen.Pw1.Frame
public import proofs.«01_k».proof.Proof.Gen.Pw1Ideal
public import proofs.«01_k».proof.Proof.Gen.Pw1Ideal.Skeleton
public import proofs.«01_k».proof.Proof.Gen.Pw1Ideal.Launch
public import proofs.«01_k».proof.Proof.Gen.Pw1Ideal.Points
public import proofs.«01_k».proof.Proof.Gen.Pw1Ideal.Frame
public import proofs.«01_k».proof.Proof.Gen.Pw1RefIdeal
public import proofs.«01_k».proof.Proof.Gen.Pw2
public import proofs.«01_k».proof.Proof.Gen.Pw2.Skeleton
public import proofs.«01_k».proof.Proof.Gen.Pw2.Launch
public import proofs.«01_k».proof.Proof.Gen.Pw2.Points
public import proofs.«01_k».proof.Proof.Gen.Pw2.Frame
public import proofs.«01_k».proof.Proof.Gen.Pw2Ideal
public import proofs.«01_k».proof.Proof.Gen.Pw2Ideal.Skeleton
public import proofs.«01_k».proof.Proof.Gen.Pw2Ideal.Launch
public import proofs.«01_k».proof.Proof.Gen.Pw2Ideal.Points
public import proofs.«01_k».proof.Proof.Gen.Pw2Ideal.Frame
public import proofs.«01_k».proof.Proof.Gen.Pw2RefIdeal
public import proofs.«01_k».proof.Proof.Gen.AttnOut
public import proofs.«01_k».proof.Proof.Gen.AttnOut.Skeleton
public import proofs.«01_k».proof.Proof.Gen.AttnOut.Launch
public import proofs.«01_k».proof.Proof.Gen.AttnOut.Points
public import proofs.«01_k».proof.Proof.Gen.AttnOut.Frame
public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutRefIdeal
public import proofs.«01_k».proof.Proof.Gen.DnOut
public import proofs.«01_k».proof.Proof.Gen.DnOut.Skeleton
public import proofs.«01_k».proof.Proof.Gen.DnOut.Launch
public import proofs.«01_k».proof.Proof.Gen.DnOut.Points
public import proofs.«01_k».proof.Proof.Gen.DnOut.Frame
public import proofs.«01_k».proof.Proof.Gen.DnOutIdeal
public import proofs.«01_k».proof.Proof.Gen.DnOutIdeal.Skeleton
public import proofs.«01_k».proof.Proof.Gen.DnOutIdeal.Launch
public import proofs.«01_k».proof.Proof.Gen.DnOutIdeal.Points
public import proofs.«01_k».proof.Proof.Gen.DnOutIdeal.Frame
public import proofs.«01_k».proof.Proof.Gen.DnOutRefIdeal
public import proofs.«01_k».proof.Proof.Gen.Fin
public import proofs.«01_k».proof.Proof.Gen.Fin.Skeleton
public import proofs.«01_k».proof.Proof.Gen.Fin.Launch
public import proofs.«01_k».proof.Proof.Gen.Fin.Points
public import proofs.«01_k».proof.Proof.Gen.Fin.Frame
public import proofs.«01_k».proof.Proof.Gen.FinIdeal
public import proofs.«01_k».proof.Proof.Gen.FinIdeal.Skeleton
public import proofs.«01_k».proof.Proof.Gen.FinIdeal.Launch
public import proofs.«01_k».proof.Proof.Gen.FinIdeal.Points
public import proofs.«01_k».proof.Proof.Gen.FinIdeal.Frame
public import proofs.«01_k».proof.Proof.Gen.FinRefIdeal
public import proofs.«01_k».proof.Proof.Gen.FinS
public import proofs.«01_k».proof.Proof.Gen.FinS.Skeleton
public import proofs.«01_k».proof.Proof.Gen.FinS.Launch
public import proofs.«01_k».proof.Proof.Gen.FinS.Points
public import proofs.«01_k».proof.Proof.Gen.FinS.Frame
public import proofs.«01_k».proof.Proof.Gen.FinSIdeal
public import proofs.«01_k».proof.Proof.Gen.FinSIdeal.Skeleton
public import proofs.«01_k».proof.Proof.Gen.FinSIdeal.Launch
public import proofs.«01_k».proof.Proof.Gen.FinSIdeal.Points
public import proofs.«01_k».proof.Proof.Gen.FinSIdeal.Frame
public import proofs.«01_k».proof.Proof.Gen.FinSRefIdeal
public import Idealize.ShloMosaic.Adequacy
public import Idealize.ShloMosaic.Init
public import proofs.«01_k».proof.Proof.Gen.Lat
public import proofs.«01_k».proof.Proof.Gen.Lat.Skeleton
public import proofs.«01_k».proof.Proof.Gen.Lat.Launch
public import proofs.«01_k».proof.Proof.Gen.Lat.Points
public import proofs.«01_k».proof.Proof.Gen.Lat.Frame
public import proofs.«01_k».proof.Proof.Gen.LatIdeal
public import proofs.«01_k».proof.Proof.Gen.LatIdeal.Skeleton
public import proofs.«01_k».proof.Proof.Gen.LatIdeal.Launch
public import proofs.«01_k».proof.Proof.Gen.LatIdeal.Points
public import proofs.«01_k».proof.Proof.Gen.LatIdeal.Frame
public import proofs.«01_k».proof.Proof.Gen.LatRefIdeal
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterRefIdeal
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesRefIdeal
public import proofs.«01_k».proof.Proof.Gen.DnNorm
public import proofs.«01_k».proof.Proof.Gen.DnNorm.Skeleton
public import proofs.«01_k».proof.Proof.Gen.DnNorm.Launch
public import proofs.«01_k».proof.Proof.Gen.DnNorm.Points
public import proofs.«01_k».proof.Proof.Gen.DnNorm.Frame
public import proofs.«01_k».proof.Proof.Gen.DnNormIdeal
public import proofs.«01_k».proof.Proof.Gen.DnNormIdeal.Skeleton
public import proofs.«01_k».proof.Proof.Gen.DnNormIdeal.Launch
public import proofs.«01_k».proof.Proof.Gen.DnNormIdeal.Points
public import proofs.«01_k».proof.Proof.Gen.DnNormIdeal.Frame
public import proofs.«01_k».proof.Proof.Gen.DnNormRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.Ctx
public import proofs.«01_k».proof.Proof.Gen.Ctx.Skeleton
public import proofs.«01_k».proof.Proof.Gen.Ctx.Launch
public import proofs.«01_k».proof.Proof.Gen.Ctx.Points
public import proofs.«01_k».proof.Proof.Gen.Ctx.Frame
public import proofs.«01_k».proof.Proof.Gen.CtxIdeal
public import proofs.«01_k».proof.Proof.Gen.CtxIdeal.Skeleton
public import proofs.«01_k».proof.Proof.Gen.CtxIdeal.Launch
public import proofs.«01_k».proof.Proof.Gen.CtxIdeal.Points
public import proofs.«01_k».proof.Proof.Gen.CtxIdeal.Frame
public import proofs.«01_k».proof.Proof.Gen.CtxRefIdeal
public import proofs.«01_k».proof.Proof.Gen.DnConv
public import proofs.«01_k».proof.Proof.Gen.DnConv.Skeleton
public import proofs.«01_k».proof.Proof.Gen.DnConv.Launch
public import proofs.«01_k».proof.Proof.Gen.DnConv.Points
public import proofs.«01_k».proof.Proof.Gen.DnConv.Frame
public import proofs.«01_k».proof.Proof.Gen.DnConvIdeal
public import proofs.«01_k».proof.Proof.Gen.DnConvIdeal.Skeleton
public import proofs.«01_k».proof.Proof.Gen.DnConvIdeal.Launch
public import proofs.«01_k».proof.Proof.Gen.DnConvIdeal.Points
public import proofs.«01_k».proof.Proof.Gen.DnConvIdeal.Frame
public import proofs.«01_k».proof.Proof.Gen.DnConvRefIdeal
public import proofs.«01_k».proof.Proof.Gen.LatIdeal.Value
public import proofs.«01_k».proof.Proof.Gen.LatRefIdeal.Run
public import proofs.«01_k».proof.Proof.Gen.LatRefIdeal.Read
public import proofs.«01_k».proof.Proof.Val.Lat
public import proofs.«01_k».proof.Proof.Gen.UpIdeal.Value
public import proofs.«01_k».proof.Proof.Gen.UpRefIdeal.Run
public import proofs.«01_k».proof.Proof.Gen.UpRefIdeal.Read
public import proofs.«01_k».proof.Proof.Val.Up
public import proofs.«01_k».proof.Proof.Gen.DownIdeal.Value
public import proofs.«01_k».proof.Proof.Gen.DownRefIdeal.Run
public import proofs.«01_k».proof.Proof.Gen.DownRefIdeal.Read
public import proofs.«01_k».proof.Proof.Val.Down
public import proofs.«01_k».proof.Proof.Gen.QkvIdeal.Value
public import proofs.«01_k».proof.Proof.Gen.QkvRefIdeal.Run
public import proofs.«01_k».proof.Proof.Gen.QkvRefIdeal.Read
public import proofs.«01_k».proof.Proof.Val.Qkv
public import proofs.«01_k».proof.Proof.Gen.DnInIdeal.Value
public import proofs.«01_k».proof.Proof.Gen.DnInRefIdeal.Run
public import proofs.«01_k».proof.Proof.Gen.DnInRefIdeal.Read
public import proofs.«01_k».proof.Proof.Val.DnIn
public import proofs.«01_k».proof.Proof.Gen.DnAbIdeal.Value
public import proofs.«01_k».proof.Proof.Gen.DnAbRefIdeal.Run
public import proofs.«01_k».proof.Proof.Gen.DnAbRefIdeal.Read
public import proofs.«01_k».proof.Proof.Val.DnAb
public import proofs.«01_k».proof.Proof.Gen.Pw1Ideal.Value
public import proofs.«01_k».proof.Proof.Gen.Pw1RefIdeal.Run
public import proofs.«01_k».proof.Proof.Gen.Pw1RefIdeal.Read
public import proofs.«01_k».proof.Proof.Val.Pw1
public import proofs.«01_k».proof.Proof.Gen.Pw2RefIdeal.Run
public import proofs.«01_k».proof.Proof.Gen.Pw2RefIdeal.Read
public import proofs.«01_k».proof.Proof.Val.Pw2
public import proofs.«01_k».proof.Proof.Gen.AttnOutRefIdeal.Run
public import proofs.«01_k».proof.Proof.Gen.AttnOutRefIdeal.Read
public import proofs.«01_k».proof.Proof.Val.AttnOut
public import proofs.«01_k».proof.Proof.Gen.DnOutRefIdeal.Run
public import proofs.«01_k».proof.Proof.Gen.DnOutRefIdeal.Read
public import proofs.«01_k».proof.Proof.Val.DnOut
public import proofs.«01_k».proof.Proof.Gen.FinIdeal.Value
public import proofs.«01_k».proof.Proof.Gen.FinRefIdeal.Run
public import proofs.«01_k».proof.Proof.Gen.FinRefIdeal.Read
public import proofs.«01_k».proof.Proof.Val.Fin
public import proofs.«01_k».proof.Proof.Gen.FinSIdeal.Value
public import proofs.«01_k».proof.Proof.Gen.FinSRefIdeal.Run
public import proofs.«01_k».proof.Proof.Gen.FinSRefIdeal.Read
public import proofs.«01_k».proof.Proof.Val.FinS
public import proofs.«01_k».proof.Proof.Gen.AdaIdeal.Value
public import proofs.«01_k».proof.Proof.Gen.AdaRefIdeal.Run
public import proofs.«01_k».proof.Proof.Gen.AdaRefIdeal.Read
public import proofs.«01_k».proof.Proof.Val.Ada
public import proofs.«01_k».proof.Proof.Gen.RouterIdeal.Value
public import proofs.«01_k».proof.Proof.Gen.RouterRefIdeal.Run
public import proofs.«01_k».proof.Proof.Gen.RouterRefIdeal.Read
public import proofs.«01_k».proof.Proof.Val.Router
public import proofs.«01_k».proof.Proof.Gen.RopeIdeal.Value
public import proofs.«01_k».proof.Proof.Gen.RopeRefIdeal.Run
public import proofs.«01_k».proof.Proof.Gen.RopeRefIdeal.Read
public import proofs.«01_k».proof.Proof.Val.Rope
public import proofs.«01_k».proof.Proof.Gen.GatesIdeal.Value
public import proofs.«01_k».proof.Proof.Gen.GatesRefIdeal.Run
public import proofs.«01_k».proof.Proof.Gen.GatesRefIdeal.Read
public import proofs.«01_k».proof.Proof.Val.Gates
public import proofs.«01_k».proof.Proof.Gen.DnNormIdeal.Value
public import proofs.«01_k».proof.Proof.Gen.DnNormRefIdeal.Run
public import proofs.«01_k».proof.Proof.Gen.DnNormRefIdeal.Read
public import proofs.«01_k».proof.Proof.Val.DnNorm
public import proofs.«01_k».proof.Proof.Gen.NormIdeal.Value
public import proofs.«01_k».proof.Proof.Gen.NormRefIdeal.Run
public import proofs.«01_k».proof.Proof.Gen.NormRefIdeal.Read
public import proofs.«01_k».proof.Proof.Val.Norm
public import proofs.«01_k».proof.Proof.Gen.CtxRefIdeal.Run
public import proofs.«01_k».proof.Proof.Gen.CtxRefIdeal.Read
public import proofs.«01_k».proof.Proof.Val.Ctx
public import proofs.«01_k».proof.Proof.Gen.DnConvIdeal.Value
public import proofs.«01_k».proof.Proof.Gen.DnConvRefIdeal.Run
public import proofs.«01_k».proof.Proof.Gen.DnConvRefIdeal.Read
public import proofs.«01_k».proof.Proof.Val.DnConv
public import proofs.«01_k».proof.Proof.Val.LatFinite

@[expose] public section

set_option maxRecDepth 16384

noncomputable section

namespace Cert.Proof

open Idealize.ShloMosaic Idealize.ShloMosaic.TcCoe Idealize.SL.Sem

/-- The Lat reference leaves its arguments alone and the machine at rest. -/
theorem latRef : Cert.quiescent_LatRefIdeal := fun m g _ =>
  (θ_run _ _ _).mono (fun r h => ⟨fun c => (h c).2, sem_eq_zero_of_no_sems (by decide) r.2⟩)
    (Cert.LatRefIdeal.Value.run (F := Ideal) m g)

/-- The windowed attention of the sample rows: from equal arguments, the queries, keys, values and sinks numbers, the kernel's run and the reference's end with equal results. -/
theorem lat : Cert.algebraic_LatIdeal_LatRefIdeal_pre_latent_finite := fun m g m' g' hp hag =>
  ⟨fun c => Cert.LatRefIdeal.Read.val_main_v52 (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4)),
    (θ_run _ _ _).mono (fun r h c => ⟨(h c).1.trans (Cert.LatIdeal.Final.final m c
      (Cert.LatFinite.fin0 _ _ _ _ _ (hp c).1) (Cert.LatFinite.fin1 _ _ _ _ _ (hp c).2.1) (Cert.LatFinite.fin3 _ _ _ _ _ (hp c).2.2)), (h c).2⟩) (Cert.LatIdeal.Value.run_blocks m g),
    (θ_run _ _ _).mono (fun r h c => ⟨(h c).1.trans (by
      obtain ⟨h0, h1, h2, h3, h4⟩ := hag c
      refine (Cert.LatRefIdeal.Read.val_main_v52_eq m' c).trans ?_
      rw [h0, h1, h2, h3, h4]), (h c).2⟩)
      (Cert.LatRefIdeal.Value.run (F := Ideal) m' g')⟩

/-- The Up reference leaves its arguments alone and the machine at rest. -/
theorem upRef : Cert.quiescent_UpRefIdeal := fun m g _ =>
  (θ_run _ _ _).mono (fun r h => ⟨fun c => (h c).2, sem_eq_zero_of_no_sems (by decide) r.2⟩)
    (Cert.UpRefIdeal.Value.run (F := Ideal) m g)

/-- The experts' gated up-projection: from equal arguments the kernel's run and the reference's end with equal results. -/
theorem up : Cert.algebraic_UpIdeal_UpRefIdeal := fun m g m' g' _ hag =>
  ⟨fun c => Cert.UpRefIdeal.Read.val_main_v9 (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)),
    (θ_run _ _ _).mono (fun r h c => ⟨(h c).1.trans (Cert.UpIdeal.Final.final m c), (h c).2⟩) (Cert.UpIdeal.Value.run_blocks m g),
    (θ_run _ _ _).mono (fun r h c => ⟨(h c).1.trans (by
      obtain ⟨h0, h1, h2⟩ := hag c
      rw [h0, h1, h2]
      rfl), (h c).2⟩)
      (Cert.UpRefIdeal.Value.run (F := Ideal) m' g')⟩

/-- The Down reference leaves its arguments alone and the machine at rest. -/
theorem downRef : Cert.quiescent_DownRefIdeal := fun m g _ =>
  (θ_run _ _ _).mono (fun r h => ⟨fun c => (h c).2, sem_eq_zero_of_no_sems (by decide) r.2⟩)
    (Cert.DownRefIdeal.Value.run (F := Ideal) m g)

/-- The experts' down-projection: from equal arguments the kernel's run and the reference's end with equal results. -/
theorem down : Cert.algebraic_DownIdeal_DownRefIdeal := fun m g m' g' _ hag =>
  ⟨fun c => Cert.DownRefIdeal.Read.val_main_v6 (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)),
    (θ_run _ _ _).mono (fun r h c => ⟨(h c).1.trans (Cert.DownIdeal.Final.final m c), (h c).2⟩) (Cert.DownIdeal.Value.run_blocks m g),
    (θ_run _ _ _).mono (fun r h c => ⟨(h c).1.trans (by
      obtain ⟨h0, h1, h2⟩ := hag c
      rw [h0, h1, h2]
      rfl), (h c).2⟩)
      (Cert.DownRefIdeal.Value.run (F := Ideal) m' g')⟩

/-- The Qkv reference leaves its arguments alone and the machine at rest. -/
theorem qkvRef : Cert.quiescent_QkvRefIdeal := fun m g _ =>
  (θ_run _ _ _).mono (fun r h => ⟨fun c => (h c).2, sem_eq_zero_of_no_sems (by decide) r.2⟩)
    (Cert.QkvRefIdeal.Value.run (F := Ideal) m g)

/-- The attention layer's query, key and value projection: from equal arguments the kernel's run and the reference's end with equal results. -/
theorem qkv : Cert.algebraic_QkvIdeal_QkvRefIdeal := fun m g m' g' _ hag =>
  ⟨fun c => Cert.QkvRefIdeal.Read.val_main_v2 (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)),
    (θ_run _ _ _).mono (fun r h c => ⟨(h c).1.trans (Cert.QkvIdeal.Final.final m c), (h c).2⟩) (Cert.QkvIdeal.Value.run_blocks m g),
    (θ_run _ _ _).mono (fun r h c => ⟨(h c).1.trans (by
      obtain ⟨h0, h1⟩ := hag c
      rw [h0, h1]
      rfl), (h c).2⟩)
      (Cert.QkvRefIdeal.Value.run (F := Ideal) m' g')⟩

/-- The DnIn reference leaves its arguments alone and the machine at rest. -/
theorem dnInRef : Cert.quiescent_DnInRefIdeal := fun m g _ =>
  (θ_run _ _ _).mono (fun r h => ⟨fun c => (h c).2, sem_eq_zero_of_no_sems (by decide) r.2⟩)
    (Cert.DnInRefIdeal.Value.run (F := Ideal) m g)

/-- The delta layer's input projection: from equal arguments the kernel's run and the reference's end with equal results. -/
theorem dnIn : Cert.algebraic_DnInIdeal_DnInRefIdeal := fun m g m' g' _ hag =>
  ⟨fun c => Cert.DnInRefIdeal.Read.val_main_v3 (F := Ideal) (m ((c.tc : Thread Cert.DnInIdeal.nD Cert.DnInIdeal.τ).loc Cert.DnInIdeal.main_arg0)) (m ((c.tc : Thread Cert.DnInIdeal.nD Cert.DnInIdeal.τ).loc Cert.DnInIdeal.main_arg1)),
    (θ_run _ _ _).mono (fun r h c => ⟨(h c).1.trans (Cert.DnInIdeal.Final.final m c), (h c).2⟩) (Cert.DnInIdeal.Value.run_blocks m g),
    (θ_run _ _ _).mono (fun r h c => ⟨(h c).1.trans (by
      obtain ⟨h0, h1⟩ := hag c
      rw [h0, h1]
      rfl), (h c).2⟩)
      (Cert.DnInRefIdeal.Value.run (F := Ideal) m' g')⟩

/-- The DnAb reference leaves its arguments alone and the machine at rest. -/
theorem dnAbRef : Cert.quiescent_DnAbRefIdeal := fun m g _ =>
  (θ_run _ _ _).mono (fun r h => ⟨fun c => (h c).2, sem_eq_zero_of_no_sems (by decide) r.2⟩)
    (Cert.DnAbRefIdeal.Value.run (F := Ideal) m g)

/-- The delta layer's gate projection: from equal arguments the kernel's run and the reference's end with equal results. -/
theorem dnAb : Cert.algebraic_DnAbIdeal_DnAbRefIdeal := fun m g m' g' _ hag =>
  ⟨fun c => Cert.DnAbRefIdeal.Read.val_main_v3 (F := Ideal) (m ((c.tc : Thread Cert.DnAbIdeal.nD Cert.DnAbIdeal.τ).loc Cert.DnAbIdeal.main_arg0)) (m ((c.tc : Thread Cert.DnAbIdeal.nD Cert.DnAbIdeal.τ).loc Cert.DnAbIdeal.main_arg1)),
    (θ_run _ _ _).mono (fun r h c => ⟨(h c).1.trans (Cert.DnAbIdeal.Final.final m c), (h c).2⟩) (Cert.DnAbIdeal.Value.run_blocks m g),
    (θ_run _ _ _).mono (fun r h c => ⟨(h c).1.trans (by
      obtain ⟨h0, h1⟩ := hag c
      rw [h0, h1]
      rfl), (h c).2⟩)
      (Cert.DnAbRefIdeal.Value.run (F := Ideal) m' g')⟩

/-- The Pw1 reference leaves its arguments alone and the machine at rest. -/
theorem pw1Ref : Cert.quiescent_Pw1RefIdeal := fun m g _ =>
  (θ_run _ _ _).mono (fun r h => ⟨fun c => (h c).2, sem_eq_zero_of_no_sems (by decide) r.2⟩)
    (Cert.Pw1RefIdeal.Value.run (F := Ideal) m g)

/-- The convolution layer's first pointwise projection with its gate: from equal arguments the kernel's run and the reference's end with equal results. -/
theorem pw1 : Cert.algebraic_Pw1Ideal_Pw1RefIdeal := fun m g m' g' _ hag =>
  ⟨fun c => Cert.Pw1RefIdeal.Read.val_main_v15 (F := Ideal) (m ((c.tc : Thread Cert.Pw1Ideal.nD Cert.Pw1Ideal.τ).loc Cert.Pw1Ideal.main_arg0)) (m ((c.tc : Thread Cert.Pw1Ideal.nD Cert.Pw1Ideal.τ).loc Cert.Pw1Ideal.main_arg1)) (m ((c.tc : Thread Cert.Pw1Ideal.nD Cert.Pw1Ideal.τ).loc Cert.Pw1Ideal.main_arg2)),
    (θ_run _ _ _).mono (fun r h c => ⟨(h c).1.trans (Cert.Pw1Ideal.Final.final m c), (h c).2⟩) (Cert.Pw1Ideal.Value.run_blocks m g),
    (θ_run _ _ _).mono (fun r h c => ⟨(h c).1.trans (by
      obtain ⟨h0, h1, h2⟩ := hag c
      rw [h0, h1, h2]
      rfl), (h c).2⟩)
      (Cert.Pw1RefIdeal.Value.run (F := Ideal) m' g')⟩

/-- The Pw2 reference leaves its arguments alone and the machine at rest. -/
theorem pw2Ref : Cert.quiescent_Pw2RefIdeal := fun m g _ =>
  (θ_run _ _ _).mono (fun r h => ⟨fun c => (h c).2, sem_eq_zero_of_no_sems (by decide) r.2⟩)
    (Cert.Pw2RefIdeal.Value.run (F := Ideal) m g)

/-- The convolution layer's second pointwise projection with its gated residual: from equal arguments the kernel's run and the reference's end with equal results. -/
theorem pw2 : Cert.algebraic_Pw2Ideal_Pw2RefIdeal := fun m g m' g' _ hag =>
  ⟨fun c => Cert.Pw2RefIdeal.Read.val_main_v17 (F := Ideal) (m ((c.tc : Thread Cert.Pw2Ideal.nD Cert.Pw2Ideal.τ).loc Cert.Pw2Ideal.main_arg0)) (m ((c.tc : Thread Cert.Pw2Ideal.nD Cert.Pw2Ideal.τ).loc Cert.Pw2Ideal.main_arg1)) (m ((c.tc : Thread Cert.Pw2Ideal.nD Cert.Pw2Ideal.τ).loc Cert.Pw2Ideal.main_arg2)) (m ((c.tc : Thread Cert.Pw2Ideal.nD Cert.Pw2Ideal.τ).loc Cert.Pw2Ideal.main_arg3)) (m ((c.tc : Thread Cert.Pw2Ideal.nD Cert.Pw2Ideal.τ).loc Cert.Pw2Ideal.main_arg4)),
    (θ_run _ _ _).mono (fun r h c => ⟨(h c).1.trans (Cert.Pw2Ideal.Final.final m c), (h c).2⟩) (Cert.Pw2Ideal.Final.named m g),
    (θ_run _ _ _).mono (fun r h c => ⟨(h c).1.trans (by
      obtain ⟨h0, h1, h2, h3, h4⟩ := hag c
      rw [h0, h1, h2, h3, h4]
      rfl), (h c).2⟩)
      (Cert.Pw2RefIdeal.Value.run (F := Ideal) m' g')⟩

/-- The AttnOut reference leaves its arguments alone and the machine at rest. -/
theorem attnOutRef : Cert.quiescent_AttnOutRefIdeal := fun m g _ =>
  (θ_run _ _ _).mono (fun r h => ⟨fun c => (h c).2, sem_eq_zero_of_no_sems (by decide) r.2⟩)
    (Cert.AttnOutRefIdeal.Value.run (F := Ideal) m g)

/-- The attention layer's output projection with its gated residual: from equal arguments the kernel's run and the reference's end with equal results. -/
theorem attnOut : Cert.algebraic_AttnOutIdeal_AttnOutRefIdeal := fun m g m' g' _ hag =>
  ⟨fun c => Cert.AttnOutRefIdeal.Read.val_main_v13 (F := Ideal) (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)) (m ((c.tc : Thread Cert.AttnOutIdeal.nD Cert.AttnOutIdeal.τ).loc Cert.AttnOutIdeal.main_arg2)) (m ((c.tc : Thread Cert.AttnOutIdeal.nD Cert.AttnOutIdeal.τ).loc Cert.AttnOutIdeal.main_arg3)),
    (θ_run _ _ _).mono (fun r h c => ⟨(h c).1.trans (Cert.AttnOutIdeal.Final.final m c), (h c).2⟩) (Cert.AttnOutIdeal.Final.named m g),
    (θ_run _ _ _).mono (fun r h c => ⟨(h c).1.trans (by
      obtain ⟨h0, h1, h2, h3⟩ := hag c
      rw [h0, h1, h2, h3]
      rfl), (h c).2⟩)
      (Cert.AttnOutRefIdeal.Value.run (F := Ideal) m' g')⟩

/-- The DnOut reference leaves its arguments alone and the machine at rest. -/
theorem dnOutRef : Cert.quiescent_DnOutRefIdeal := fun m g _ =>
  (θ_run _ _ _).mono (fun r h => ⟨fun c => (h c).2, sem_eq_zero_of_no_sems (by decide) r.2⟩)
    (Cert.DnOutRefIdeal.Value.run (F := Ideal) m g)

/-- The delta layer's output projection with its gated residual: from equal arguments the kernel's run and the reference's end with equal results. -/
theorem dnOut : Cert.algebraic_DnOutIdeal_DnOutRefIdeal := fun m g m' g' _ hag =>
  ⟨fun c => Cert.DnOutRefIdeal.Read.val_main_v13 (F := Ideal) (m ((c.tc : Thread Cert.DnOutIdeal.nD Cert.DnOutIdeal.τ).loc Cert.DnOutIdeal.main_arg0)) (m ((c.tc : Thread Cert.DnOutIdeal.nD Cert.DnOutIdeal.τ).loc Cert.DnOutIdeal.main_arg1)) (m ((c.tc : Thread Cert.DnOutIdeal.nD Cert.DnOutIdeal.τ).loc Cert.DnOutIdeal.main_arg2)) (m ((c.tc : Thread Cert.DnOutIdeal.nD Cert.DnOutIdeal.τ).loc Cert.DnOutIdeal.main_arg3)),
    (θ_run _ _ _).mono (fun r h c => ⟨(h c).1.trans (Cert.DnOutIdeal.Final.final m c), (h c).2⟩) (Cert.DnOutIdeal.Final.named m g),
    (θ_run _ _ _).mono (fun r h c => ⟨(h c).1.trans (by
      obtain ⟨h0, h1, h2, h3⟩ := hag c
      rw [h0, h1, h2, h3]
      rfl), (h c).2⟩)
      (Cert.DnOutRefIdeal.Value.run (F := Ideal) m' g')⟩

/-- The Fin reference leaves its arguments alone and the machine at rest. -/
theorem finRef : Cert.quiescent_FinRefIdeal := fun m g _ =>
  (θ_run _ _ _).mono (fun r h => ⟨fun c => (h c).2, sem_eq_zero_of_no_sems (by decide) r.2⟩)
    (Cert.FinRefIdeal.Value.run (F := Ideal) m g)

/-- The final norm of the prompt rows: from equal arguments the kernel's run and the reference's end with equal results. -/
theorem fin : Cert.algebraic_FinIdeal_FinRefIdeal := fun m g m' g' _ hag =>
  ⟨fun c => Cert.FinRefIdeal.Read.val_main_v13 (F := Ideal) (m ((c.tc : Thread Cert.FinIdeal.nD Cert.FinIdeal.τ).loc Cert.FinIdeal.main_arg0)) (m ((c.tc : Thread Cert.FinIdeal.nD Cert.FinIdeal.τ).loc Cert.FinIdeal.main_arg1)),
    (θ_run _ _ _).mono (fun r h c => ⟨(h c).1.trans (Cert.FinIdeal.Final.final m c), (h c).2⟩) (Cert.FinIdeal.Value.run_blocks m g),
    (θ_run _ _ _).mono (fun r h c => ⟨(h c).1.trans (by
      obtain ⟨h0, h1⟩ := hag c
      rw [h0, h1]
      rfl), (h c).2⟩)
      (Cert.FinRefIdeal.Value.run (F := Ideal) m' g')⟩

/-- The FinS reference leaves its arguments alone and the machine at rest. -/
theorem finSRef : Cert.quiescent_FinSRefIdeal := fun m g _ =>
  (θ_run _ _ _).mono (fun r h => ⟨fun c => (h c).2, sem_eq_zero_of_no_sems (by decide) r.2⟩)
    (Cert.FinSRefIdeal.Value.run (F := Ideal) m g)

/-- The final norm of the sample rows: from equal arguments the kernel's run and the reference's end with equal results. -/
theorem finS : Cert.algebraic_FinSIdeal_FinSRefIdeal := fun m g m' g' _ hag =>
  ⟨fun c => Cert.FinSRefIdeal.Read.val_main_v13 (F := Ideal) (m ((c.tc : Thread Cert.FinSIdeal.nD Cert.FinSIdeal.τ).loc Cert.FinSIdeal.main_arg0)) (m ((c.tc : Thread Cert.FinSIdeal.nD Cert.FinSIdeal.τ).loc Cert.FinSIdeal.main_arg1)),
    (θ_run _ _ _).mono (fun r h c => ⟨(h c).1.trans (Cert.FinSIdeal.Final.final m c), (h c).2⟩) (Cert.FinSIdeal.Value.run_blocks m g),
    (θ_run _ _ _).mono (fun r h c => ⟨(h c).1.trans (by
      obtain ⟨h0, h1⟩ := hag c
      rw [h0, h1]
      rfl), (h c).2⟩)
      (Cert.FinSRefIdeal.Value.run (F := Ideal) m' g')⟩

/-- The Ada reference leaves its arguments alone and the machine at rest. -/
theorem adaRef : Cert.quiescent_AdaRefIdeal := fun m g _ =>
  (θ_run _ _ _).mono (fun r h => ⟨fun c => (h c).2, sem_eq_zero_of_no_sems (by decide) r.2⟩)
    (Cert.AdaRefIdeal.Value.run (F := Ideal) m g)

/-- The modulation from the conditioning vectors: from equal arguments the kernel's run and the reference's end with equal results. -/
theorem ada : Cert.algebraic_AdaIdeal_AdaRefIdeal := fun m g m' g' _ hag =>
  ⟨fun c => Cert.AdaRefIdeal.Read.val_main_v5 (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)),
    (θ_run _ _ _).mono (fun r h c => ⟨(h c).1.trans (Cert.AdaIdeal.Final.final m c), (h c).2⟩) (Cert.AdaIdeal.Value.run_blocks m g),
    (θ_run _ _ _).mono (fun r h c => ⟨(h c).1.trans (by
      obtain ⟨h0, h1, h2⟩ := hag c
      rw [h0, h1, h2]
      rfl), (h c).2⟩)
      (Cert.AdaRefIdeal.Value.run (F := Ideal) m' g')⟩

/-- The Router reference leaves its arguments alone and the machine at rest. -/
theorem routerRef : Cert.quiescent_RouterRefIdeal := fun m g _ =>
  (θ_run _ _ _).mono (fun r h => ⟨fun c => (h c).2.2, sem_eq_zero_of_no_sems (by decide) r.2⟩)
    (Cert.RouterRefIdeal.Value.run (F := Ideal) m g)

/-- The router's norm, modulation and scores: from equal arguments the kernel's run and the reference's end with equal results. -/
theorem router : Cert.algebraic_RouterIdeal_RouterRefIdeal := fun m g m' g' _ hag =>
  ⟨fun c => Cert.RouterRefIdeal.Read.val_main_v35 (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)),
    fun c => Cert.RouterRefIdeal.Read.val_main_v47 (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)),
    (θ_run _ _ _).mono (fun r h c => ⟨(h c).1.trans (Cert.RouterIdeal.Final.final m c),
      (h c).2.1.trans (Cert.RouterIdeal.Final.scores m c), (h c).2.2⟩) (Cert.RouterIdeal.Value.run_blocks m g),
    (θ_run _ _ _).mono (fun r h c => ⟨(h c).1.trans (by
      obtain ⟨h0, h1, h2, h3⟩ := hag c
      rw [h0, h1, h2]
      rfl), (h c).2.1.trans (by
      obtain ⟨h0, h1, h2, h3⟩ := hag c
      refine (Cert.RouterRefIdeal.Read.val_main_v47_eq m' c).trans ?_
      rw [h0, h1, h2, h3]), (h c).2.2⟩)
      (Cert.RouterRefIdeal.Value.run (F := Ideal) m' g')⟩

/-- The Rope reference leaves its arguments alone and the machine at rest. -/
theorem ropeRef : Cert.quiescent_RopeRefIdeal := fun m g _ =>
  (θ_run _ _ _).mono (fun r h => ⟨fun c => (h c).2, sem_eq_zero_of_no_sems (by decide) r.2⟩)
    (Cert.RopeRefIdeal.Value.run (F := Ideal) m g)

/-- The rotary positions of the sample rows: from equal arguments the kernel's run and the reference's end with equal results. -/
theorem rope : Cert.algebraic_RopeIdeal_RopeRefIdeal := fun m g m' g' _ hag =>
  ⟨fun c => Cert.RopeRefIdeal.Read.val_main_v21 (F := Ideal) (m ((c.tc : Thread Cert.RopeIdeal.nD Cert.RopeIdeal.τ).loc Cert.RopeIdeal.main_arg0)) (m ((c.tc : Thread Cert.RopeIdeal.nD Cert.RopeIdeal.τ).loc Cert.RopeIdeal.main_arg1)) (m ((c.tc : Thread Cert.RopeIdeal.nD Cert.RopeIdeal.τ).loc Cert.RopeIdeal.main_arg2)),
    (θ_run _ _ _).mono (fun r h c => ⟨(h c).1.trans (Cert.RopeIdeal.Final.final m c), (h c).2⟩) (Cert.RopeIdeal.Value.run_blocks m g),
    (θ_run _ _ _).mono (fun r h c => ⟨(h c).1.trans (by
      obtain ⟨h0, h1, h2⟩ := hag c
      rw [h0, h1, h2]
      rfl), (h c).2⟩)
      (Cert.RopeRefIdeal.Value.run (F := Ideal) m' g')⟩

/-- The Gates reference leaves its arguments alone and the machine at rest. -/
theorem gatesRef : Cert.quiescent_GatesRefIdeal := fun m g _ =>
  (θ_run _ _ _).mono (fun r h => ⟨fun c => (h c).2, sem_eq_zero_of_no_sems (by decide) r.2⟩)
    (Cert.GatesRefIdeal.Value.run (F := Ideal) m g)

/-- The delta layer's log-decays and write strengths: from equal arguments the kernel's run and the reference's end with equal results. -/
theorem gates : Cert.algebraic_GatesIdeal_GatesRefIdeal := fun m g m' g' _ hag =>
  ⟨fun c => Cert.GatesRefIdeal.Read.val_main_v19 (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)),
    (θ_run _ _ _).mono (fun r h c => ⟨(h c).1.trans (Cert.GatesIdeal.Final.final m c), (h c).2⟩) (Cert.GatesIdeal.Value.run_blocks m g),
    (θ_run _ _ _).mono (fun r h c => ⟨(h c).1.trans (by
      obtain ⟨h0, h1, h2⟩ := hag c
      rw [h0, h1, h2]
      rfl), (h c).2⟩)
      (Cert.GatesRefIdeal.Value.run (F := Ideal) m' g')⟩

/-- The DnNorm reference leaves its arguments alone and the machine at rest. -/
theorem dnNormRef : Cert.quiescent_DnNormRefIdeal := fun m g _ =>
  (θ_run _ _ _).mono (fun r h => ⟨fun c => (h c).2, sem_eq_zero_of_no_sems (by decide) r.2⟩)
    (Cert.DnNormRefIdeal.Value.run (F := Ideal) m g)

/-- The delta layer's output norm and gate: from equal arguments the kernel's run and the reference's end with equal results. -/
theorem dnNorm : Cert.algebraic_DnNormIdeal_DnNormRefIdeal := fun m g m' g' _ hag =>
  ⟨fun c => Cert.DnNormRefIdeal.Read.val_main_v20 (F := Ideal) (m ((c.tc : Thread Cert.DnNormIdeal.nD Cert.DnNormIdeal.τ).loc Cert.DnNormIdeal.main_arg0)) (m ((c.tc : Thread Cert.DnNormIdeal.nD Cert.DnNormIdeal.τ).loc Cert.DnNormIdeal.main_arg1)) (m ((c.tc : Thread Cert.DnNormIdeal.nD Cert.DnNormIdeal.τ).loc Cert.DnNormIdeal.main_arg2)) (m ((c.tc : Thread Cert.DnNormIdeal.nD Cert.DnNormIdeal.τ).loc Cert.DnNormIdeal.main_arg3)),
    (θ_run _ _ _).mono (fun r h c => ⟨(h c).1.trans (Cert.DnNormIdeal.Final.final m c), (h c).2⟩) (Cert.DnNormIdeal.Value.run_blocks m g),
    (θ_run _ _ _).mono (fun r h c => ⟨(h c).1.trans (by
      obtain ⟨h0, h1, h2, h3⟩ := hag c
      rw [h0, h1, h2, h3]
      rfl), (h c).2⟩)
      (Cert.DnNormRefIdeal.Value.run (F := Ideal) m' g')⟩

/-- The Norm reference leaves its arguments alone and the machine at rest. -/
theorem normRef : Cert.quiescent_NormRefIdeal := fun m g _ =>
  (θ_run _ _ _).mono (fun r h => ⟨fun c => (h c).2, sem_eq_zero_of_no_sems (by decide) r.2⟩)
    (Cert.NormRefIdeal.Value.run (F := Ideal) m g)

/-- The modulated norm of every row: from equal arguments the kernel's run and the reference's end with equal results. -/
theorem norm : Cert.algebraic_NormIdeal_NormRefIdeal := fun m g m' g' _ hag =>
  ⟨fun c => Cert.NormRefIdeal.Read.val_main_v35 (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)),
    (θ_run _ _ _).mono (fun r h c => ⟨(h c).1.trans (Cert.NormIdeal.Final.final m c), (h c).2⟩) (Cert.NormIdeal.Value.run_blocks m g),
    (θ_run _ _ _).mono (fun r h c => ⟨(h c).1.trans (by
      obtain ⟨h0, h1, h2⟩ := hag c
      rw [h0, h1, h2]
      rfl), (h c).2⟩)
      (Cert.NormRefIdeal.Value.run (F := Ideal) m' g')⟩

/-- The Ctx reference leaves its arguments alone and the machine at rest. -/
theorem ctxRef : Cert.quiescent_CtxRefIdeal := fun m g _ =>
  (θ_run _ _ _).mono (fun r h => ⟨fun c => (h c).2, sem_eq_zero_of_no_sems (by decide) r.2⟩)
    (Cert.CtxRefIdeal.Value.run (F := Ideal) m g)

/-- The attention of the prompt rows: from equal arguments the kernel's run and the reference's end with equal results. -/
theorem ctx : Cert.algebraic_CtxIdeal_CtxRefIdeal := fun m g m' g' _ hag =>
  ⟨fun c => Cert.CtxRefIdeal.Read.val_main_v29 (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)),
    (θ_run _ _ _).mono (fun r h c => ⟨(h c).1.trans (Cert.CtxIdeal.Final.final m c), (h c).2⟩) (Cert.CtxIdeal.Final.named m g),
    (θ_run _ _ _).mono (fun r h c => ⟨(h c).1.trans (by
      obtain ⟨h0, h1⟩ := hag c
      refine (Cert.CtxRefIdeal.Read.val_main_v29_eq m' c).trans ?_
      rw [h0, h1]), (h c).2⟩)
      (Cert.CtxRefIdeal.Value.run (F := Ideal) m' g')⟩

/-- The DnConv reference leaves its arguments alone and the machine at rest. -/
theorem dnConvRef : Cert.quiescent_DnConvRefIdeal := fun m g _ =>
  (θ_run _ _ _).mono (fun r h => ⟨fun c => (h c).2, sem_eq_zero_of_no_sems (by decide) r.2⟩)
    (Cert.DnConvRefIdeal.Value.run (F := Ideal) m g)

/-- The delta layer's depthwise convolution: from equal arguments the kernel's run and the reference's end with equal results. -/
theorem dnConv : Cert.algebraic_DnConvIdeal_DnConvRefIdeal := fun m g m' g' _ hag =>
  ⟨fun c => Cert.DnConvRefIdeal.Read.val_main_v106 (F := Ideal) (m ((c.tc : Thread Cert.DnConvIdeal.nD Cert.DnConvIdeal.τ).loc Cert.DnConvIdeal.main_arg0)) (m ((c.tc : Thread Cert.DnConvIdeal.nD Cert.DnConvIdeal.τ).loc Cert.DnConvIdeal.main_arg1)),
    (θ_run _ _ _).mono (fun r h c => ⟨(h c).1.trans (Cert.DnConvIdeal.Final.final m c), (h c).2⟩) (Cert.DnConvIdeal.Value.run_blocks m g),
    (θ_run _ _ _).mono (fun r h c => ⟨(h c).1.trans (by
      obtain ⟨h0, h1⟩ := hag c
      exact (Cert.DnConvRefIdeal.Read.val_main_v106_eq (StableHlo.launchContents m' c)).trans
        (congrArg₂ (Cert.DnConvRefIdeal.Read.val_main_v106 (F := Ideal)) h0 h1)), (h c).2⟩)
      (Cert.DnConvRefIdeal.Value.run (F := Ideal) m' g')⟩

/-- The Lat reference leaves its arguments alone under the precondition too. -/
theorem latRefPre : Cert.quiescent_LatRefIdeal_pre_latent_finite := fun m g _ => latRef m g trivial

/-- Every claim of this certificate: the frames, the idealizations and the equal values, call by call. -/
theorem claim : Cert.Claim :=
  ⟨Cert.Lat.Gen.facts,
    Cert.LatIdeal.Gen.facts,
    Cert.LatRefIdeal.Gen.facts,
    Cert.Up.Gen.facts,
    Cert.UpIdeal.Gen.facts,
    Cert.UpRefIdeal.Gen.facts,
    Cert.Down.Gen.facts,
    Cert.DownIdeal.Gen.facts,
    Cert.DownRefIdeal.Gen.facts,
    Cert.Qkv.Gen.facts,
    Cert.QkvIdeal.Gen.facts,
    Cert.QkvRefIdeal.Gen.facts,
    Cert.DnIn.Gen.facts,
    Cert.DnInIdeal.Gen.facts,
    Cert.DnInRefIdeal.Gen.facts,
    Cert.DnAb.Gen.facts,
    Cert.DnAbIdeal.Gen.facts,
    Cert.DnAbRefIdeal.Gen.facts,
    Cert.Pw1.Gen.facts,
    Cert.Pw1Ideal.Gen.facts,
    Cert.Pw1RefIdeal.Gen.facts,
    Cert.Pw2.Gen.facts,
    Cert.Pw2Ideal.Gen.facts,
    Cert.Pw2RefIdeal.Gen.facts,
    Cert.AttnOut.Gen.facts,
    Cert.AttnOutIdeal.Gen.facts,
    Cert.AttnOutRefIdeal.Gen.facts,
    Cert.DnOut.Gen.facts,
    Cert.DnOutIdeal.Gen.facts,
    Cert.DnOutRefIdeal.Gen.facts,
    Cert.Fin.Gen.facts,
    Cert.FinIdeal.Gen.facts,
    Cert.FinRefIdeal.Gen.facts,
    Cert.FinS.Gen.facts,
    Cert.FinSIdeal.Gen.facts,
    Cert.FinSRefIdeal.Gen.facts,
    Cert.Ada.Gen.facts,
    Cert.AdaIdeal.Gen.facts,
    Cert.AdaRefIdeal.Gen.facts,
    Cert.Router.Gen.facts,
    Cert.RouterIdeal.Gen.facts,
    Cert.RouterRefIdeal.Gen.facts,
    Cert.Rope.Gen.facts,
    Cert.RopeIdeal.Gen.facts,
    Cert.RopeRefIdeal.Gen.facts,
    Cert.Gates.Gen.facts,
    Cert.GatesIdeal.Gen.facts,
    Cert.GatesRefIdeal.Gen.facts,
    Cert.DnNorm.Gen.facts,
    Cert.DnNormIdeal.Gen.facts,
    Cert.DnNormRefIdeal.Gen.facts,
    Cert.Norm.Gen.facts,
    Cert.NormIdeal.Gen.facts,
    Cert.NormRefIdeal.Gen.facts,
    Cert.Ctx.Gen.facts,
    Cert.CtxIdeal.Gen.facts,
    Cert.CtxRefIdeal.Gen.facts,
    Cert.DnConv.Gen.facts,
    Cert.DnConvIdeal.Gen.facts,
    Cert.DnConvRefIdeal.Gen.facts,
    Cert.LatFinite.preFacts,
    fun m ρ _ => Cert.Lat.Gen.frame m ρ,
    fun m ρ _ => Cert.LatIdeal.Gen.frame m ρ,
    fun m ρ _ => Cert.LatIdeal.Gen.frame m ρ,
    latRef,
    latRefPre,
    fun m ρ _ => Cert.Up.Gen.frame m ρ,
    fun m ρ _ => Cert.UpIdeal.Gen.frame m ρ,
    upRef,
    fun m ρ _ => Cert.Down.Gen.frame m ρ,
    fun m ρ _ => Cert.DownIdeal.Gen.frame m ρ,
    downRef,
    fun m ρ _ => Cert.Qkv.Gen.frame m ρ,
    fun m ρ _ => Cert.QkvIdeal.Gen.frame m ρ,
    qkvRef,
    fun m ρ _ => Cert.DnIn.Gen.frame m ρ,
    fun m ρ _ => Cert.DnInIdeal.Gen.frame m ρ,
    dnInRef,
    fun m ρ _ => Cert.DnAb.Gen.frame m ρ,
    fun m ρ _ => Cert.DnAbIdeal.Gen.frame m ρ,
    dnAbRef,
    fun m ρ _ => Cert.Pw1.Gen.frame m ρ,
    fun m ρ _ => Cert.Pw1Ideal.Gen.frame m ρ,
    pw1Ref,
    fun m ρ _ => Cert.Pw2.Gen.frame m ρ,
    fun m ρ _ => Cert.Pw2Ideal.Gen.frame m ρ,
    pw2Ref,
    fun m ρ _ => Cert.AttnOut.Gen.frame m ρ,
    fun m ρ _ => Cert.AttnOutIdeal.Gen.frame m ρ,
    attnOutRef,
    fun m ρ _ => Cert.DnOut.Gen.frame m ρ,
    fun m ρ _ => Cert.DnOutIdeal.Gen.frame m ρ,
    dnOutRef,
    fun m ρ _ => Cert.Fin.Gen.frame m ρ,
    fun m ρ _ => Cert.FinIdeal.Gen.frame m ρ,
    finRef,
    fun m ρ _ => Cert.FinS.Gen.frame m ρ,
    fun m ρ _ => Cert.FinSIdeal.Gen.frame m ρ,
    finSRef,
    fun m ρ _ => Cert.Ada.Gen.frame m ρ,
    fun m ρ _ => Cert.AdaIdeal.Gen.frame m ρ,
    adaRef,
    fun m ρ _ => Cert.Router.Gen.frame m ρ,
    fun m ρ _ => Cert.RouterIdeal.Gen.frame m ρ,
    routerRef,
    fun m ρ _ => Cert.Rope.Gen.frame m ρ,
    fun m ρ _ => Cert.RopeIdeal.Gen.frame m ρ,
    ropeRef,
    fun m ρ _ => Cert.Gates.Gen.frame m ρ,
    fun m ρ _ => Cert.GatesIdeal.Gen.frame m ρ,
    gatesRef,
    fun m ρ _ => Cert.DnNorm.Gen.frame m ρ,
    fun m ρ _ => Cert.DnNormIdeal.Gen.frame m ρ,
    dnNormRef,
    fun m ρ _ => Cert.Norm.Gen.frame m ρ,
    fun m ρ _ => Cert.NormIdeal.Gen.frame m ρ,
    normRef,
    fun m ρ _ => Cert.Ctx.Gen.frame m ρ,
    fun m ρ _ => Cert.CtxIdeal.Gen.frame m ρ,
    ctxRef,
    fun m ρ _ => Cert.DnConv.Gen.frame m ρ,
    fun m ρ _ => Cert.DnConvIdeal.Gen.frame m ρ,
    dnConvRef,
    IdealRules.named_const.statement Cert.LatIdeal.κ "mask" .f32 0xF149F2CA#32 ⊥ rfl,
    lat,
    trivial,
    up,
    trivial,
    down,
    trivial,
    qkv,
    trivial,
    dnIn,
    trivial,
    dnAb,
    trivial,
    pw1,
    trivial,
    pw2,
    trivial,
    attnOut,
    trivial,
    dnOut,
    trivial,
    fin,
    trivial,
    finS,
    trivial,
    ada,
    trivial,
    router,
    trivial,
    rope,
    trivial,
    gates,
    trivial,
    dnNorm,
    trivial,
    norm,
    trivial,
    ctx,
    trivial,
    dnConv⟩

end Cert.Proof

end
